-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "cut" .f32 0x41880000#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_v22) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8192x4352 : Shape := ⟨2, ![8192, 4352]⟩
abbrev S1x2048x8448 : Shape := ⟨3, ![1, 2048, 8448]⟩
abbrev S1x1024x2048 : Shape := ⟨3, ![1, 1024, 2048]⟩
abbrev S1x2048x2048 : Shape := ⟨3, ![1, 2048, 2048]⟩
abbrev S8192x1024 : Shape := ⟨2, ![8192, 1024]⟩
abbrev S2x16x256x1024 : Shape := ⟨4, ![2, 16, 256, 1024]⟩
abbrev S2x16x1024x256 : Shape := ⟨4, ![2, 16, 1024, 256]⟩
abbrev S2048x8448 : Shape := ⟨2, ![2048, 8448]⟩
abbrev S1024x2048 : Shape := ⟨2, ![1024, 2048]⟩
abbrev S2048x2048 : Shape := ⟨2, ![2048, 2048]⟩
abbrev S2048x4096 : Shape := ⟨2, ![2048, 4096]⟩
abbrev S256x512 : Shape := ⟨2, ![256, 512]⟩
abbrev S4096x512 : Shape := ⟨2, ![4096, 512]⟩
abbrev S1x16x512x256 : Shape := ⟨4, ![1, 16, 512, 256]⟩
abbrev S512x256 : Shape := ⟨2, ![512, 256]⟩
abbrev S16x2048 : Shape := ⟨2, ![16, 2048]⟩
abbrev S32x2048 : Shape := ⟨2, ![32, 2048]⟩
abbrev S256x2048 : Shape := ⟨2, ![256, 2048]⟩
abbrev S1x2048 : Shape := ⟨2, ![1, 2048]⟩
abbrev S256x256 : Shape := ⟨2, ![256, 256]⟩
abbrev S256x1024 : Shape := ⟨2, ![256, 1024]⟩
abbrev S1x1x64x256 : Shape := ⟨4, ![1, 1, 64, 256]⟩
abbrev S64x256 : Shape := ⟨2, ![64, 256]⟩

abbrev nBuf : Space → Nat
  | .hbm => 18
  | .vmem => 30
  | .smem => 0
  | _ => 0

abbrev bufTy : (tb : Table) → Fin (tcTables nBuf tb) → BufTy
  | .hbm, ⟨0, _⟩ => ⟨S8192x4352, .f32⟩
  | .hbm, ⟨1, _⟩ => ⟨S1x2048x8448, .f32⟩
  | .hbm, ⟨2, _⟩ => ⟨S1x1024x2048, .f32⟩
  | .hbm, ⟨3, _⟩ => ⟨S1x1024x2048, .f32⟩
  | .hbm, ⟨4, _⟩ => ⟨S1x2048x2048, .f32⟩
  | .hbm, ⟨5, _⟩ => ⟨S8192x4352, .bf16⟩
  | .hbm, ⟨6, _⟩ => ⟨S8192x1024, .bf16⟩
  | .hbm, ⟨7, _⟩ => ⟨S2x16x256x1024, .bf16⟩
  | .hbm, ⟨8, _⟩ => ⟨S2x16x1024x256, .bf16⟩
  | .hbm, ⟨9, _⟩ => ⟨S2048x8448, .f32⟩
  | .hbm, ⟨10, _⟩ => ⟨S1024x2048, .f32⟩
  | .hbm, ⟨11, _⟩ => ⟨S1024x2048, .f32⟩
  | .hbm, ⟨12, _⟩ => ⟨S2048x2048, .f32⟩
  | .hbm, ⟨13, _⟩ => ⟨S8192x1024, .bf16⟩
  | .hbm, ⟨14, _⟩ => ⟨S2048x4096, .bf16⟩
  | .hbm, ⟨15, _⟩ => ⟨S1024x2048, .bf16⟩
  | .hbm, ⟨16, _⟩ => ⟨S1024x2048, .bf16⟩
  | .hbm, ⟨17, _⟩ => ⟨S2048x2048, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S1x16x512x256, .bf16⟩
  | .local _ .vmem, ⟨5, _⟩ => ⟨S1x16x512x256, .bf16⟩
  | .local _ .vmem, ⟨6, _⟩ => ⟨S512x256, .f32⟩
  | .local _ .vmem, ⟨7, _⟩ => ⟨S512x256, .f32⟩
  | .local _ .vmem, ⟨8, _⟩ => ⟨S16x2048, .f32⟩
  | .local _ .vmem, ⟨9, _⟩ => ⟨S16x2048, .f32⟩
  | .local _ .vmem, ⟨10, _⟩ => ⟨S16x2048, .f32⟩
  | .local _ .vmem, ⟨11, _⟩ => ⟨S16x2048, .f32⟩
  | .local _ .vmem, ⟨12, _⟩ => ⟨S32x2048, .f32⟩
  | .local _ .vmem, ⟨13, _⟩ => ⟨S32x2048, .f32⟩
  | .local _ .vmem, ⟨14, _⟩ => ⟨S256x512, .bf16⟩
  | .local _ .vmem, ⟨15, _⟩ => ⟨S256x512, .bf16⟩
  | .local _ .vmem, ⟨16, _⟩ => ⟨S512x256, .bf16⟩
  | .local _ .vmem, ⟨17, _⟩ => ⟨S512x256, .bf16⟩
  | .local _ .vmem, ⟨18, _⟩ => ⟨S16x2048, .bf16⟩
  | .local _ .vmem, ⟨19, _⟩ => ⟨S16x2048, .bf16⟩
  | .local _ .vmem, ⟨20, _⟩ => ⟨S16x2048, .bf16⟩
  | .local _ .vmem, ⟨21, _⟩ => ⟨S16x2048, .bf16⟩
  | .local _ .vmem, ⟨22, _⟩ => ⟨S32x2048, .bf16⟩
  | .local _ .vmem, ⟨23, _⟩ => ⟨S32x2048, .bf16⟩
  | .local _ .vmem, ⟨24, _⟩ => ⟨S256x2048, .f32⟩
  | .local _ .vmem, ⟨25, _⟩ => ⟨S256x2048, .f32⟩
  | .local _ .vmem, ⟨26, _⟩ => ⟨S256x2048, .bf16⟩
  | .local _ .vmem, ⟨27, _⟩ => ⟨S256x2048, .bf16⟩
  | .local _ .vmem, ⟨28, _⟩ => ⟨S1x2048, .f32⟩
  | .local _ .vmem, ⟨29, _⟩ => ⟨S512x256, .f32⟩
  | _, _ => ⟨S8192x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 2, 16], ![false, false, false]⟩

def k0_cond1 (i : grid0.Coords) : BitVec 1 :=
  let arg2 : BitVec 32 := BitVec.ofNat 32 (i 2).val
  let c2_i32_48 : BitVec 32 := 2#32
  let c0_i32_49 : BitVec 32 := 0#32
  let v115 : BitVec 1 := Scalar.cmpi .eq c2_i32_48 c0_i32_49
  let c1_i32_50 : BitVec 32 := 1#32
  let v116 : BitVec 32 := Scalar.select v115 c1_i32_50 c2_i32_48
  let v117 : BitVec 32 := Scalar.remsi arg2 v116
  let c0_i32_52 : BitVec 32 := 0#32
  let v119 : BitVec 1 := Scalar.cmpi .slt v117 c0_i32_52
  let c0_i32_53 : BitVec 32 := 0#32
  let v120 : BitVec 1 := Scalar.cmpi .slt v116 c0_i32_53
  let v121 : BitVec 1 := Scalar.xori v119 v120
  let c0_i32_51 : BitVec 32 := 0#32
  let v118 : BitVec 1 := Scalar.cmpi .ne v117 c0_i32_51
  let v122 : BitVec 1 := Scalar.andi v121 v118
  let v123 : BitVec 32 := Scalar.addi v117 v116
  let v124 : BitVec 32 := Scalar.select v122 v123 v117
  let c0_i32_54 : BitVec 32 := 0#32
  let v125 : BitVec 1 := Scalar.cmpi .eq v124 c0_i32_54
  let v126 : BitVec 32 := Scalar.extui v125
  let c0_i32_55 : BitVec 32 := 0#32
  let v127 : BitVec 1 := Scalar.cmpi .ne v126 c0_i32_55
  v127

def k0_off1 (i : grid0.Coords) : Fin 2 → Nat :=
  let arg2 : BitVec 32 := BitVec.ofNat 32 (i 2).val
  let c256_i32 : BitVec 32 := 256#32
  let v241 : BitVec 32 := Scalar.muli arg2 c256_i32
  let v242 : Index := Scalar.indexCast v241
  let c0_155 : Index := 0#32
  ![v242.toNat, 0]
def k0_off2 (i : grid0.Coords) : Fin 2 → Nat :=
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c0_i32_162 : BitVec 32 := 0#32
  let v255 : BitVec 32 := Scalar.maxsi v114 c0_i32_162
  let c256_i32_163 : BitVec 32 := 256#32
  let v256 : BitVec 32 := Scalar.muli v255 c256_i32_163
  let v257 : Index := Scalar.indexCast v256
  let c0_164 : Index := 0#32
  ![v257.toNat, 0]
def k0_cond2 (i : grid0.Coords) : BitVec 1 :=
  let arg2 : BitVec 32 := BitVec.ofNat 32 (i 2).val
  let c2_i32_56 : BitVec 32 := 2#32
  let c0_i32_57 : BitVec 32 := 0#32
  let v128 : BitVec 1 := Scalar.cmpi .eq c2_i32_56 c0_i32_57
  let c1_i32_58 : BitVec 32 := 1#32
  let v129 : BitVec 32 := Scalar.select v128 c1_i32_58 c2_i32_56
  let v130 : BitVec 32 := Scalar.remsi arg2 v129
  let c0_i32_60 : BitVec 32 := 0#32
  let v132 : BitVec 1 := Scalar.cmpi .slt v130 c0_i32_60
  let c0_i32_61 : BitVec 32 := 0#32
  let v133 : BitVec 1 := Scalar.cmpi .slt v129 c0_i32_61
  let v134 : BitVec 1 := Scalar.xori v132 v133
  let c0_i32_59 : BitVec 32 := 0#32
  let v131 : BitVec 1 := Scalar.cmpi .ne v130 c0_i32_59
  let v135 : BitVec 1 := Scalar.andi v134 v131
  let v136 : BitVec 32 := Scalar.addi v130 v129
  let v137 : BitVec 32 := Scalar.select v135 v136 v130
  let c1_i32_62 : BitVec 32 := 1#32
  let v138 : BitVec 1 := Scalar.cmpi .eq v137 c1_i32_62
  let v139 : BitVec 32 := Scalar.extui v138
  let c0_i32_63 : BitVec 32 := 0#32
  let v140 : BitVec 1 := Scalar.cmpi .ne v139 c0_i32_63
  v140

def k0_off3 (i : grid0.Coords) : Fin 2 → Nat :=
  let arg2 : BitVec 32 := BitVec.ofNat 32 (i 2).val
  let c256_i32 : BitVec 32 := 256#32
  let v241 : BitVec 32 := Scalar.muli arg2 c256_i32
  let v242 : Index := Scalar.indexCast v241
  let c0_155 : Index := 0#32
  ![v242.toNat, 0]
def k0_off4 (i : grid0.Coords) : Fin 2 → Nat :=
  let arg2 : BitVec 32 := BitVec.ofNat 32 (i 2).val
  let c1_i32_162 : BitVec 32 := 1#32
  let v255 : BitVec 32 := Scalar.subi arg2 c1_i32_162
  let c256_i32_163 : BitVec 32 := 256#32
  let v256 : BitVec 32 := Scalar.muli v255 c256_i32_163
  let v257 : Index := Scalar.indexCast v256
  let c0_164 : Index := 0#32
  ![v257.toNat, 0]
def k0_off5 (i : grid0.Coords) : Fin 2 → Nat :=
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c0_i32_184 : BitVec 32 := 0#32
  let v298 : BitVec 32 := Scalar.maxsi v114 c0_i32_184
  let c256_i32_185 : BitVec 32 := 256#32
  let v299 : BitVec 32 := Scalar.muli v298 c256_i32_185
  let v300 : Index := Scalar.indexCast v299
  let c0_186 : Index := 0#32
  ![v300.toNat, 0]
def k0_off6 (i : grid0.Coords) : Fin 4 → Nat :=
  let c0_193 : Index := 0#32
  let arg2 : BitVec 32 := BitVec.ofNat 32 (i 2).val
  let v313 : Index := Scalar.indexCast arg2
  let c0_194 : Index := 0#32
  let c0_195 : Index := 0#32
  ![0, v313.toNat, 0, 0]
def k0_off7 (i : grid0.Coords) : Fin 4 → Nat :=
  let c0_203 : Index := 0#32
  let arg2 : BitVec 32 := BitVec.ofNat 32 (i 2).val
  let v323 : Index := Scalar.indexCast arg2
  let c64_204 : Index := 64#32
  let c0_205 : Index := 0#32
  ![0, v323.toNat, 64, 0]
def k0_off8 (i : grid0.Coords) : Fin 4 → Nat :=
  let c0_213 : Index := 0#32
  let arg2 : BitVec 32 := BitVec.ofNat 32 (i 2).val
  let v333 : Index := Scalar.indexCast arg2
  let c128_214 : Index := 128#32
  let c0_215 : Index := 0#32
  ![0, v333.toNat, 128, 0]
def k0_off9 (i : grid0.Coords) : Fin 4 → Nat :=
  let c0_223 : Index := 0#32
  let arg2 : BitVec 32 := BitVec.ofNat 32 (i 2).val
  let v343 : Index := Scalar.indexCast arg2
  let c192_224 : Index := 192#32
  let c0_225 : Index := 0#32
  ![0, v343.toNat, 192, 0]
def k0_off10 (i : grid0.Coords) : Fin 4 → Nat :=
  let c0_233 : Index := 0#32
  let arg2 : BitVec 32 := BitVec.ofNat 32 (i 2).val
  let v353 : Index := Scalar.indexCast arg2
  let c256_234 : Index := 256#32
  let c0_235 : Index := 0#32
  ![0, v353.toNat, 256, 0]
def k0_off11 (i : grid0.Coords) : Fin 4 → Nat :=
  let c0_243 : Index := 0#32
  let arg2 : BitVec 32 := BitVec.ofNat 32 (i 2).val
  let v363 : Index := Scalar.indexCast arg2
  let c320_244 : Index := 320#32
  let c0_245 : Index := 0#32
  ![0, v363.toNat, 320, 0]
def k0_off12 (i : grid0.Coords) : Fin 4 → Nat :=
  let c0_253 : Index := 0#32
  let arg2 : BitVec 32 := BitVec.ofNat 32 (i 2).val
  let v373 : Index := Scalar.indexCast arg2
  let c384_254 : Index := 384#32
  let c0_255 : Index := 0#32
  ![0, v373.toNat, 384, 0]
def k0_off13 (i : grid0.Coords) : Fin 4 → Nat :=
  let c0_263 : Index := 0#32
  let arg2 : BitVec 32 := BitVec.ofNat 32 (i 2).val
  let v383 : Index := Scalar.indexCast arg2
  let c448_264 : Index := 448#32
  let c0_265 : Index := 0#32
  ![0, v383.toNat, 448, 0]
@[reducible] def k0_t1_loop (i : grid0.Coords) : Scf.Loop 32 :=
  let c0_i32_71 : BitVec 32 := 0#32
  let arg2 : BitVec 32 := BitVec.ofNat 32 (i 2).val
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_74 : BitVec 32 := 1#32
  ⟨c0_i32_71, v162, c1_i32_74⟩
def k0_off14 (i : grid0.Coords) (k0_t1 : Fin (k0_t1_loop i).trips) : Fin 2 → Nat :=
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let c1_i32_156 : BitVec 32 := 1#32
  let v243 : BitVec 32 := Scalar.subi v242 c1_i32_156
  let c256_i32 : BitVec 32 := 256#32
  let v244 : BitVec 32 := Scalar.muli v243 c256_i32
  let v245 : Index := Scalar.indexCast v244
  let c0_157 : Index := 0#32
  ![v245.toNat, 0]
def k0_off15 (i : grid0.Coords) (k0_t1 : Fin (k0_t1_loop i).trips) : Fin 4 → Nat :=
  let c0_165 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let c1_i32_164 : BitVec 32 := 1#32
  let v258 : BitVec 32 := Scalar.addi v242 c1_i32_164
  let v259 : Index := Scalar.indexCast v258
  let c0_166 : Index := 0#32
  let c0_167 : Index := 0#32
  ![0, v259.toNat, 0, 0]
def k0_off16 (i : grid0.Coords) (k0_t1 : Fin (k0_t1_loop i).trips) : Fin 4 → Nat :=
  let c0_175 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let c1_i32_164 : BitVec 32 := 1#32
  let v258 : BitVec 32 := Scalar.addi v242 c1_i32_164
  let v269 : Index := Scalar.indexCast v258
  let c64_176 : Index := 64#32
  let c0_177 : Index := 0#32
  ![0, v269.toNat, 64, 0]
def k0_off17 (i : grid0.Coords) (k0_t1 : Fin (k0_t1_loop i).trips) : Fin 4 → Nat :=
  let c0_185 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let c1_i32_164 : BitVec 32 := 1#32
  let v258 : BitVec 32 := Scalar.addi v242 c1_i32_164
  let v279 : Index := Scalar.indexCast v258
  let c128_186 : Index := 128#32
  let c0_187 : Index := 0#32
  ![0, v279.toNat, 128, 0]
def k0_off18 (i : grid0.Coords) (k0_t1 : Fin (k0_t1_loop i).trips) : Fin 4 → Nat :=
  let c0_195 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let c1_i32_164 : BitVec 32 := 1#32
  let v258 : BitVec 32 := Scalar.addi v242 c1_i32_164
  let v289 : Index := Scalar.indexCast v258
  let c192_196 : Index := 192#32
  let c0_197 : Index := 0#32
  ![0, v289.toNat, 192, 0]
def k0_off19 (i : grid0.Coords) (k0_t1 : Fin (k0_t1_loop i).trips) : Fin 4 → Nat :=
  let c0_205 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let c1_i32_164 : BitVec 32 := 1#32
  let v258 : BitVec 32 := Scalar.addi v242 c1_i32_164
  let v299 : Index := Scalar.indexCast v258
  let c256_206 : Index := 256#32
  let c0_207 : Index := 0#32
  ![0, v299.toNat, 256, 0]
def k0_off20 (i : grid0.Coords) (k0_t1 : Fin (k0_t1_loop i).trips) : Fin 4 → Nat :=
  let c0_215 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let c1_i32_164 : BitVec 32 := 1#32
  let v258 : BitVec 32 := Scalar.addi v242 c1_i32_164
  let v309 : Index := Scalar.indexCast v258
  let c320_216 : Index := 320#32
  let c0_217 : Index := 0#32
  ![0, v309.toNat, 320, 0]
def k0_off21 (i : grid0.Coords) (k0_t1 : Fin (k0_t1_loop i).trips) : Fin 4 → Nat :=
  let c0_225 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let c1_i32_164 : BitVec 32 := 1#32
  let v258 : BitVec 32 := Scalar.addi v242 c1_i32_164
  let v319 : Index := Scalar.indexCast v258
  let c384_226 : Index := 384#32
  let c0_227 : Index := 0#32
  ![0, v319.toNat, 384, 0]
def k0_off22 (i : grid0.Coords) (k0_t1 : Fin (k0_t1_loop i).trips) : Fin 4 → Nat :=
  let c0_235 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let c1_i32_164 : BitVec 32 := 1#32
  let v258 : BitVec 32 := Scalar.addi v242 c1_i32_164
  let v329 : Index := Scalar.indexCast v258
  let c448_236 : Index := 448#32
  let c0_237 : Index := 0#32
  ![0, v329.toNat, 448, 0]
def k0_off23 (i : grid0.Coords) (k0_t1 : Fin (k0_t1_loop i).trips) : Fin 2 → Nat :=
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let c2_i32_256 : BitVec 32 := 2#32
  let v363 : BitVec 32 := Scalar.subi v242 c2_i32_256
  let c0_i32_257 : BitVec 32 := 0#32
  let v364 : BitVec 32 := Scalar.maxsi v363 c0_i32_257
  let c256_i32_258 : BitVec 32 := 256#32
  let v365 : BitVec 32 := Scalar.muli v364 c256_i32_258
  let v366 : Index := Scalar.indexCast v365
  let c0_259 : Index := 0#32
  ![v366.toNat, 0]
def k0_off24 (i : grid0.Coords) (k0_t1 : Fin (k0_t1_loop i).trips) : Fin 4 → Nat :=
  let c0_266 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let v379 : Index := Scalar.indexCast v242
  let c0_267 : Index := 0#32
  let c0_268 : Index := 0#32
  ![0, v379.toNat, 0, 0]
def k0_off25 (i : grid0.Coords) (k0_t1 : Fin (k0_t1_loop i).trips) : Fin 4 → Nat :=
  let c0_276 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let v389 : Index := Scalar.indexCast v242
  let c64_277 : Index := 64#32
  let c0_278 : Index := 0#32
  ![0, v389.toNat, 64, 0]
def k0_off26 (i : grid0.Coords) (k0_t1 : Fin (k0_t1_loop i).trips) : Fin 4 → Nat :=
  let c0_286 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let v399 : Index := Scalar.indexCast v242
  let c128_287 : Index := 128#32
  let c0_288 : Index := 0#32
  ![0, v399.toNat, 128, 0]
def k0_off27 (i : grid0.Coords) (k0_t1 : Fin (k0_t1_loop i).trips) : Fin 4 → Nat :=
  let c0_296 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let v409 : Index := Scalar.indexCast v242
  let c192_297 : Index := 192#32
  let c0_298 : Index := 0#32
  ![0, v409.toNat, 192, 0]
def k0_off28 (i : grid0.Coords) (k0_t1 : Fin (k0_t1_loop i).trips) : Fin 4 → Nat :=
  let c0_306 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let v419 : Index := Scalar.indexCast v242
  let c256_307 : Index := 256#32
  let c0_308 : Index := 0#32
  ![0, v419.toNat, 256, 0]
def k0_off29 (i : grid0.Coords) (k0_t1 : Fin (k0_t1_loop i).trips) : Fin 4 → Nat :=
  let c0_316 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let v429 : Index := Scalar.indexCast v242
  let c320_317 : Index := 320#32
  let c0_318 : Index := 0#32
  ![0, v429.toNat, 320, 0]
def k0_off30 (i : grid0.Coords) (k0_t1 : Fin (k0_t1_loop i).trips) : Fin 4 → Nat :=
  let c0_326 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let v439 : Index := Scalar.indexCast v242
  let c384_327 : Index := 384#32
  let c0_328 : Index := 0#32
  ![0, v439.toNat, 384, 0]
def k0_off31 (i : grid0.Coords) (k0_t1 : Fin (k0_t1_loop i).trips) : Fin 4 → Nat :=
  let c0_336 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c1_i32_74 : BitVec 32 := 1#32
  let arg21 : BitVec 32 := Scf.iv c0_i32_71 c1_i32_74 k0_t1
  let v241 : BitVec 32 := Scalar.muli c2_i32_155 arg21
  let v242 : BitVec 32 := Scalar.subi v114 v241
  let v449 : Index := Scalar.indexCast v242
  let c448_337 : Index := 448#32
  let c0_338 : Index := 0#32
  ![0, v449.toNat, 448, 0]
@[reducible] def k0_t2_loop (i : grid0.Coords) : Scf.Loop 32 :=
  let c0_i32_71 : BitVec 32 := 0#32
  let arg2 : BitVec 32 := BitVec.ofNat 32 (i 2).val
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let v159 : BitVec 32 := Scalar.addi c0_i32_71 v158
  let c1_i32_75 : BitVec 32 := 1#32
  ⟨v162, v159, c1_i32_75⟩
def k0_off32 (i : grid0.Coords) (k0_t2 : Fin (k0_t2_loop i).trips) : Fin 2 → Nat :=
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let c1_i32_156 : BitVec 32 := 1#32
  let v243 : BitVec 32 := Scalar.subi v242 c1_i32_156
  let c256_i32 : BitVec 32 := 256#32
  let v244 : BitVec 32 := Scalar.muli v243 c256_i32
  let v245 : Index := Scalar.indexCast v244
  let c0_157 : Index := 0#32
  ![v245.toNat, 0]
def k0_off33 (i : grid0.Coords) (k0_t2 : Fin (k0_t2_loop i).trips) : Fin 4 → Nat :=
  let c0_165 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let c1_i32_164 : BitVec 32 := 1#32
  let v258 : BitVec 32 := Scalar.addi v242 c1_i32_164
  let v259 : Index := Scalar.indexCast v258
  let c0_166 : Index := 0#32
  let c0_167 : Index := 0#32
  ![0, v259.toNat, 0, 0]
def k0_off34 (i : grid0.Coords) (k0_t2 : Fin (k0_t2_loop i).trips) : Fin 4 → Nat :=
  let c0_175 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let c1_i32_164 : BitVec 32 := 1#32
  let v258 : BitVec 32 := Scalar.addi v242 c1_i32_164
  let v269 : Index := Scalar.indexCast v258
  let c64_176 : Index := 64#32
  let c0_177 : Index := 0#32
  ![0, v269.toNat, 64, 0]
def k0_off35 (i : grid0.Coords) (k0_t2 : Fin (k0_t2_loop i).trips) : Fin 4 → Nat :=
  let c0_185 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let c1_i32_164 : BitVec 32 := 1#32
  let v258 : BitVec 32 := Scalar.addi v242 c1_i32_164
  let v279 : Index := Scalar.indexCast v258
  let c128_186 : Index := 128#32
  let c0_187 : Index := 0#32
  ![0, v279.toNat, 128, 0]
def k0_off36 (i : grid0.Coords) (k0_t2 : Fin (k0_t2_loop i).trips) : Fin 4 → Nat :=
  let c0_195 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let c1_i32_164 : BitVec 32 := 1#32
  let v258 : BitVec 32 := Scalar.addi v242 c1_i32_164
  let v289 : Index := Scalar.indexCast v258
  let c192_196 : Index := 192#32
  let c0_197 : Index := 0#32
  ![0, v289.toNat, 192, 0]
def k0_off37 (i : grid0.Coords) (k0_t2 : Fin (k0_t2_loop i).trips) : Fin 4 → Nat :=
  let c0_205 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let c1_i32_164 : BitVec 32 := 1#32
  let v258 : BitVec 32 := Scalar.addi v242 c1_i32_164
  let v299 : Index := Scalar.indexCast v258
  let c256_206 : Index := 256#32
  let c0_207 : Index := 0#32
  ![0, v299.toNat, 256, 0]
def k0_off38 (i : grid0.Coords) (k0_t2 : Fin (k0_t2_loop i).trips) : Fin 4 → Nat :=
  let c0_215 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let c1_i32_164 : BitVec 32 := 1#32
  let v258 : BitVec 32 := Scalar.addi v242 c1_i32_164
  let v309 : Index := Scalar.indexCast v258
  let c320_216 : Index := 320#32
  let c0_217 : Index := 0#32
  ![0, v309.toNat, 320, 0]
def k0_off39 (i : grid0.Coords) (k0_t2 : Fin (k0_t2_loop i).trips) : Fin 4 → Nat :=
  let c0_225 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let c1_i32_164 : BitVec 32 := 1#32
  let v258 : BitVec 32 := Scalar.addi v242 c1_i32_164
  let v319 : Index := Scalar.indexCast v258
  let c384_226 : Index := 384#32
  let c0_227 : Index := 0#32
  ![0, v319.toNat, 384, 0]
def k0_off40 (i : grid0.Coords) (k0_t2 : Fin (k0_t2_loop i).trips) : Fin 4 → Nat :=
  let c0_235 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let c1_i32_164 : BitVec 32 := 1#32
  let v258 : BitVec 32 := Scalar.addi v242 c1_i32_164
  let v329 : Index := Scalar.indexCast v258
  let c448_236 : Index := 448#32
  let c0_237 : Index := 0#32
  ![0, v329.toNat, 448, 0]
def k0_off41 (i : grid0.Coords) (k0_t2 : Fin (k0_t2_loop i).trips) : Fin 2 → Nat :=
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let c2_i32_256 : BitVec 32 := 2#32
  let v363 : BitVec 32 := Scalar.subi v242 c2_i32_256
  let c0_i32_257 : BitVec 32 := 0#32
  let v364 : BitVec 32 := Scalar.maxsi v363 c0_i32_257
  let c256_i32_258 : BitVec 32 := 256#32
  let v365 : BitVec 32 := Scalar.muli v364 c256_i32_258
  let v366 : Index := Scalar.indexCast v365
  let c0_259 : Index := 0#32
  ![v366.toNat, 0]
def k0_off42 (i : grid0.Coords) (k0_t2 : Fin (k0_t2_loop i).trips) : Fin 4 → Nat :=
  let c0_266 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let v379 : Index := Scalar.indexCast v242
  let c0_267 : Index := 0#32
  let c0_268 : Index := 0#32
  ![0, v379.toNat, 0, 0]
def k0_off43 (i : grid0.Coords) (k0_t2 : Fin (k0_t2_loop i).trips) : Fin 4 → Nat :=
  let c0_276 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let v389 : Index := Scalar.indexCast v242
  let c64_277 : Index := 64#32
  let c0_278 : Index := 0#32
  ![0, v389.toNat, 64, 0]
def k0_off44 (i : grid0.Coords) (k0_t2 : Fin (k0_t2_loop i).trips) : Fin 4 → Nat :=
  let c0_286 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let v399 : Index := Scalar.indexCast v242
  let c128_287 : Index := 128#32
  let c0_288 : Index := 0#32
  ![0, v399.toNat, 128, 0]
def k0_off45 (i : grid0.Coords) (k0_t2 : Fin (k0_t2_loop i).trips) : Fin 4 → Nat :=
  let c0_296 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let v409 : Index := Scalar.indexCast v242
  let c192_297 : Index := 192#32
  let c0_298 : Index := 0#32
  ![0, v409.toNat, 192, 0]
def k0_off46 (i : grid0.Coords) (k0_t2 : Fin (k0_t2_loop i).trips) : Fin 4 → Nat :=
  let c0_306 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let v419 : Index := Scalar.indexCast v242
  let c256_307 : Index := 256#32
  let c0_308 : Index := 0#32
  ![0, v419.toNat, 256, 0]
def k0_off47 (i : grid0.Coords) (k0_t2 : Fin (k0_t2_loop i).trips) : Fin 4 → Nat :=
  let c0_316 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let v429 : Index := Scalar.indexCast v242
  let c320_317 : Index := 320#32
  let c0_318 : Index := 0#32
  ![0, v429.toNat, 320, 0]
def k0_off48 (i : grid0.Coords) (k0_t2 : Fin (k0_t2_loop i).trips) : Fin 4 → Nat :=
  let c0_326 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let v439 : Index := Scalar.indexCast v242
  let c384_327 : Index := 384#32
  let c0_328 : Index := 0#32
  ![0, v439.toNat, 384, 0]
def k0_off49 (i : grid0.Coords) (k0_t2 : Fin (k0_t2_loop i).trips) : Fin 4 → Nat :=
  let c0_336 : Index := 0#32
  let arg2 : BitVec 32 := BitVec.ofNat 32 (i 2).val
  let c1_i32_41 : BitVec 32 := 1#32
  let v103 : BitVec 32 := Scalar.subi arg2 c1_i32_41
  let c2_i32_42 : BitVec 32 := 2#32
  let c0_i32_43 : BitVec 32 := 0#32
  let v104 : BitVec 1 := Scalar.cmpi .eq c2_i32_42 c0_i32_43
  let c1_i32_44 : BitVec 32 := 1#32
  let v105 : BitVec 32 := Scalar.select v104 c1_i32_44 c2_i32_42
  let v106 : BitVec 32 := Scalar.remsi arg2 v105
  let c0_i32_46 : BitVec 32 := 0#32
  let v108 : BitVec 1 := Scalar.cmpi .slt v106 c0_i32_46
  let c0_i32_47 : BitVec 32 := 0#32
  let v109 : BitVec 1 := Scalar.cmpi .slt v105 c0_i32_47
  let v110 : BitVec 1 := Scalar.xori v108 v109
  let c0_i32_45 : BitVec 32 := 0#32
  let v107 : BitVec 1 := Scalar.cmpi .ne v106 c0_i32_45
  let v111 : BitVec 1 := Scalar.andi v110 v107
  let v112 : BitVec 32 := Scalar.addi v106 v105
  let v113 : BitVec 32 := Scalar.select v111 v112 v106
  let v114 : BitVec 32 := Scalar.subi v103 v113
  let c2_i32_155 : BitVec 32 := 2#32
  let c0_i32_71 : BitVec 32 := 0#32
  let c0_i32_65 : BitVec 32 := 0#32
  let v142 : BitVec 1 := Scalar.cmpi .sgt arg2 c0_i32_65
  let v143 : BitVec 32 := Scalar.extui v142
  let c0_i32_66 : BitVec 32 := 0#32
  let v144 : BitVec 1 := Scalar.cmpi .slt arg2 c0_i32_66
  let v145 : BitVec 32 := Scalar.extui v144
  let v146 : BitVec 32 := Scalar.subi v143 v145
  let c2_i32_64 : BitVec 32 := 2#32
  let c0_i32_67 : BitVec 32 := 0#32
  let v147 : BitVec 1 := Scalar.cmpi .sgt c2_i32_64 c0_i32_67
  let v148 : BitVec 32 := Scalar.extui v147
  let c0_i32_68 : BitVec 32 := 0#32
  let v149 : BitVec 1 := Scalar.cmpi .slt c2_i32_64 c0_i32_68
  let v150 : BitVec 32 := Scalar.extui v149
  let v151 : BitVec 32 := Scalar.subi v148 v150
  let v152 : BitVec 1 := Scalar.cmpi .ne v146 v151
  let v153 : BitVec 32 := Scalar.remsi arg2 c2_i32_64
  let c0_i32_69 : BitVec 32 := 0#32
  let v154 : BitVec 1 := Scalar.cmpi .ne v153 c0_i32_69
  let v155 : BitVec 1 := Scalar.andi v152 v154
  let v141 : BitVec 32 := Scalar.divsi arg2 c2_i32_64
  let c1_i32_70 : BitVec 32 := 1#32
  let v156 : BitVec 32 := Scalar.subi v141 c1_i32_70
  let v157 : BitVec 32 := Scalar.select v155 v156 v141
  let v158 : BitVec 32 := Scalar.subi v157 c0_i32_71
  let c1_i32_73 : BitVec 32 := 1#32
  let v160 : BitVec 32 := Scalar.divsi v158 c1_i32_73
  let v161 : BitVec 32 := Scalar.muli v160 c1_i32_73
  let v162 : BitVec 32 := Scalar.addi c0_i32_71 v161
  let c1_i32_75 : BitVec 32 := 1#32
  let arg21 : BitVec 32 := Scf.iv v162 c1_i32_75 k0_t2
  let v241 : BitVec 32 := Scalar.muli c2_i32_155 arg21
  let v242 : BitVec 32 := Scalar.subi v114 v241
  let v449 : Index := Scalar.indexCast v242
  let c448_337 : Index := 448#32
  let c0_338 : Index := 0#32
  ![0, v449.toNat, 448, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c16_i32_0 : BitVec 32 := 16#32
  let v4 : BitVec 32 := Scalar.divsi v3 c16_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c17_i32 : BitVec 32 := 17#32
  let v31 : BitVec 32 := Scalar.addi c17_i32 v30
  let c0_i32_11 : BitVec 32 := 0#32
  ![v20.toNat, v31.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c16_i32_0 : BitVec 32 := 16#32
  let v4 : BitVec 32 := Scalar.divsi v3 c16_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  ![v20.toNat, v30.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S16x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "cut" => some ⊤
  | _ => none
-- ==== ReferenceIdeal.lean ====
abbrev S8192x4352 : Shape := ⟨2, ![8192, 4352]⟩
abbrev S1x2048x8448 : Shape := ⟨3, ![1, 2048, 8448]⟩
abbrev S1x1024x2048 : Shape := ⟨3, ![1, 1024, 2048]⟩
abbrev S1x2048x2048 : Shape := ⟨3, ![1, 2048, 2048]⟩
abbrev S8192x1024 : Shape := ⟨2, ![8192, 1024]⟩
abbrev S2x4096x16x64 : Shape := ⟨4, ![2, 4096, 16, 64]⟩
abbrev S2x16x4096x4096 : Shape := ⟨4, ![2, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x64x4096 : Shape := ⟨4, ![2, 16, 64, 4096]⟩
abbrev S2048x8448 : Shape := ⟨2, ![2048, 8448]⟩
abbrev S2048x4096 : Shape := ⟨2, ![2048, 4096]⟩
abbrev S1024x2048 : Shape := ⟨2, ![1024, 2048]⟩
abbrev S2048x2048 : Shape := ⟨2, ![2048, 2048]⟩

abbrev nBuf : Space → Nat
  | .hbm => 83
  | .vmem => 0
  | .smem => 0
  | _ => 0

abbrev bufTy : (tb : Table) → Fin (tcTables nBuf tb) → BufTy
  | .hbm, ⟨0, _⟩ => ⟨S8192x4352, .f32⟩
  | .hbm, ⟨1, _⟩ => ⟨S1x2048x8448, .f32⟩
  | .hbm, ⟨2, _⟩ => ⟨S1x1024x2048, .f32⟩
  | .hbm, ⟨3, _⟩ => ⟨S1x1024x2048, .f32⟩
  | .hbm, ⟨4, _⟩ => ⟨S1x2048x2048, .f32⟩
  | .hbm, ⟨5, _⟩ => ⟨S8192x1024, .f32⟩
  | .hbm, ⟨6, _⟩ => ⟨S2x4096x16x64, .f32⟩
  | .hbm, ⟨7, _⟩ => ⟨S8192x1024, .f32⟩
  | .hbm, ⟨8, _⟩ => ⟨S2x4096x16x64, .f32⟩
  | .hbm, ⟨9, _⟩ => ⟨S8192x1024, .f32⟩
  | .hbm, ⟨10, _⟩ => ⟨S2x4096x16x64, .f32⟩
  | .hbm, ⟨11, _⟩ => ⟨S2x16x4096x4096, .f32⟩
  | .hbm, ⟨12, _⟩ => ⟨S_, .f32⟩
  | .hbm, ⟨13, _⟩ => ⟨S2x16x4096x4096, .f32⟩
  | .hbm, ⟨14, _⟩ => ⟨S2x16x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S2x16x4096x4096, .f32⟩
  | .hbm, ⟨22, _⟩ => ⟨S_, .f32⟩
  | .hbm, ⟨23, _⟩ => ⟨S2x16x4096x4096, .f32⟩
  | .hbm, ⟨24, _⟩ => ⟨S2x16x4096x4096, .f32⟩
  | .hbm, ⟨25, _⟩ => ⟨S2x16x4096x4096, .f32⟩
  | .hbm, ⟨26, _⟩ => ⟨S2x16x4096x4096, .f32⟩
  | .hbm, ⟨27, _⟩ => ⟨S2x16x4096x4096, .i1⟩
  | .hbm, ⟨28, _⟩ => ⟨S2x16x4096x4096, .f32⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S2x16x4096x4096, .f32⟩
  | .hbm, ⟨38, _⟩ => ⟨S2x16x4096x4096, .f32⟩
  | .hbm, ⟨39, _⟩ => ⟨S_, .f32⟩
  | .hbm, ⟨40, _⟩ => ⟨S2x16x4096x4096, .f32⟩
  | .hbm, ⟨41, _⟩ => ⟨S2x16x4096x4096, .f32⟩
  | .hbm, ⟨42, _⟩ => ⟨S2x16x4096x4096, .f32⟩
  | .hbm, ⟨43, _⟩ => ⟨S2x16x4096x4096, .f32⟩
  | .hbm, ⟨44, _⟩ => ⟨S2x16x4096x4096, .i1⟩
  | .hbm, ⟨45, _⟩ => ⟨S2x16x4096x4096, .f32⟩
  | .hbm, ⟨46, _⟩ => ⟨S2x16x4096x4096, .f32⟩
  | .hbm, ⟨47, _⟩ => ⟨S2x16x4096x4096, .f32⟩
  | .hbm, ⟨48, _⟩ => ⟨S2x16x4096x4096, .f32⟩
  | .hbm, ⟨49, _⟩ => ⟨S2x16x4096x4096, .f32⟩
  | .hbm, ⟨50, _⟩ => ⟨S2x16x4096x4096, .f32⟩
  | .hbm, ⟨51, _⟩ => ⟨S2x16x4096x4096, .f32⟩
  | .hbm, ⟨52, _⟩ => ⟨S2x16x4096x4096, .f32⟩
  | .hbm, ⟨53, _⟩ => ⟨S2x16x4096x4096, .f32⟩
  | .hbm, ⟨54, _⟩ => ⟨S_, .f32⟩
  | .hbm, ⟨55, _⟩ => ⟨S_, .f32⟩
  | .hbm, ⟨56, _⟩ => ⟨S2x16x4096x4096, .i1⟩
  | .hbm, ⟨57, _⟩ => ⟨S2x16x4096x4096, .f32⟩
  | .hbm, ⟨58, _⟩ => ⟨S2x16x4096x4096, .f32⟩
  | .hbm, ⟨59, _⟩ => ⟨S_, .f32⟩
  | .hbm, ⟨60, _⟩ => ⟨S_, .f32⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S2x16x4096x4096, .f32⟩
  | .hbm, ⟨65, _⟩ => ⟨S_, .f32⟩
  | .hbm, ⟨66, _⟩ => ⟨S_, .f32⟩
  | .hbm, ⟨67, _⟩ => ⟨S2x16x4096x4096, .i1⟩
  | .hbm, ⟨68, _⟩ => ⟨S2x16x4096x4096, .f32⟩
  | .hbm, ⟨69, _⟩ => ⟨S2x16x4096x4096, .f32⟩
  | .hbm, ⟨70, _⟩ => ⟨S2x16x64x4096, .f32⟩
  | .hbm, ⟨71, _⟩ => ⟨S2x4096x16x64, .f32⟩
  | .hbm, ⟨72, _⟩ => ⟨S8192x1024, .f32⟩
  | .hbm, ⟨73, _⟩ => ⟨S8192x1024, .bf16⟩
  | .hbm, ⟨74, _⟩ => ⟨S2048x8448, .f32⟩
  | .hbm, ⟨75, _⟩ => ⟨S2048x4096, .f32⟩
  | .hbm, ⟨76, _⟩ => ⟨S2048x4096, .bf16⟩
  | .hbm, ⟨77, _⟩ => ⟨S1024x2048, .f32⟩
  | .hbm, ⟨78, _⟩ => ⟨S1024x2048, .bf16⟩
  | .hbm, ⟨79, _⟩ => ⟨S1024x2048, .f32⟩
  | .hbm, ⟨80, _⟩ => ⟨S1024x2048, .bf16⟩
  | .hbm, ⟨81, _⟩ => ⟨S2048x2048, .f32⟩
  | .hbm, ⟨82, _⟩ => ⟨S2048x2048, .bf16⟩
  | _, _ => ⟨S8192x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v15 : Ref sig .tc := ⟨.hbm, 36, rfl⟩
abbrev main_v16 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v17 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v18 : Ref sig .tc := ⟨.hbm, 58, rfl⟩
abbrev main_call3_cst : Ref sig .tc := ⟨.hbm, 59, rfl⟩
abbrev main_call3_v0 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩

abbrev nD : Nat := 1
abbrev τ : Topo := Topo.v7x

variable {F : FTy → Type} [FloatOps F]
-- ==== Kernel2.lean ====
abbrev S8192x2048 : Shape := ⟨2, ![8192, 2048]⟩
abbrev S8192x5632 : Shape := ⟨2, ![8192, 5632]⟩
abbrev S1x5632x2048 : Shape := ⟨3, ![1, 5632, 2048]⟩
abbrev S2048 : Shape := ⟨1, ![2048]⟩
abbrev S5632x2048 : Shape := ⟨2, ![5632, 2048]⟩
abbrev S1x2048 : Shape := ⟨2, ![1, 2048]⟩
abbrev S256x2048 : Shape := ⟨2, ![256, 2048]⟩
abbrev S256x5632 : Shape := ⟨2, ![256, 5632]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S1x5632x2048, .f32⟩
  | .hbm, ⟨3, _⟩ => ⟨S2048, .f32⟩
  | .hbm, ⟨4, _⟩ => ⟨S8192x5632, .bf16⟩
  | .hbm, ⟨5, _⟩ => ⟨S5632x2048, .f32⟩
  | .hbm, ⟨6, _⟩ => ⟨S5632x2048, .bf16⟩
  | .hbm, ⟨7, _⟩ => ⟨S1x2048, .f32⟩
  | .hbm, ⟨8, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x5632, .bf16⟩
  | .local _ .vmem, ⟨3, _⟩ => ⟨S256x5632, .bf16⟩
  | .local _ .vmem, ⟨4, _⟩ => ⟨S5632x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8192x2048 : Shape := ⟨2, ![8192, 2048]⟩
abbrev S8192x5632 : Shape := ⟨2, ![8192, 5632]⟩
abbrev S1x5632x2048 : Shape := ⟨3, ![1, 5632, 2048]⟩
abbrev S2048 : Shape := ⟨1, ![2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S1x5632x2048, .f32⟩
  | .hbm, ⟨3, _⟩ => ⟨S2048, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel3.lean ====
abbrev S8192x2048 : Shape := ⟨2, ![8192, 2048]⟩
abbrev S1x2048x8448 : Shape := ⟨3, ![1, 2048, 8448]⟩
abbrev S8192x1024 : Shape := ⟨2, ![8192, 1024]⟩
abbrev S1x1024x2048 : Shape := ⟨3, ![1, 1024, 2048]⟩
abbrev S2048x8448 : Shape := ⟨2, ![2048, 8448]⟩
abbrev S2048x4096 : Shape := ⟨2, ![2048, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 17
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048x8448, .f32⟩
  | .hbm, ⟨2, _⟩ => ⟨S8192x1024, .f32⟩
  | .hbm, ⟨3, _⟩ => ⟨S1x1024x2048, .f32⟩
  | .hbm, ⟨4, _⟩ => ⟨S8192x1024, .f32⟩
  | .hbm, ⟨5, _⟩ => ⟨S1x1024x2048, .f32⟩
  | .hbm, ⟨6, _⟩ => ⟨S2048x8448, .f32⟩
  | .hbm, ⟨7, _⟩ => ⟨S2048x4096, .f32⟩
  | .hbm, ⟨8, _⟩ => ⟨S2048x4096, .bf16⟩
  | .hbm, ⟨9, _⟩ => ⟨S8192x2048, .bf16⟩
  | .hbm, ⟨10, _⟩ => ⟨S8192x1024, .bf16⟩
  | .hbm, ⟨11, _⟩ => ⟨S1024x2048, .f32⟩
  | .hbm, ⟨12, _⟩ => ⟨S1024x2048, .bf16⟩
  | .hbm, ⟨13, _⟩ => ⟨S8192x1024, .bf16⟩
  | .hbm, ⟨14, _⟩ => ⟨S1024x2048, .f32⟩
  | .hbm, ⟨15, _⟩ => ⟨S1024x2048, .bf16⟩
  | .hbm, ⟨16, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8192x2048 : Shape := ⟨2, ![8192, 2048]⟩
abbrev S1x2048x8448 : Shape := ⟨3, ![1, 2048, 8448]⟩
abbrev S8192x1024 : Shape := ⟨2, ![8192, 1024]⟩
abbrev S1x1024x2048 : Shape := ⟨3, ![1, 1024, 2048]⟩
abbrev S2048x8448 : Shape := ⟨2, ![2048, 8448]⟩
abbrev S2048x2048 : Shape := ⟨2, ![2048, 2048]⟩
abbrev S1024x2048 : Shape := ⟨2, ![1024, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x8448, .f32⟩
  | .hbm, ⟨2, _⟩ => ⟨S8192x1024, .f32⟩
  | .hbm, ⟨3, _⟩ => ⟨S1x1024x2048, .f32⟩
  | .hbm, ⟨4, _⟩ => ⟨S8192x1024, .f32⟩
  | .hbm, ⟨5, _⟩ => ⟨S1x1024x2048, .f32⟩
  | .hbm, ⟨6, _⟩ => ⟨S2048x8448, .f32⟩
  | .hbm, ⟨7, _⟩ => ⟨S2048x2048, .f32⟩
  | .hbm, ⟨8, _⟩ => ⟨S8192x2048, .f32⟩
  | .hbm, ⟨9, _⟩ => ⟨S2048x8448, .f32⟩
  | .hbm, ⟨10, _⟩ => ⟨S2048x2048, .f32⟩
  | .hbm, ⟨11, _⟩ => ⟨S8192x2048, .f32⟩
  | .hbm, ⟨12, _⟩ => ⟨S1024x2048, .f32⟩
  | .hbm, ⟨13, _⟩ => ⟨S8192x2048, .f32⟩
  | .hbm, ⟨14, _⟩ => ⟨S1024x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel4.lean ====
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048x2048, .f32⟩
  | .hbm, ⟨3, _⟩ => ⟨S1x2048, .f32⟩
  | .hbm, ⟨4, _⟩ => ⟨S8192x2048, .bf16⟩
  | .hbm, ⟨5, _⟩ => ⟨S2048x2048, .f32⟩
  | .hbm, ⟨6, _⟩ => ⟨S2048x2048, .bf16⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048x2048, .f32⟩
  | .hbm, ⟨3, _⟩ => ⟨S1x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S8192x2048 : Shape := ⟨2, ![8192, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S8192x5632 : Shape := ⟨2, ![8192, 5632]⟩
abbrev S2048x2048 : Shape := ⟨2, ![2048, 2048]⟩
abbrev S2048x512 : Shape := ⟨2, ![2048, 512]⟩
abbrev S3x512 : Shape := ⟨2, ![3, 512]⟩
abbrev S1x512 : Shape := ⟨2, ![1, 512]⟩
abbrev S128x2048 : Shape := ⟨2, ![128, 2048]⟩
abbrev S2056x512 : Shape := ⟨2, ![2056, 512]⟩
abbrev S8x512 : Shape := ⟨2, ![8, 512]⟩
abbrev S256x2048 : Shape := ⟨2, ![256, 2048]⟩
abbrev S256x512 : Shape := ⟨2, ![256, 512]⟩
abbrev S264x512 : Shape := ⟨2, ![264, 512]⟩

abbrev nBuf : Space → Nat
  | .hbm => 13
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S1x2048x11264, .f32⟩
  | .hbm, ⟨2, _⟩ => ⟨S1x3x11264, .f32⟩
  | .hbm, ⟨3, _⟩ => ⟨S1x11264, .f32⟩
  | .hbm, ⟨4, _⟩ => ⟨S1x5632x2048, .f32⟩
  | .hbm, ⟨5, _⟩ => ⟨S8192x2048, .bf16⟩
  | .hbm, ⟨6, _⟩ => ⟨S2048x11264, .f32⟩
  | .hbm, ⟨7, _⟩ => ⟨S3x11264, .f32⟩
  | .hbm, ⟨8, _⟩ => ⟨S11264, .f32⟩
  | .hbm, ⟨9, _⟩ => ⟨S1x11264, .f32⟩
  | .hbm, ⟨10, _⟩ => ⟨S5632x2048, .f32⟩
  | .hbm, ⟨11, _⟩ => ⟨S8192x5632, .bf16⟩
  | .hbm, ⟨12, _⟩ => ⟨S5632x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S128x2048, .f32⟩
  | .local _ .vmem, ⟨15, _⟩ => ⟨S128x2048, .f32⟩
  | .local _ .vmem, ⟨16, _⟩ => ⟨S2048x512, .bf16⟩
  | .local _ .vmem, ⟨17, _⟩ => ⟨S2048x512, .bf16⟩
  | .local _ .vmem, ⟨18, _⟩ => ⟨S128x2048, .bf16⟩
  | .local _ .vmem, ⟨19, _⟩ => ⟨S128x2048, .bf16⟩
  | .local _ .vmem, ⟨20, _⟩ => ⟨S2056x512, .f32⟩
  | .local _ .vmem, ⟨21, _⟩ => ⟨S2056x512, .f32⟩
  | .local _ .vmem, ⟨22, _⟩ => ⟨S2048x512, .bf16⟩
  | .local _ .vmem, ⟨23, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S8192x2048 : Shape := ⟨2, ![8192, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S2048x11264 : Shape := ⟨2, ![2048, 11264]⟩
abbrev S8192x11264 : Shape := ⟨2, ![8192, 11264]⟩
abbrev S2x4096x11264 : Shape := ⟨3, ![2, 4096, 11264]⟩
abbrev S_ : Shape := ⟨0, ![]⟩
abbrev S2x4098x11264 : Shape := ⟨3, ![2, 4098, 11264]⟩
abbrev S11264 : Shape := ⟨1, ![11264]⟩
abbrev S3x11264 : Shape := ⟨2, ![3, 11264]⟩
abbrev S1x1x11264 : Shape := ⟨3, ![1, 1, 11264]⟩
abbrev S2x4096x5632 : Shape := ⟨3, ![2, 4096, 5632]⟩
abbrev S8192x5632 : Shape := ⟨2, ![8192, 5632]⟩
abbrev S5632x2048 : Shape := ⟨2, ![5632, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x11264, .f32⟩
  | .hbm, ⟨2, _⟩ => ⟨S1x3x11264, .f32⟩
  | .hbm, ⟨3, _⟩ => ⟨S1x11264, .f32⟩
  | .hbm, ⟨4, _⟩ => ⟨S1x5632x2048, .f32⟩
  | .hbm, ⟨5, _⟩ => ⟨S2048x11264, .f32⟩
  | .hbm, ⟨6, _⟩ => ⟨S8192x11264, .f32⟩
  | .hbm, ⟨7, _⟩ => ⟨S2x4096x11264, .f32⟩
  | .hbm, ⟨8, _⟩ => ⟨S_, .i32⟩
  | .hbm, ⟨9, _⟩ => ⟨S_, .f32⟩
  | .hbm, ⟨10, _⟩ => ⟨S2x4098x11264, .f32⟩
  | .hbm, ⟨11, _⟩ => ⟨S11264, .f32⟩
  | .hbm, ⟨12, _⟩ => ⟨S3x11264, .f32⟩
  | .hbm, ⟨13, _⟩ => ⟨S1x11264, .f32⟩
  | .hbm, ⟨14, _⟩ => ⟨S11264, .f32⟩
  | .hbm, ⟨15, _⟩ => ⟨S2x4096x11264, .f32⟩
  | .hbm, ⟨16, _⟩ => ⟨S1x1x11264, .f32⟩
  | .hbm, ⟨17, _⟩ => ⟨S2x4096x11264, .f32⟩
  | .hbm, ⟨18, _⟩ => ⟨S2x4096x11264, .f32⟩
  | .hbm, ⟨19, _⟩ => ⟨S_, .f32⟩
  | .hbm, ⟨20, _⟩ => ⟨S2x4096x11264, .f32⟩
  | .hbm, ⟨21, _⟩ => ⟨S2x4096x11264, .f32⟩
  | .hbm, ⟨22, _⟩ => ⟨S3x11264, .f32⟩
  | .hbm, ⟨23, _⟩ => ⟨S1x11264, .f32⟩
  | .hbm, ⟨24, _⟩ => ⟨S11264, .f32⟩
  | .hbm, ⟨25, _⟩ => ⟨S2x4096x11264, .f32⟩
  | .hbm, ⟨26, _⟩ => ⟨S1x1x11264, .f32⟩
  | .hbm, ⟨27, _⟩ => ⟨S2x4096x11264, .f32⟩
  | .hbm, ⟨28, _⟩ => ⟨S2x4096x11264, .f32⟩
  | .hbm, ⟨29, _⟩ => ⟨S2x4096x11264, .f32⟩
  | .hbm, ⟨30, _⟩ => ⟨S3x11264, .f32⟩
  | .hbm, ⟨31, _⟩ => ⟨S1x11264, .f32⟩
  | .hbm, ⟨32, _⟩ => ⟨S11264, .f32⟩
  | .hbm, ⟨33, _⟩ => ⟨S2x4096x11264, .f32⟩
  | .hbm, ⟨34, _⟩ => ⟨S1x1x11264, .f32⟩
  | .hbm, ⟨35, _⟩ => ⟨S2x4096x11264, .f32⟩
  | .hbm, ⟨36, _⟩ => ⟨S2x4096x11264, .f32⟩
  | .hbm, ⟨37, _⟩ => ⟨S2x4096x11264, .f32⟩
  | .hbm, ⟨38, _⟩ => ⟨S1x1x11264, .f32⟩
  | .hbm, ⟨39, _⟩ => ⟨S2x4096x11264, .f32⟩
  | .hbm, ⟨40, _⟩ => ⟨S2x4096x11264, .f32⟩
  | .hbm, ⟨41, _⟩ => ⟨S2x4096x5632, .f32⟩
  | .hbm, ⟨42, _⟩ => ⟨S2x4096x5632, .f32⟩
  | .hbm, ⟨43, _⟩ => ⟨S2x4096x5632, .f32⟩
  | .hbm, ⟨44, _⟩ => ⟨S2x4096x5632, .f32⟩
  | .hbm, ⟨45, _⟩ => ⟨S_, .f32⟩
  | .hbm, ⟨46, _⟩ => ⟨S2x4096x5632, .f32⟩
  | .hbm, ⟨47, _⟩ => ⟨S2x4096x5632, .f32⟩
  | .hbm, ⟨48, _⟩ => ⟨S_, .f32⟩
  | .hbm, ⟨49, _⟩ => ⟨S2x4096x5632, .f32⟩
  | .hbm, ⟨50, _⟩ => ⟨S2x4096x5632, .f32⟩
  | .hbm, ⟨51, _⟩ => ⟨S2x4096x5632, .f32⟩
  | .hbm, ⟨52, _⟩ => ⟨S2x4096x5632, .f32⟩
  | .hbm, ⟨53, _⟩ => ⟨S8192x5632, .f32⟩
  | .hbm, ⟨54, _⟩ => ⟨S8192x5632, .bf16⟩
  | .hbm, ⟨55, _⟩ => ⟨S5632x2048, .f32⟩
  | .hbm, ⟨56, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_0 : Ref sig .tc := ⟨.hbm, 45, rfl⟩
abbrev main_v37 : Ref sig .tc := ⟨.hbm, 46, rfl⟩
abbrev main_v38 : Ref sig .tc := ⟨.hbm, 47, rfl⟩
abbrev main_cst_1 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== Kernel6.lean ====
abbrev S8192x2048 : Shape := ⟨2, ![8192, 2048]⟩
abbrev S1x2048 : Shape := ⟨2, ![1, 2048]⟩
abbrev S1x2048x8448 : Shape := ⟨3, ![1, 2048, 8448]⟩
abbrev S2048 : Shape := ⟨1, ![2048]⟩
abbrev S2048x8448 : Shape := ⟨2, ![2048, 8448]⟩
abbrev S2048x4352 : Shape := ⟨2, ![2048, 4352]⟩
abbrev S8192x4352 : Shape := ⟨2, ![8192, 4352]⟩
abbrev S2x16x1024x256 : Shape := ⟨4, ![2, 16, 1024, 256]⟩
abbrev S512x2048 : Shape := ⟨2, ![512, 2048]⟩
abbrev S512x4352 : Shape := ⟨2, ![512, 4352]⟩
abbrev S1x2x1024x256 : Shape := ⟨4, ![1, 2, 1024, 256]⟩
abbrev S512 : Shape := ⟨1, ![512]⟩
abbrev S512x1 : Shape := ⟨2, ![512, 1]⟩
abbrev S512x1024 : Shape := ⟨2, ![512, 1024]⟩
abbrev S1024x512 : Shape := ⟨2, ![1024, 512]⟩
abbrev S1024x256 : Shape := ⟨2, ![1024, 256]⟩
abbrev S1x1x1024x256 : Shape := ⟨4, ![1, 1, 1024, 256]⟩

abbrev nBuf : Space → Nat
  | .hbm => 11
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x8448, .f32⟩
  | .hbm, ⟨3, _⟩ => ⟨S2048, .f32⟩
  | .hbm, ⟨4, _⟩ => ⟨S1x2048, .f32⟩
  | .hbm, ⟨5, _⟩ => ⟨S2048x8448, .f32⟩
  | .hbm, ⟨6, _⟩ => ⟨S2048x4352, .f32⟩
  | .hbm, ⟨7, _⟩ => ⟨S2048x4352, .bf16⟩
  | .hbm, ⟨8, _⟩ => ⟨S8192x2048, .bf16⟩
  | .hbm, ⟨9, _⟩ => ⟨S8192x4352, .bf16⟩
  | .hbm, ⟨10, _⟩ => ⟨S2x16x1024x256, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4352, .bf16⟩
  | .local _ .vmem, ⟨4, _⟩ => ⟨S512x2048, .bf16⟩
  | .local _ .vmem, ⟨5, _⟩ => ⟨S512x2048, .bf16⟩
  | .local _ .vmem, ⟨6, _⟩ => ⟨S512x4352, .bf16⟩
  | .local _ .vmem, ⟨7, _⟩ => ⟨S512x4352, .bf16⟩
  | .local _ .vmem, ⟨8, _⟩ => ⟨S1x2x1024x256, .bf16⟩
  | .local _ .vmem, ⟨9, _⟩ => ⟨S1x2x1024x256, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4352 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8192x2048 : Shape := ⟨2, ![8192, 2048]⟩
abbrev S1x2048 : Shape := ⟨2, ![1, 2048]⟩
abbrev S1x2048x8448 : Shape := ⟨3, ![1, 2048, 8448]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x8448 : Shape := ⟨2, ![2048, 8448]⟩
abbrev S2048x4352 : Shape := ⟨2, ![2048, 4352]⟩
abbrev S8192x4352 : Shape := ⟨2, ![8192, 4352]⟩
abbrev S8192x1024 : Shape := ⟨2, ![8192, 1024]⟩
abbrev S2x16x256x1024 : Shape := ⟨4, ![2, 16, 256, 1024]⟩
abbrev S2x16x1024x256 : Shape := ⟨4, ![2, 16, 1024, 256]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x8448, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S2048x8448, .f32⟩
  | .hbm, ⟨21, _⟩ => ⟨S2048x4352, .f32⟩
  | .hbm, ⟨22, _⟩ => ⟨S8192x4352, .f32⟩
  | .hbm, ⟨23, _⟩ => ⟨S8192x1024, .f32⟩
  | .hbm, ⟨24, _⟩ => ⟨S2x16x256x1024, .f32⟩
  | .hbm, ⟨25, _⟩ => ⟨S8192x2048, .bf16⟩
  | .hbm, ⟨26, _⟩ => ⟨S8192x4352, .bf16⟩
  | .hbm, ⟨27, _⟩ => ⟨S2x16x1024x256, .f32⟩
  | .hbm, ⟨28, _⟩ => ⟨S2x16x1024x256, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.Blocks.lean ====
/-
  What one grid point of the stick-breaking attention computes, as functions of vectors alone: no memory, no views.

  A grid point takes a block of 256 queries of one batch row and eight heads.  It walks the key blocks from the
  diagonal one, block `q`, down to block 0, two at a time, and keeps four running vectors: the scores `za` of the next
  block, the weights `wb` of the block whose values are still to be added, the sum `c` of the softplus terms of all
  the keys seen so far, and the accumulator `a`.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.Pipeline.ReadBack
public import Idealize.ShloMosaic.Lib.Pointwise

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.ShloMosaic.View (ld canon)

variable {F : FTy → Type} [FloatOps F] [Named F]

/-! ## The blocks of the operands -/

/-- Key block `j`: rows `256 j … 256 j + 255` of the keys. -/
def keyB (K : Vec F S4096x512 .bf16) (j : ℕ) : Vec F S256x512 .bf16 :=
  fun y => K (ix2 (n0 := 4096) (n1 := 512) ⟨(256 * j + (y 0).val) % 4096, Nat.mod_lt _ (by decide)⟩ (y 1))

/-- The values of key block `j`, transposed, for head `h` of the eight. -/
def valB (V : Vec F S1x16x512x256 .bf16) (j h : ℕ) : Vec F S1x1x64x256 .bf16 :=
  fun y => V (ix4 (n0 := 1) (n1 := 16) (n2 := 512) (n3 := 256) 0 ⟨j % 16, Nat.mod_lt _ (by decide)⟩
    ⟨(64 * h + (y 2).val) % 512, Nat.mod_lt _ (by decide)⟩ (y 3))

/-! ## The four operations -/

/-- The scores of one key block for all eight heads: four heads a stack, the two stacks side by side. -/
def scoreF (q0 q1 : FVec F S256x1024 .bf16) (kb : Vec F S256x512 .bf16) : Vec F S256x2048 .f32 :=
  canon [⟨Rect.unit (s := S256x2048) ![0, 1024] S256x1024.size inb_S256x2048_S256x1024_0_1024, k0_pay5 q1 kb⟩,
    ⟨Rect.unit (s := S256x2048) ![0, 0] S256x1024.size inb_S256x2048_S256x1024_0_0, k0_pay4 q0 kb⟩]

/-- The weights of a block from its scores `z` and the carried sum `c`. -/
def weightF (incl : FVec F S256x256 .bf16) (z : Vec F S256x2048 .f32) (c : Vec F S1x2048 .f32) : Vec F S256x2048 .bf16 := k0_pay50 incl z c

/-- The carried sum after a block. -/
def carryF (incl : FVec F S256x256 .bf16) (z : Vec F S256x2048 .f32) (c : Vec F S1x2048 .f32) : Vec F S1x2048 .f32 := k0_pay51 incl z c

/-- The same two on the diagonal block, under the causal mask. -/
def weightM (incl : FVec F S256x256 .bf16) (mask : IVec S256x2048 1) (z : Vec F S256x2048 .f32) (c : Vec F S1x2048 .f32) : Vec F S256x2048 .bf16 :=
  k0_pay112 incl mask z c (k0_pay9 z) (k0_pay10 z)

@[inherit_doc weightM]
def carryM (incl : FVec F S256x256 .bf16) (mask : IVec S256x2048 1) (z : Vec F S256x2048 .f32) (c : Vec F S1x2048 .f32) : Vec F S1x2048 .f32 :=
  k0_pay113 incl mask z c (k0_pay9 z) (k0_pay10 z)

/-- The accumulator with one block's values added under the weights `w`, head by head. -/
def addF (V : Vec F S1x16x512x256 .bf16) (j : ℕ) (w : Vec F S256x2048 .bf16) (A : Vec F S512x256 .f32) : Vec F S512x256 .f32 :=
  canon [
    ⟨Rect.unit (s := S512x256) ![448, 0] S64x256.size inb_S512x256_S64x256_448_0, k0_pay40 (valB V j 7) (ld A (Rect.unit (s := S512x256) ![448, 0] S64x256.size inb_S512x256_S64x256_448_0)) (ld w (Rect.unit (s := S256x2048) ![0, 1792] S256x256.size inb_S256x2048_S256x256_0_1792))⟩,
    ⟨Rect.unit (s := S512x256) ![384, 0] S64x256.size inb_S512x256_S64x256_384_0, k0_pay40 (valB V j 6) (ld A (Rect.unit (s := S512x256) ![384, 0] S64x256.size inb_S512x256_S64x256_384_0)) (ld w (Rect.unit (s := S256x2048) ![0, 1536] S256x256.size inb_S256x2048_S256x256_0_1536))⟩,
    ⟨Rect.unit (s := S512x256) ![320, 0] S64x256.size inb_S512x256_S64x256_320_0, k0_pay40 (valB V j 5) (ld A (Rect.unit (s := S512x256) ![320, 0] S64x256.size inb_S512x256_S64x256_320_0)) (ld w (Rect.unit (s := S256x2048) ![0, 1280] S256x256.size inb_S256x2048_S256x256_0_1280))⟩,
    ⟨Rect.unit (s := S512x256) ![256, 0] S64x256.size inb_S512x256_S64x256_256_0, k0_pay40 (valB V j 4) (ld A (Rect.unit (s := S512x256) ![256, 0] S64x256.size inb_S512x256_S64x256_256_0)) (ld w (Rect.unit (s := S256x2048) ![0, 1024] S256x256.size inb_S256x2048_S256x256_0_1024))⟩,
    ⟨Rect.unit (s := S512x256) ![192, 0] S64x256.size inb_S512x256_S64x256_192_0, k0_pay40 (valB V j 3) (ld A (Rect.unit (s := S512x256) ![192, 0] S64x256.size inb_S512x256_S64x256_192_0)) (ld w (Rect.unit (s := S256x2048) ![0, 768] S256x256.size inb_S256x2048_S256x256_0_768))⟩,
    ⟨Rect.unit (s := S512x256) ![128, 0] S64x256.size inb_S512x256_S64x256_128_0, k0_pay40 (valB V j 2) (ld A (Rect.unit (s := S512x256) ![128, 0] S64x256.size inb_S512x256_S64x256_128_0)) (ld w (Rect.unit (s := S256x2048) ![0, 512] S256x256.size inb_S256x2048_S256x256_0_512))⟩,
    ⟨Rect.unit (s := S512x256) ![64, 0] S64x256.size inb_S512x256_S64x256_64_0, k0_pay40 (valB V j 1) (ld A (Rect.unit (s := S512x256) ![64, 0] S64x256.size inb_S512x256_S64x256_64_0)) (ld w (Rect.unit (s := S256x2048) ![0, 256] S256x256.size inb_S256x2048_S256x256_0_256))⟩,
    ⟨Rect.unit (s := S512x256) ![0, 0] S64x256.size inb_S512x256_S64x256_0_0, k0_pay40 (valB V j 0) (ld A (Rect.unit (s := S512x256) ![0, 0] S64x256.size inb_S512x256_S64x256_0_0)) (ld w (Rect.unit (s := S256x2048) ![0, 0] S256x256.size inb_S256x2048_S256x256_0_0))⟩]

/-! ## The walk over the blocks -/

/-- What is kept between two pairs of blocks. -/
structure Walk (F : FTy → Type) where
  za : Vec F S256x2048 .f32
  wb : Vec F S256x2048 .bf16
  c : Vec F S1x2048 .f32
  a : Vec F S512x256 .f32

/-- One pair: on entry `za` holds the scores of block `2 n - 1` and `wb` the weights of block `2 n`; on exit the same
    for `n - 1` (at the end the scores of block 0, which nothing reads). -/
def pairF (K : Vec F S4096x512 .bf16) (V : Vec F S1x16x512x256 .bf16) (q0 q1 : FVec F S256x1024 .bf16) (incl : FVec F S256x256 .bf16)
    (n : ℕ) (s : Walk F) : Walk F where
  za := scoreF q0 q1 (keyB K (2 * n - 3))
  wb := weightF incl (scoreF q0 q1 (keyB K (2 * n - 2))) (carryF incl s.za s.c)
  c := carryF incl (scoreF q0 q1 (keyB K (2 * n - 2))) (carryF incl s.za s.c)
  a := addF V (2 * n - 1) (weightF incl s.za s.c) (addF V (2 * n) s.wb s.a)

/-- The walk after `k` pairs, of `m` in all. -/
def walkF (K : Vec F S4096x512 .bf16) (V : Vec F S1x16x512x256 .bf16) (q0 q1 : FVec F S256x1024 .bf16) (incl : FVec F S256x256 .bf16)
    (m : ℕ) (s : Walk F) : ℕ → Walk F
  | 0 => s
  | k + 1 => pairF K V q0 q1 incl (m - k) (walkF K V q0 q1 incl m s k)

/-- Before the first pair, at an even query block: the diagonal block's weights are at hand. -/
def evenF (K : Vec F S4096x512 .bf16) (q0 q1 : FVec F S256x1024 .bf16) (incl : FVec F S256x256 .bf16) (mask : IVec S256x2048 1) (q : ℕ) : Walk F where
  za := scoreF q0 q1 (keyB K (q - 1))
  wb := weightM incl mask (scoreF q0 q1 (keyB K q)) k0_pay109
  c := carryM incl mask (scoreF q0 q1 (keyB K q)) k0_pay109
  a := k0_pay110

/-- Before the first pair, at an odd query block: the diagonal block is done, the weights of the one before it at hand. -/
def oddF (K : Vec F S4096x512 .bf16) (V : Vec F S1x16x512x256 .bf16) (q0 q1 : FVec F S256x1024 .bf16) (incl : FVec F S256x256 .bf16) (mask : IVec S256x2048 1)
    (q : ℕ) : Walk F where
  za := scoreF q0 q1 (keyB K (q - 2))
  wb := weightF incl (scoreF q0 q1 (keyB K (q - 1))) (carryM incl mask (scoreF q0 q1 (keyB K q)) k0_pay109)
  c := carryF incl (scoreF q0 q1 (keyB K (q - 1))) (carryM incl mask (scoreF q0 q1 (keyB K q)) k0_pay109)
  a := addF V q (weightM incl mask (scoreF q0 q1 (keyB K q)) k0_pay109) k0_pay110

/-- The first stack of scaled queries: heads 0 to 3, each head's rows in its own columns, zeros elsewhere. -/
def stack0 (Q : Vec F S256x512 .bf16) : FVec F S256x1024 .bf16 :=
  k0_pay102 (k0_pay97 Q) (iota .tc S256x256 32 [0] iota_S256x256_d0_w32) 64#32 k0_pay98 k0_pay99 k0_pay100

/-- The second stack: heads 4 to 7. -/
def stack1 (Q : Vec F S256x512 .bf16) : FVec F S256x1024 .bf16 :=
  k0_pay106 (k0_pay101 (iota .tc S256x256 32 [0] iota_S256x256_d0_w32) 64#32 k0_pay98 k0_pay99 k0_pay100) (k0_pay103 (k0_pay97 Q))
    (k0_pay104 (k0_pay97 Q) (iota .tc S256x256 32 [0] iota_S256x256_d0_w32) 64#32 k0_pay98 k0_pay99 k0_pay100)
    (k0_pay105 (k0_pay97 Q) (iota .tc S256x256 32 [0] iota_S256x256_d0_w32) 64#32 k0_pay98 k0_pay99 k0_pay100)

/-- Before the first pair, at query block `q`. -/
def startF (Q : Vec F S256x512 .bf16) (K : Vec F S4096x512 .bf16) (V : Vec F S1x16x512x256 .bf16) (q : ℕ) : Walk F :=
  if q % 2 = 0 then evenF K (stack0 Q) (stack1 Q) k0_pay107 k0_pay108 q else oddF K V (stack0 Q) (stack1 Q) k0_pay107 k0_pay108 q

/-- The block of attention outputs of query block `q`. -/
def outF (Q : Vec F S256x512 .bf16) (K : Vec F S4096x512 .bf16) (V : Vec F S1x16x512x256 .bf16) (q : ℕ) : Vec F S256x512 .bf16 :=
  let s := walkF K V (stack0 Q) (stack1 Q) k0_pay107 (q / 2) (startF Q K V q) (q / 2)
  k0_pay2 (addF V 0 s.wb s.a)

end Cert.KernelIdeal.Sb
end
-- ==== Proof.Offsets.lean ====
/-
  Where the kernel's loads lie: the printed offset chains in closed form, at every grid point and every pair of blocks.
-/
module

public import proofs.«01_k».proof.Proof.Gen.KernelIdeal.Points
public import proofs.«01_k».proof.Proof.Gen.KernelIdeal.Loops

@[expose] public section

set_option maxRecDepth 16384

namespace Cert.KernelIdeal.Sb

open Cert.KernelIdeal Cert.KernelIdeal.Gen
open Idealize.ShloMosaic

/-- The query block of a grid point. -/
abbrev qOf (i : grid0.Coords) : ℕ := (i 2).val

theorem qOf_lt (i : grid0.Coords) : qOf i < 16 := (i 2).isLt

/-- Half as many trips as the query block's number. -/
theorem trips1 : ∀ i : grid0.Coords, (k0_t1_loop i).trips = qOf i / 2 := by decide +kernel
/-- The remainder loop has no trip. -/
theorem trips2 : ∀ i : grid0.Coords, (k0_t2_loop i).trips = 0 := by decide +kernel

/-- The two guarded regions are the even and the odd query blocks. -/
theorem cond1 : ∀ i : grid0.Coords, (k0_cond1 i = 1#1) ↔ qOf i % 2 = 0 := by decide +kernel
theorem cond2 : ∀ i : grid0.Coords, (k0_cond2 i = 1#1) ↔ ¬ qOf i % 2 = 0 := by decide +kernel

/-! ## Before the loop -/

theorem off1 : ∀ i : grid0.Coords, k0_off1 i = ![256 * qOf i, 0] := by decide +kernel
theorem off2 : ∀ i : grid0.Coords, qOf i % 2 = 0 → k0_off2 i = ![256 * (qOf i - 1), 0] := by decide +kernel
theorem off3 : ∀ i : grid0.Coords, k0_off3 i = ![256 * qOf i, 0] := by decide +kernel
theorem off4 : ∀ i : grid0.Coords, ¬ qOf i % 2 = 0 → k0_off4 i = ![256 * (qOf i - 1), 0] := by decide +kernel
theorem off5 : ∀ i : grid0.Coords, ¬ qOf i % 2 = 0 → k0_off5 i = ![256 * (qOf i - 2), 0] := by decide +kernel
theorem off6 : ∀ i : grid0.Coords, k0_off6 i = ![0, qOf i, 0, 0] := by decide +kernel
theorem off7 : ∀ i : grid0.Coords, k0_off7 i = ![0, qOf i, 64, 0] := by decide +kernel
theorem off8 : ∀ i : grid0.Coords, k0_off8 i = ![0, qOf i, 128, 0] := by decide +kernel
theorem off9 : ∀ i : grid0.Coords, k0_off9 i = ![0, qOf i, 192, 0] := by decide +kernel
theorem off10 : ∀ i : grid0.Coords, k0_off10 i = ![0, qOf i, 256, 0] := by decide +kernel
theorem off11 : ∀ i : grid0.Coords, k0_off11 i = ![0, qOf i, 320, 0] := by decide +kernel
theorem off12 : ∀ i : grid0.Coords, k0_off12 i = ![0, qOf i, 384, 0] := by decide +kernel
theorem off13 : ∀ i : grid0.Coords, k0_off13 i = ![0, qOf i, 448, 0] := by decide +kernel

/-! ## In the loop: `n = q / 2 - k` pairs are left at trip `k` -/

theorem off14 : ∀ (i : grid0.Coords) (k : Fin (k0_t1_loop i).trips), k0_off14 i k = ![256 * (2 * (qOf i / 2 - k.val) - 2), 0] := by decide +kernel
theorem off23 : ∀ (i : grid0.Coords) (k : Fin (k0_t1_loop i).trips), k0_off23 i k = ![256 * (2 * (qOf i / 2 - k.val) - 3), 0] := by decide +kernel
theorem off15 : ∀ (i : grid0.Coords) (k : Fin (k0_t1_loop i).trips), k0_off15 i k = ![0, 2 * (qOf i / 2 - k.val), 0, 0] := by decide +kernel
theorem off16 : ∀ (i : grid0.Coords) (k : Fin (k0_t1_loop i).trips), k0_off16 i k = ![0, 2 * (qOf i / 2 - k.val), 64, 0] := by decide +kernel
theorem off17 : ∀ (i : grid0.Coords) (k : Fin (k0_t1_loop i).trips), k0_off17 i k = ![0, 2 * (qOf i / 2 - k.val), 128, 0] := by decide +kernel
theorem off18 : ∀ (i : grid0.Coords) (k : Fin (k0_t1_loop i).trips), k0_off18 i k = ![0, 2 * (qOf i / 2 - k.val), 192, 0] := by decide +kernel
theorem off19 : ∀ (i : grid0.Coords) (k : Fin (k0_t1_loop i).trips), k0_off19 i k = ![0, 2 * (qOf i / 2 - k.val), 256, 0] := by decide +kernel
theorem off20 : ∀ (i : grid0.Coords) (k : Fin (k0_t1_loop i).trips), k0_off20 i k = ![0, 2 * (qOf i / 2 - k.val), 320, 0] := by decide +kernel
theorem off21 : ∀ (i : grid0.Coords) (k : Fin (k0_t1_loop i).trips), k0_off21 i k = ![0, 2 * (qOf i / 2 - k.val), 384, 0] := by decide +kernel
theorem off22 : ∀ (i : grid0.Coords) (k : Fin (k0_t1_loop i).trips), k0_off22 i k = ![0, 2 * (qOf i / 2 - k.val), 448, 0] := by decide +kernel
theorem off24 : ∀ (i : grid0.Coords) (k : Fin (k0_t1_loop i).trips), k0_off24 i k = ![0, 2 * (qOf i / 2 - k.val) - 1, 0, 0] := by decide +kernel
theorem off25 : ∀ (i : grid0.Coords) (k : Fin (k0_t1_loop i).trips), k0_off25 i k = ![0, 2 * (qOf i / 2 - k.val) - 1, 64, 0] := by decide +kernel
theorem off26 : ∀ (i : grid0.Coords) (k : Fin (k0_t1_loop i).trips), k0_off26 i k = ![0, 2 * (qOf i / 2 - k.val) - 1, 128, 0] := by decide +kernel
theorem off27 : ∀ (i : grid0.Coords) (k : Fin (k0_t1_loop i).trips), k0_off27 i k = ![0, 2 * (qOf i / 2 - k.val) - 1, 192, 0] := by decide +kernel
theorem off28 : ∀ (i : grid0.Coords) (k : Fin (k0_t1_loop i).trips), k0_off28 i k = ![0, 2 * (qOf i / 2 - k.val) - 1, 256, 0] := by decide +kernel
theorem off29 : ∀ (i : grid0.Coords) (k : Fin (k0_t1_loop i).trips), k0_off29 i k = ![0, 2 * (qOf i / 2 - k.val) - 1, 320, 0] := by decide +kernel
theorem off30 : ∀ (i : grid0.Coords) (k : Fin (k0_t1_loop i).trips), k0_off30 i k = ![0, 2 * (qOf i / 2 - k.val) - 1, 384, 0] := by decide +kernel
theorem off31 : ∀ (i : grid0.Coords) (k : Fin (k0_t1_loop i).trips), k0_off31 i k = ![0, 2 * (qOf i / 2 - k.val) - 1, 448, 0] := by decide +kernel

end Cert.KernelIdeal.Sb
end
-- ==== Proof.Loads.lean ====
/-
  What the loads of blocks read, and what stores that cover a buffer leave.
-/
module

public import proofs.«01_k».proof.Proof.Blocks
public import proofs.«01_k».proof.Proof.Offsets
public import Idealize.ShloMosaic.Lib.VecWindow

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld canon)

variable {F : FTy → Type} [FloatOps F] [Named F]

abbrev 𝒱₀ : Variants := Variants.none

local notation "𝕄" => MT nD τ sig Unit (Elt F) ℕ (UR sig nD τ) ℕ

/-! ## What loads and stores read -/

/-- A load of key block `j`. -/
theorem load_key {v : View sig .tc .vmem S4096x512 .bf16} (K : Vec F S4096x512 .bf16) {off : Fin 2 → ℕ} (j : ℕ) (h : off = ![256 * j, 0]) (hj : j < 16)
    (inb : ∀ a, off a + S256x512.size a ≤ S4096x512.size a) :
    v.readAt (Elt F) (Rect.unit (s := S4096x512) off S256x512.size inb).toLoadRect (v.rep K) = keyB K j := by
  subst h
  rw [View.readAt_rep]
  funext y
  refine congrArg K (funext fun a => ?_)
  match a with
  | ⟨0, _⟩ =>
    refine Fin.ext ?_
    have h0 : (y 0).val < 256 := (y 0).isLt
    show 256 * j + 1 * (y 0).val = (256 * j + (y 0).val) % 4096
    omega
  | ⟨1, _⟩ =>
    refine Fin.ext ?_
    show 0 + 1 * (y 1).val = (y 1).val
    omega

/-- A load of one head's values of block `j`. -/
theorem load_val {v : View sig .tc .vmem S1x16x512x256 .bf16} (V : Vec F S1x16x512x256 .bf16) {off : Fin 4 → ℕ} (j h : ℕ) (e : off = ![0, j, 64 * h, 0]) (hj : j < 16)
    (hh : h < 8) (inb : ∀ a, off a + S1x1x64x256.size a ≤ S1x16x512x256.size a) :
    v.readAt (Elt F) (Rect.unit (s := S1x16x512x256) off S1x1x64x256.size inb).toLoadRect (v.rep V) = valB V j h := by
  subst e
  rw [View.readAt_rep]
  funext y
  refine congrArg V (funext fun a => ?_)
  match a with
  | ⟨0, _⟩ =>
    refine Fin.ext ?_
    have h0 : (y 0).val < 1 := (y 0).isLt
    show 0 + 1 * (y 0).val = 0
    omega
  | ⟨1, _⟩ =>
    refine Fin.ext ?_
    have h0 : (y 1).val < 1 := (y 1).isLt
    show j + 1 * (y 1).val = j % 16
    omega
  | ⟨2, _⟩ =>
    refine Fin.ext ?_
    have h0 : (y 2).val < 64 := (y 2).isLt
    show 64 * h + 1 * (y 2).val = (64 * h + (y 2).val) % 512
    omega
  | ⟨3, _⟩ =>
    refine Fin.ext ?_
    show 0 + 1 * (y 3).val = (y 3).val
    omega

/-- Stores that cover the whole buffer hide the earlier ones. -/
theorem canon_cover {s : Shape} {e : EltTy} (L L' : List (View.Piece (Elt F) s e)) (h : ∀ y, ∃ p ∈ L, y ∈ p.1.set) : canon (L ++ L') = canon L := by
  funext y
  obtain ⟨p, hp, hy⟩ := h y
  clear h
  induction L with
  | nil => exact absurd hp List.not_mem_nil
  | cons q L ih =>
    by_cases hq : y ∈ q.1.set
    · obtain ⟨r, w⟩ := q
      obtain ⟨x, rfl⟩ : ∃ x, r.emb x = y := r.exists_idx_of_mem hq
      rw [List.cons_append, View.canon_cons_emb, View.canon_cons_emb]
    · rw [List.cons_append, View.canon_cons_of_not_mem _ _ hq, View.canon_cons_of_not_mem _ _ hq]
      rcases List.mem_cons.mp hp with rfl | hp
      · exact absurd hy hq
      · exact ih hp

/-! ## Whole buffers -/

theorem readCov_all {s : Shape} {e : EltTy} {sp : Space} (v : View sig .tc sp s e) (L : List (View.Piece (Elt F) s e)) {off : Fin s.rank → ℕ}
    (inb : ∀ a, off a + s.size a ≤ s.size a) : v.readCov L (Rect.unit off s.size inb).toLoadRect = canon L :=
  (View.readAt_full v _ inb).trans (View.read_writes_junk_eq_canon v L)

theorem readAt_all {s : Shape} {e : EltTy} {sp : Space} (v : View sig .tc sp s e) (X : s.Idx → Elt F e) {off : Fin s.rank → ℕ}
    (inb : ∀ a, off a + s.size a ≤ s.size a) : v.readAt (Elt F) (Rect.unit off s.size inb).toLoadRect (v.rep X) = X :=
  (View.readAt_full v _ inb).trans (View.read_rep v X)

/-- The eight bands of 64 rows cover the accumulator. -/
theorem bands_cover (w0 w1 w2 w3 w4 w5 w6 w7 : Vec F S64x256 .f32) : ∀ y, ∃ p ∈ ([⟨(Rect.unit (s := S512x256) ![448, 0] S64x256.size inb_S512x256_S64x256_448_0), w7⟩, ⟨(Rect.unit (s := S512x256) ![384, 0] S64x256.size inb_S512x256_S64x256_384_0), w6⟩, ⟨(Rect.unit (s := S512x256) ![320, 0] S64x256.size inb_S512x256_S64x256_320_0), w5⟩, ⟨(Rect.unit (s := S512x256) ![256, 0] S64x256.size inb_S512x256_S64x256_256_0), w4⟩, ⟨(Rect.unit (s := S512x256) ![192, 0] S64x256.size inb_S512x256_S64x256_192_0), w3⟩, ⟨(Rect.unit (s := S512x256) ![128, 0] S64x256.size inb_S512x256_S64x256_128_0), w2⟩, ⟨(Rect.unit (s := S512x256) ![64, 0] S64x256.size inb_S512x256_S64x256_64_0), w1⟩, ⟨(Rect.unit (s := S512x256) ![0, 0] S64x256.size inb_S512x256_S64x256_0_0), w0⟩] : List (View.Piece (Elt F) S512x256 .f32)), y ∈ p.1.set :=
  View.cover_of_tiledL _ S64x256.size (by sl_kernel_rfl)

/-- What eight bands stored last leave in the accumulator. -/
theorem read_bands (v : View sig .tc .vmem S512x256 .f32) (f : v.ty.Contents (Elt F)) (w0 w1 w2 w3 w4 w5 w6 w7 : Vec F S64x256 .f32) (L : List (View.Piece (Elt F) S512x256 .f32)) :
    v.read (Elt F) (v.writes (Elt F) f (⟨(Rect.unit (s := S512x256) ![448, 0] S64x256.size inb_S512x256_S64x256_448_0), w7⟩ :: ⟨(Rect.unit (s := S512x256) ![384, 0] S64x256.size inb_S512x256_S64x256_384_0), w6⟩ :: ⟨(Rect.unit (s := S512x256) ![320, 0] S64x256.size inb_S512x256_S64x256_320_0), w5⟩ :: ⟨(Rect.unit (s := S512x256) ![256, 0] S64x256.size inb_S512x256_S64x256_256_0), w4⟩ :: ⟨(Rect.unit (s := S512x256) ![192, 0] S64x256.size inb_S512x256_S64x256_192_0), w3⟩ :: ⟨(Rect.unit (s := S512x256) ![128, 0] S64x256.size inb_S512x256_S64x256_128_0), w2⟩ :: ⟨(Rect.unit (s := S512x256) ![64, 0] S64x256.size inb_S512x256_S64x256_64_0), w1⟩ :: ⟨(Rect.unit (s := S512x256) ![0, 0] S64x256.size inb_S512x256_S64x256_0_0), w0⟩ :: L)) = canon [⟨(Rect.unit (s := S512x256) ![448, 0] S64x256.size inb_S512x256_S64x256_448_0), w7⟩, ⟨(Rect.unit (s := S512x256) ![384, 0] S64x256.size inb_S512x256_S64x256_384_0), w6⟩, ⟨(Rect.unit (s := S512x256) ![320, 0] S64x256.size inb_S512x256_S64x256_320_0), w5⟩, ⟨(Rect.unit (s := S512x256) ![256, 0] S64x256.size inb_S512x256_S64x256_256_0), w4⟩, ⟨(Rect.unit (s := S512x256) ![192, 0] S64x256.size inb_S512x256_S64x256_192_0), w3⟩, ⟨(Rect.unit (s := S512x256) ![128, 0] S64x256.size inb_S512x256_S64x256_128_0), w2⟩, ⟨(Rect.unit (s := S512x256) ![64, 0] S64x256.size inb_S512x256_S64x256_64_0), w1⟩, ⟨(Rect.unit (s := S512x256) ![0, 0] S64x256.size inb_S512x256_S64x256_0_0), w0⟩] := by
  have h := canon_cover [⟨(Rect.unit (s := S512x256) ![448, 0] S64x256.size inb_S512x256_S64x256_448_0), w7⟩, ⟨(Rect.unit (s := S512x256) ![384, 0] S64x256.size inb_S512x256_S64x256_384_0), w6⟩, ⟨(Rect.unit (s := S512x256) ![320, 0] S64x256.size inb_S512x256_S64x256_320_0), w5⟩, ⟨(Rect.unit (s := S512x256) ![256, 0] S64x256.size inb_S512x256_S64x256_256_0), w4⟩, ⟨(Rect.unit (s := S512x256) ![192, 0] S64x256.size inb_S512x256_S64x256_192_0), w3⟩, ⟨(Rect.unit (s := S512x256) ![128, 0] S64x256.size inb_S512x256_S64x256_128_0), w2⟩, ⟨(Rect.unit (s := S512x256) ![64, 0] S64x256.size inb_S512x256_S64x256_64_0), w1⟩, ⟨(Rect.unit (s := S512x256) ![0, 0] S64x256.size inb_S512x256_S64x256_0_0), w0⟩] L (bands_cover w0 w1 w2 w3 w4 w5 w6 w7)
  simp only [List.cons_append, List.nil_append] at h
  rw [← h]
  refine View.read_writes_eq_canon v f _ fun y => ?_
  obtain ⟨p, hp, hy⟩ := bands_cover w0 w1 w2 w3 w4 w5 w6 w7 y
  exact ⟨p, List.mem_append_left L hp, hy⟩

/-- The two halves cover the scores. -/
theorem halves_cover (w0 w1 : Vec F S256x1024 .f32) : ∀ y, ∃ p ∈ ([⟨Rect.unit (s := S256x2048) ![0, 1024] S256x1024.size inb_S256x2048_S256x1024_0_1024, w1⟩,
    ⟨Rect.unit (s := S256x2048) ![0, 0] S256x1024.size inb_S256x2048_S256x1024_0_0, w0⟩] : List (View.Piece (Elt F) S256x2048 .f32)), y ∈ p.1.set :=
  View.cover_of_tiledL _ S256x1024.size (by sl_kernel_rfl)

/-- What the two halves stored last leave in a score buffer. -/
theorem read_halves (v : View sig .tc .vmem S256x2048 .f32) (f : v.ty.Contents (Elt F)) (w0 w1 : Vec F S256x1024 .f32) (L : List (View.Piece (Elt F) S256x2048 .f32)) :
    v.read (Elt F) (v.writes (Elt F) f (⟨Rect.unit (s := S256x2048) ![0, 1024] S256x1024.size inb_S256x2048_S256x1024_0_1024, w1⟩
      :: ⟨Rect.unit (s := S256x2048) ![0, 0] S256x1024.size inb_S256x2048_S256x1024_0_0, w0⟩ :: L))
      = canon [⟨Rect.unit (s := S256x2048) ![0, 1024] S256x1024.size inb_S256x2048_S256x1024_0_1024, w1⟩,
        ⟨Rect.unit (s := S256x2048) ![0, 0] S256x1024.size inb_S256x2048_S256x1024_0_0, w0⟩] := by
  have h := canon_cover [⟨Rect.unit (s := S256x2048) ![0, 1024] S256x1024.size inb_S256x2048_S256x1024_0_1024, w1⟩,
    ⟨Rect.unit (s := S256x2048) ![0, 0] S256x1024.size inb_S256x2048_S256x1024_0_0, w0⟩] L (halves_cover w0 w1)
  simp only [List.cons_append, List.nil_append] at h
  rw [← h]
  refine View.read_writes_eq_canon v f _ fun y => ?_
  obtain ⟨p, hp, hy⟩ := halves_cover w0 w1 y
  exact ⟨p, List.mem_append_left L hp, hy⟩

/-- Eight bands that are each head's sum are the updated accumulator. -/
theorem addF_of (V : Vec F S1x16x512x256 .bf16) (j : ℕ) (w : Vec F S256x2048 .bf16) (A : Vec F S512x256 .f32) (w0 w1 w2 w3 w4 w5 w6 w7 : Vec F S64x256 .f32)
    (h0 : w0 = k0_pay40 (valB V j 0) (ld A (Rect.unit (s := S512x256) ![0, 0] S64x256.size inb_S512x256_S64x256_0_0)) (ld w (Rect.unit (s := S256x2048) ![0, 0] S256x256.size inb_S256x2048_S256x256_0_0)))
    (h1 : w1 = k0_pay40 (valB V j 1) (ld A (Rect.unit (s := S512x256) ![64, 0] S64x256.size inb_S512x256_S64x256_64_0)) (ld w (Rect.unit (s := S256x2048) ![0, 256] S256x256.size inb_S256x2048_S256x256_0_256)))
    (h2 : w2 = k0_pay40 (valB V j 2) (ld A (Rect.unit (s := S512x256) ![128, 0] S64x256.size inb_S512x256_S64x256_128_0)) (ld w (Rect.unit (s := S256x2048) ![0, 512] S256x256.size inb_S256x2048_S256x256_0_512)))
    (h3 : w3 = k0_pay40 (valB V j 3) (ld A (Rect.unit (s := S512x256) ![192, 0] S64x256.size inb_S512x256_S64x256_192_0)) (ld w (Rect.unit (s := S256x2048) ![0, 768] S256x256.size inb_S256x2048_S256x256_0_768)))
    (h4 : w4 = k0_pay40 (valB V j 4) (ld A (Rect.unit (s := S512x256) ![256, 0] S64x256.size inb_S512x256_S64x256_256_0)) (ld w (Rect.unit (s := S256x2048) ![0, 1024] S256x256.size inb_S256x2048_S256x256_0_1024)))
    (h5 : w5 = k0_pay40 (valB V j 5) (ld A (Rect.unit (s := S512x256) ![320, 0] S64x256.size inb_S512x256_S64x256_320_0)) (ld w (Rect.unit (s := S256x2048) ![0, 1280] S256x256.size inb_S256x2048_S256x256_0_1280)))
    (h6 : w6 = k0_pay40 (valB V j 6) (ld A (Rect.unit (s := S512x256) ![384, 0] S64x256.size inb_S512x256_S64x256_384_0)) (ld w (Rect.unit (s := S256x2048) ![0, 1536] S256x256.size inb_S256x2048_S256x256_0_1536)))
    (h7 : w7 = k0_pay40 (valB V j 7) (ld A (Rect.unit (s := S512x256) ![448, 0] S64x256.size inb_S512x256_S64x256_448_0)) (ld w (Rect.unit (s := S256x2048) ![0, 1792] S256x256.size inb_S256x2048_S256x256_0_1792))) :
    canon [⟨(Rect.unit (s := S512x256) ![448, 0] S64x256.size inb_S512x256_S64x256_448_0), w7⟩, ⟨(Rect.unit (s := S512x256) ![384, 0] S64x256.size inb_S512x256_S64x256_384_0), w6⟩, ⟨(Rect.unit (s := S512x256) ![320, 0] S64x256.size inb_S512x256_S64x256_320_0), w5⟩, ⟨(Rect.unit (s := S512x256) ![256, 0] S64x256.size inb_S512x256_S64x256_256_0), w4⟩, ⟨(Rect.unit (s := S512x256) ![192, 0] S64x256.size inb_S512x256_S64x256_192_0), w3⟩, ⟨(Rect.unit (s := S512x256) ![128, 0] S64x256.size inb_S512x256_S64x256_128_0), w2⟩, ⟨(Rect.unit (s := S512x256) ![64, 0] S64x256.size inb_S512x256_S64x256_64_0), w1⟩, ⟨(Rect.unit (s := S512x256) ![0, 0] S64x256.size inb_S512x256_S64x256_0_0), w0⟩] = addF V j w A := by
  subst h0 h1 h2 h3 h4 h5 h6 h7
  rfl

/-- Two halves that are each stack's product are the scores. -/
theorem scoreF_of (q0 q1 : FVec F S256x1024 .bf16) (kb : Vec F S256x512 .bf16) (w0 w1 : Vec F S256x1024 .f32) (h0 : w0 = k0_pay4 q0 kb) (h1 : w1 = k0_pay5 q1 kb) :
    canon [⟨Rect.unit (s := S256x2048) ![0, 1024] S256x1024.size inb_S256x2048_S256x1024_0_1024, w1⟩,
        ⟨Rect.unit (s := S256x2048) ![0, 0] S256x1024.size inb_S256x2048_S256x1024_0_0, w0⟩] = scoreF q0 q1 kb := by
  subst h0 h1
  rfl

/-! ## The four fields of a pair -/

theorem pairF_za (K : Vec F S4096x512 .bf16) (V : Vec F S1x16x512x256 .bf16) (q0 q1 : FVec F S256x1024 .bf16) (incl : FVec F S256x256 .bf16) (n : ℕ) (s : Walk F) : (pairF K V q0 q1 incl n s).za = scoreF q0 q1 (keyB K (2 * n - 3)) := by simp only [pairF]
theorem pairF_wb (K : Vec F S4096x512 .bf16) (V : Vec F S1x16x512x256 .bf16) (q0 q1 : FVec F S256x1024 .bf16) (incl : FVec F S256x256 .bf16) (n : ℕ) (s : Walk F) : (pairF K V q0 q1 incl n s).wb = weightF incl (scoreF q0 q1 (keyB K (2 * n - 2))) (carryF incl s.za s.c) := by simp only [pairF]
theorem pairF_c (K : Vec F S4096x512 .bf16) (V : Vec F S1x16x512x256 .bf16) (q0 q1 : FVec F S256x1024 .bf16) (incl : FVec F S256x256 .bf16) (n : ℕ) (s : Walk F) : (pairF K V q0 q1 incl n s).c = carryF incl (scoreF q0 q1 (keyB K (2 * n - 2))) (carryF incl s.za s.c) := by simp only [pairF]
theorem pairF_a (K : Vec F S4096x512 .bf16) (V : Vec F S1x16x512x256 .bf16) (q0 q1 : FVec F S256x1024 .bf16) (incl : FVec F S256x256 .bf16) (n : ℕ) (s : Walk F) : (pairF K V q0 q1 incl n s).a = addF V (2 * n - 1) (weightF incl s.za s.c) (addF V (2 * n) s.wb s.a) := by simp only [pairF]

/-! ## One head's band of an updated accumulator -/

theorem ld_add0 (V : Vec F S1x16x512x256 .bf16) (j : ℕ) (w : Vec F S256x2048 .bf16) (A : Vec F S512x256 .f32) :
    ld (addF V j w A) (Rect.unit (s := S512x256) ![0, 0] S64x256.size inb_S512x256_S64x256_0_0) = k0_pay40 (valB V j 0) (ld A (Rect.unit (s := S512x256) ![0, 0] S64x256.size inb_S512x256_S64x256_0_0)) (ld w (Rect.unit (s := S256x2048) ![0, 0] S256x256.size inb_S256x2048_S256x256_0_0)) := by
  refine (View.readCov_eq_canon' (Memref.whole cc0_scratch5).view _ _).symm.trans ?_
  simp (disch := decide) only [View.readCov_skip, View.readCov_cons_toLoadRect]
theorem ld_add1 (V : Vec F S1x16x512x256 .bf16) (j : ℕ) (w : Vec F S256x2048 .bf16) (A : Vec F S512x256 .f32) :
    ld (addF V j w A) (Rect.unit (s := S512x256) ![64, 0] S64x256.size inb_S512x256_S64x256_64_0) = k0_pay40 (valB V j 1) (ld A (Rect.unit (s := S512x256) ![64, 0] S64x256.size inb_S512x256_S64x256_64_0)) (ld w (Rect.unit (s := S256x2048) ![0, 256] S256x256.size inb_S256x2048_S256x256_0_256)) := by
  refine (View.readCov_eq_canon' (Memref.whole cc0_scratch5).view _ _).symm.trans ?_
  simp (disch := decide) only [View.readCov_skip, View.readCov_cons_toLoadRect]
theorem ld_add2 (V : Vec F S1x16x512x256 .bf16) (j : ℕ) (w : Vec F S256x2048 .bf16) (A : Vec F S512x256 .f32) :
    ld (addF V j w A) (Rect.unit (s := S512x256) ![128, 0] S64x256.size inb_S512x256_S64x256_128_0) = k0_pay40 (valB V j 2) (ld A (Rect.unit (s := S512x256) ![128, 0] S64x256.size inb_S512x256_S64x256_128_0)) (ld w (Rect.unit (s := S256x2048) ![0, 512] S256x256.size inb_S256x2048_S256x256_0_512)) := by
  refine (View.readCov_eq_canon' (Memref.whole cc0_scratch5).view _ _).symm.trans ?_
  simp (disch := decide) only [View.readCov_skip, View.readCov_cons_toLoadRect]
theorem ld_add3 (V : Vec F S1x16x512x256 .bf16) (j : ℕ) (w : Vec F S256x2048 .bf16) (A : Vec F S512x256 .f32) :
    ld (addF V j w A) (Rect.unit (s := S512x256) ![192, 0] S64x256.size inb_S512x256_S64x256_192_0) = k0_pay40 (valB V j 3) (ld A (Rect.unit (s := S512x256) ![192, 0] S64x256.size inb_S512x256_S64x256_192_0)) (ld w (Rect.unit (s := S256x2048) ![0, 768] S256x256.size inb_S256x2048_S256x256_0_768)) := by
  refine (View.readCov_eq_canon' (Memref.whole cc0_scratch5).view _ _).symm.trans ?_
  simp (disch := decide) only [View.readCov_skip, View.readCov_cons_toLoadRect]
theorem ld_add4 (V : Vec F S1x16x512x256 .bf16) (j : ℕ) (w : Vec F S256x2048 .bf16) (A : Vec F S512x256 .f32) :
    ld (addF V j w A) (Rect.unit (s := S512x256) ![256, 0] S64x256.size inb_S512x256_S64x256_256_0) = k0_pay40 (valB V j 4) (ld A (Rect.unit (s := S512x256) ![256, 0] S64x256.size inb_S512x256_S64x256_256_0)) (ld w (Rect.unit (s := S256x2048) ![0, 1024] S256x256.size inb_S256x2048_S256x256_0_1024)) := by
  refine (View.readCov_eq_canon' (Memref.whole cc0_scratch5).view _ _).symm.trans ?_
  simp (disch := decide) only [View.readCov_skip, View.readCov_cons_toLoadRect]
theorem ld_add5 (V : Vec F S1x16x512x256 .bf16) (j : ℕ) (w : Vec F S256x2048 .bf16) (A : Vec F S512x256 .f32) :
    ld (addF V j w A) (Rect.unit (s := S512x256) ![320, 0] S64x256.size inb_S512x256_S64x256_320_0) = k0_pay40 (valB V j 5) (ld A (Rect.unit (s := S512x256) ![320, 0] S64x256.size inb_S512x256_S64x256_320_0)) (ld w (Rect.unit (s := S256x2048) ![0, 1280] S256x256.size inb_S256x2048_S256x256_0_1280)) := by
  refine (View.readCov_eq_canon' (Memref.whole cc0_scratch5).view _ _).symm.trans ?_
  simp (disch := decide) only [View.readCov_skip, View.readCov_cons_toLoadRect]
theorem ld_add6 (V : Vec F S1x16x512x256 .bf16) (j : ℕ) (w : Vec F S256x2048 .bf16) (A : Vec F S512x256 .f32) :
    ld (addF V j w A) (Rect.unit (s := S512x256) ![384, 0] S64x256.size inb_S512x256_S64x256_384_0) = k0_pay40 (valB V j 6) (ld A (Rect.unit (s := S512x256) ![384, 0] S64x256.size inb_S512x256_S64x256_384_0)) (ld w (Rect.unit (s := S256x2048) ![0, 1536] S256x256.size inb_S256x2048_S256x256_0_1536)) := by
  refine (View.readCov_eq_canon' (Memref.whole cc0_scratch5).view _ _).symm.trans ?_
  simp (disch := decide) only [View.readCov_skip, View.readCov_cons_toLoadRect]
theorem ld_add7 (V : Vec F S1x16x512x256 .bf16) (j : ℕ) (w : Vec F S256x2048 .bf16) (A : Vec F S512x256 .f32) :
    ld (addF V j w A) (Rect.unit (s := S512x256) ![448, 0] S64x256.size inb_S512x256_S64x256_448_0) = k0_pay40 (valB V j 7) (ld A (Rect.unit (s := S512x256) ![448, 0] S64x256.size inb_S512x256_S64x256_448_0)) (ld w (Rect.unit (s := S256x2048) ![0, 1792] S256x256.size inb_S256x2048_S256x256_0_1792)) := by
  refine (View.readCov_eq_canon' (Memref.whole cc0_scratch5).view _ _).symm.trans ?_
  simp (disch := decide) only [View.readCov_skip, View.readCov_cons_toLoadRect]

end Cert.KernelIdeal.Sb
end
-- ==== Proof.Trip.lean ====
/-
  One trip of the loop over pairs of key blocks, and the loop.
-/
module

public import proofs.«01_k».proof.Proof.Loads

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld canon)

variable {F : FTy → Type} [FloatOps F] [Named F]

local notation "𝕄" => MT nD τ sig Unit (Elt F) ℕ (UR sig nD τ) ℕ

/-! ## One trip -/

variable (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S512x256 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S32x2048 .f32) (harg9 : arg9.IsWhole) (arg10 : Memref sig .tc .vmem S256x512 .bf16) (harg10 : arg10.IsWhole) (arg11 : Memref sig .tc .vmem S512x256 .bf16) (harg11 : arg11.IsWhole) (arg12 : Memref sig .tc .vmem S16x2048 .bf16) (harg12 : arg12.IsWhole) (arg13 : Memref sig .tc .vmem S16x2048 .bf16) (harg13 : arg13.IsWhole) (arg14 : Memref sig .tc .vmem S32x2048 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x2048 .bf16) (harg17 : arg17.IsWhole) (arg18 : Memref sig .tc .vmem S256x2048 .bf16) (harg18 : arg18.IsWhole) (arg19 : Memref sig .tc .vmem S1x2048 .f32) (harg19 : arg19.IsWhole) (arg20 : Memref sig .tc .vmem S512x256 .f32) (harg20 : arg20.IsWhole)
  (arg2 : BitVec 32) (v65 : FVec F S256x1024 .bf16) (v83 : FVec F S256x1024 .bf16) (v89 : FVec F S256x256 .bf16)
  (v114 : BitVec 32) (c2_i32_64 : BitVec 32) (v141 : BitVec 32) (v146 : BitVec 32) (v151 : BitVec 32)

/-- The buffers a trip touches, at given contents; what the other two scratch buffers hold does not matter. -/
abbrev Held (fK : Buf (Elt F) (arg4.view.loc (c : Thread nD τ))) (fV : Buf (Elt F) (arg5.view.loc (c : Thread nD τ)))
    (gza : Buf (Elt F) (arg15.view.loc (c : Thread nD τ)))
    (gwb : Buf (Elt F) (arg18.view.loc (c : Thread nD τ)))
    (gc : Buf (Elt F) (arg19.view.loc (c : Thread nD τ))) (ga : Buf (Elt F) (arg20.view.loc (c : Thread nD τ))) : sProp 𝕄 :=
  iprop((arg4.view.loc (c : Thread nD τ) ↦[arg4.view.set]{fullShare} fK) ∗ (arg5.view.loc (c : Thread nD τ) ↦[arg5.view.set]{fullShare} fV)
    ∗ (arg15.view.loc (c : Thread nD τ) ↦[arg15.view.set]{fullShare} gza)
    ∗ (∃ g, arg16.view.loc (c : Thread nD τ) ↦[arg16.view.set]{fullShare} g) ∗ (∃ g, arg17.view.loc (c : Thread nD τ) ↦[arg17.view.set]{fullShare} g)
    ∗ (arg18.view.loc (c : Thread nD τ) ↦[arg18.view.set]{fullShare} gwb)
    ∗ (arg19.view.loc (c : Thread nD τ) ↦[arg19.view.set]{fullShare} gc) ∗ (arg20.view.loc (c : Thread nD τ) ↦[arg20.view.set]{fullShare} ga))

set_option maxHeartbeats 400000 in
/-- One trip takes the walk one pair of blocks further. -/
theorem trip (k : Fin (k0_t1_loop i).trips) (acc : BitVec 32) (K : Vec F S4096x512 .bf16) (V : Vec F S1x16x512x256 .bf16) (s : Walk F) :
    Held (F := F) c arg4 arg5 arg15 arg16 arg17 arg18 arg19 arg20 (arg4.view.rep K) (arg5.view.rep V) (arg15.view.rep s.za) (arg18.view.rep s.wb) (arg19.view.rep s.c) (arg20.view.rep s.a)
      ⊢ wp frame (wpE (defs₀ (F := F)) 𝒱₀ (c : Thread nD τ) none) Set.univ
        (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v65 v83 v89 v114 c2_i32_64 v141 v146 v151 k acc)
        (fun _ => Held (F := F) c arg4 arg5 arg15 arg16 arg17 arg18 arg19 arg20 (arg4.view.rep K) (arg5.view.rep V)
          (arg15.view.rep (pairF K V v65 v83 v89 (qOf i / 2 - k.val) s).za) (arg18.view.rep (pairF K V v65 v83 v89 (qOf i / 2 - k.val) s).wb)
          (arg19.view.rep (pairF K V v65 v83 v89 (qOf i / 2 - k.val) s).c) (arg20.view.rep (pairF K V v65 v83 v89 (qOf i / 2 - k.val) s).a)) := by
  have hk : k.val < qOf i / 2 := by exact Nat.lt_of_lt_of_eq k.isLt (trips1 i)
  have hq := qOf_lt i
  unfold Held
  iintro ⟨HK, HV, Hza, ⟨%gzb, Hzb⟩, ⟨%gwa, Hwa⟩, Hwb, Hc, Ha⟩
  sl_unfold [k0_t1_body]
  sl_exec
  sl_step
  isplitl [HK]; · iexact HK
  isplitl [HV]; · iexact HV
  isplitl [Hza]
  · iapply (pointsTo_rep_of_read (c : Thread nD τ) arg15 _ fullShare _ ?_)
    rotate_left 1; · iexact Hza
    · rw [read_halves, pairF_za]
      refine scoreF_of v65 v83 (keyB K (2 * (qOf i / 2 - k.val) - 3)) _ _ ?_ ?_
      · delta trip.sl.v373 trip.sl.v370 trip.sl.v369 trip.sl.v368
        simp only [load_key K _ (off23 i k) (by omega)]
        rfl
      · delta trip.sl.v378 trip.sl.v375 trip.sl.v374 trip.sl.v368
        simp only [load_key K _ (off23 i k) (by omega)]
        rfl
  isplitl [Hzb]; · iexists _; iexact Hzb
  isplitl [Hwa]; · iexists _; iexact Hwa
  have ez : trip.sl.v459 i arg4 arg16 v65 v83 k K = scoreF v65 v83 (keyB K (2 * (qOf i / 2 - k.val) - 2)) := by
    delta trip.sl.v459
    rw [readCov_all]
    delta trip.sl.Hzb_2
    refine scoreF_of v65 v83 _ _ _ ?_ ?_
    · delta trip.sl.v252 trip.sl.v249 trip.sl.v248 trip.sl.v247
      simp only [load_key K _ (off14 i k) (by omega)]
      rfl
    · delta trip.sl.v257 trip.sl.v254 trip.sl.v253 trip.sl.v247
      simp only [load_key K _ (off14 i k) (by omega)]
      rfl
  have ec : trip.sl.v460 arg15 arg19 v89 s = carryF v89 s.za s.c := by
    delta trip.sl.v460 trip.sl.Hc_1
    rw [View.readCov_full, readAt_all, readAt_all]
    rfl
  isplitl [Hwb]
  · iapply (pointsTo_rep_of_read (c : Thread nD τ) arg18 _ fullShare _ ?_)
    rotate_left 1; · iexact Hwb
    · rw [View.read_writes_full, ez, ec, pairF_wb]
      rfl
  isplitl [Hc]
  · iapply (pointsTo_rep_of_read (c : Thread nD τ) arg19 _ fullShare _ ?_)
    rotate_left 1; · iexact Hc
    · rw [View.read_writes_full, ez, ec, pairF_c]
      rfl
  · iapply (pointsTo_rep_of_read (c : Thread nD τ) arg20 _ fullShare _ ?_)
    rotate_left 1; · iexact Ha
    · have ew : trip.sl.Hwa_1 arg15 arg19 v89 s = [⟨Rect.unit (s := S256x2048) ![0, 0] S256x2048.size inb_S256x2048_S256x2048_0_0, weightF v89 s.za s.c⟩] := by
        delta trip.sl.Hwa_1
        rw [readAt_all, readAt_all]
        rfl
      delta trip.sl.Ha_15 trip.sl.Ha_14 trip.sl.Ha_13 trip.sl.Ha_12 trip.sl.Ha_11 trip.sl.Ha_10 trip.sl.Ha_9
      rw [read_bands, pairF_a]
      refine addF_of V (2 * (qOf i / 2 - k.val) - 1) (weightF v89 s.za s.c) (addF V (2 * (qOf i / 2 - k.val)) s.wb s.a) _ _ _ _ _ _ _ _ ?_ ?_ ?_ ?_ ?_ ?_ ?_ ?_
      · rw [ld_add0]
        delta trip.sl.v388 trip.sl.v385 trip.sl.v384 trip.sl.v381 trip.sl.v383
        delta trip.sl.v382
        delta trip.sl.Ha_8
        simp (disch := decide) only [View.readCov_skip, View.readCov_cons_toLoadRect]
        rw [ew]
        delta trip.sl.v268 trip.sl.v265 trip.sl.v264 trip.sl.v261
        simp (disch := decide) only [View.readCov_fill, load_val V _ 0 (off15 i k) (by omega) (by decide), load_val V _ 0 (off24 i k) (by omega) (by decide), View.readAt_rep]
        rfl
      · rw [ld_add1]
        delta trip.sl.v398 trip.sl.v395 trip.sl.v394 trip.sl.v391 trip.sl.v393
        delta trip.sl.v392
        delta trip.sl.Ha_9 trip.sl.Ha_8
        simp (disch := decide) only [View.readCov_skip, View.readCov_cons_toLoadRect]
        rw [ew]
        delta trip.sl.v278 trip.sl.v275 trip.sl.v274 trip.sl.v271 trip.sl.v272
        simp (disch := decide) only [View.readCov_fill, load_val V _ 1 (off16 i k) (by omega) (by decide), load_val V _ 1 (off25 i k) (by omega) (by decide), View.readAt_rep]
        rfl
      · rw [ld_add2]
        delta trip.sl.v408 trip.sl.v405 trip.sl.v404 trip.sl.v401 trip.sl.v403
        delta trip.sl.v402
        delta trip.sl.Ha_10 trip.sl.Ha_9 trip.sl.Ha_8
        simp (disch := decide) only [View.readCov_skip, View.readCov_cons_toLoadRect]
        rw [ew]
        delta trip.sl.v288 trip.sl.v285 trip.sl.v284 trip.sl.v281 trip.sl.v282
        simp (disch := decide) only [View.readCov_fill, load_val V _ 2 (off17 i k) (by omega) (by decide), load_val V _ 2 (off26 i k) (by omega) (by decide), View.readAt_rep]
        rfl
      · rw [ld_add3]
        delta trip.sl.v418 trip.sl.v415 trip.sl.v414 trip.sl.v411 trip.sl.v413
        delta trip.sl.v412
        delta trip.sl.Ha_11 trip.sl.Ha_10 trip.sl.Ha_9 trip.sl.Ha_8
        simp (disch := decide) only [View.readCov_skip, View.readCov_cons_toLoadRect]
        rw [ew]
        delta trip.sl.v298 trip.sl.v295 trip.sl.v294 trip.sl.v291 trip.sl.v292
        simp (disch := decide) only [View.readCov_fill, load_val V _ 3 (off18 i k) (by omega) (by decide), load_val V _ 3 (off27 i k) (by omega) (by decide), View.readAt_rep]
        rfl
      · rw [ld_add4]
        delta trip.sl.v428 trip.sl.v425 trip.sl.v424 trip.sl.v421 trip.sl.v423
        delta trip.sl.v422
        delta trip.sl.Ha_12 trip.sl.Ha_11 trip.sl.Ha_10 trip.sl.Ha_9 trip.sl.Ha_8
        simp (disch := decide) only [View.readCov_skip, View.readCov_cons_toLoadRect]
        rw [ew]
        delta trip.sl.v308 trip.sl.v305 trip.sl.v304 trip.sl.v301 trip.sl.v302
        simp (disch := decide) only [View.readCov_fill, load_val V _ 4 (off19 i k) (by omega) (by decide), load_val V _ 4 (off28 i k) (by omega) (by decide), View.readAt_rep]
        rfl
      · rw [ld_add5]
        delta trip.sl.v438 trip.sl.v435 trip.sl.v434 trip.sl.v431 trip.sl.v433
        delta trip.sl.v432
        delta trip.sl.Ha_13 trip.sl.Ha_12 trip.sl.Ha_11 trip.sl.Ha_10 trip.sl.Ha_9 trip.sl.Ha_8
        simp (disch := decide) only [View.readCov_skip, View.readCov_cons_toLoadRect]
        rw [ew]
        delta trip.sl.v318 trip.sl.v315 trip.sl.v314 trip.sl.v311 trip.sl.v312
        simp (disch := decide) only [View.readCov_fill, load_val V _ 5 (off20 i k) (by omega) (by decide), load_val V _ 5 (off29 i k) (by omega) (by decide), View.readAt_rep]
        rfl
      · rw [ld_add6]
        delta trip.sl.v448 trip.sl.v445 trip.sl.v444 trip.sl.v441 trip.sl.v443
        delta trip.sl.v442
        delta trip.sl.Ha_14 trip.sl.Ha_13 trip.sl.Ha_12 trip.sl.Ha_11 trip.sl.Ha_10 trip.sl.Ha_9 trip.sl.Ha_8
        simp (disch := decide) only [View.readCov_skip, View.readCov_cons_toLoadRect]
        rw [ew]
        delta trip.sl.v328 trip.sl.v325 trip.sl.v324 trip.sl.v321 trip.sl.v322
        simp (disch := decide) only [View.readCov_fill, load_val V _ 6 (off21 i k) (by omega) (by decide), load_val V _ 6 (off30 i k) (by omega) (by decide), View.readAt_rep]
        rfl
      · rw [ld_add7]
        delta trip.sl.v451 trip.sl.v453
        delta trip.sl.v452
        delta trip.sl.Ha_15 trip.sl.Ha_14 trip.sl.Ha_13 trip.sl.Ha_12 trip.sl.Ha_11 trip.sl.Ha_10 trip.sl.Ha_9 trip.sl.Ha_8
        simp (disch := decide) only [View.readCov_skip, View.readCov_cons_toLoadRect]
        rw [ew]
        delta trip.sl.v332
        simp (disch := decide) only [View.readCov_fill, load_val V _ 7 (off22 i k) (by omega) (by decide), load_val V _ 7 (off31 i k) (by omega) (by decide), View.readAt_rep]
        rfl

end Cert.KernelIdeal.Sb
end
-- ==== Proof.Loop.lean ====
/-
  The loop over pairs of key blocks, by its invariant.
-/
module

public import proofs.«01_k».proof.Proof.Trip

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld canon)

variable {F : FTy → Type} [FloatOps F] [Named F]

local notation "𝕄" => MT nD τ sig Unit (Elt F) ℕ (UR sig nD τ) ℕ

/-! ## What a buffer holds before a trip -/

/-- What a buffer holds before trip `k`: what it held at the loop's entry, later the value `X k`. -/
def cont {s : Shape} {e : EltTy} (v : View sig .tc .vmem s e) (f : v.ty.Contents (Elt F)) (X : ℕ → (s.Idx → Elt F e)) : ℕ → v.ty.Contents (Elt F)
  | 0 => f
  | k + 1 => v.rep (X (k + 1))

theorem read_cont {s : Shape} {e : EltTy} (v : View sig .tc .vmem s e) (f : v.ty.Contents (Elt F)) (X : ℕ → (s.Idx → Elt F e)) (h : X 0 = v.read (Elt F) f) :
    ∀ k, v.read (Elt F) (cont v f X k) = X k
  | 0 => h.symm
  | k + 1 => v.read_rep _

variable (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S512x256 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S32x2048 .f32) (harg9 : arg9.IsWhole) (arg10 : Memref sig .tc .vmem S256x512 .bf16) (harg10 : arg10.IsWhole) (arg11 : Memref sig .tc .vmem S512x256 .bf16) (harg11 : arg11.IsWhole) (arg12 : Memref sig .tc .vmem S16x2048 .bf16) (harg12 : arg12.IsWhole) (arg13 : Memref sig .tc .vmem S16x2048 .bf16) (harg13 : arg13.IsWhole) (arg14 : Memref sig .tc .vmem S32x2048 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x2048 .bf16) (harg17 : arg17.IsWhole) (arg18 : Memref sig .tc .vmem S256x2048 .bf16) (harg18 : arg18.IsWhole) (arg19 : Memref sig .tc .vmem S1x2048 .f32) (harg19 : arg19.IsWhole) (arg20 : Memref sig .tc .vmem S512x256 .f32) (harg20 : arg20.IsWhole)
  (arg2 : BitVec 32) (v65 : FVec F S256x1024 .bf16) (v83 : FVec F S256x1024 .bf16) (v89 : FVec F S256x256 .bf16)
  (v114 : BitVec 32) (c2_i32_64 : BitVec 32) (v141 : BitVec 32) (v146 : BitVec 32) (v151 : BitVec 32)

section Entry

variable (fK : Buf (Elt F) (arg4.view.loc (c : Thread nD τ))) (fV : Buf (Elt F) (arg5.view.loc (c : Thread nD τ)))
    (gza : Buf (Elt F) (arg15.view.loc (c : Thread nD τ)))
    (gwb : Buf (Elt F) (arg18.view.loc (c : Thread nD τ)))
    (gc : Buf (Elt F) (arg19.view.loc (c : Thread nD τ))) (ga : Buf (Elt F) (arg20.view.loc (c : Thread nD τ)))

/-- The walk the loop is entered with, read off the buffers. -/
def entry : Walk F := ⟨arg15.view.read (Elt F) gza, arg18.view.read (Elt F) gwb, arg19.view.read (Elt F) gc, arg20.view.read (Elt F) ga⟩

/-- The walk before trip `k`. -/
def walkAt (k : ℕ) : Walk F :=
  walkF (arg4.view.read (Elt F) fK) (arg5.view.read (Elt F) fV) v65 v83 v89 (qOf i / 2) (entry c arg15 arg18 arg19 arg20 gza gwb gc ga) k

/-- The buffers before trip `k`. -/
abbrev loopHeld (k : ℕ) : sProp 𝕄 :=
  Held (F := F) c arg4 arg5 arg15 arg16 arg17 arg18 arg19 arg20
    (cont arg4.view fK (fun _ => arg4.view.read (Elt F) fK) k) (cont arg5.view fV (fun _ => arg5.view.read (Elt F) fV) k)
    (cont arg15.view gza (fun k => (walkAt c i arg4 arg5 arg15 arg18 arg19 arg20 v65 v83 v89 fK fV gza gwb gc ga k).za) k)
    (cont arg18.view gwb (fun k => (walkAt c i arg4 arg5 arg15 arg18 arg19 arg20 v65 v83 v89 fK fV gza gwb gc ga k).wb) k)
    (cont arg19.view gc (fun k => (walkAt c i arg4 arg5 arg15 arg18 arg19 arg20 v65 v83 v89 fK fV gza gwb gc ga k).c) k)
    (cont arg20.view ga (fun k => (walkAt c i arg4 arg5 arg15 arg18 arg19 arg20 v65 v83 v89 fK fV gza gwb gc ga k).a) k)

set_option maxHeartbeats 400000 in
/-- What the buffers hold before a trip, by their values. -/
theorem loopHeld_rep (k : ℕ) :
    loopHeld (F := F) c i arg4 arg5 arg15 arg16 arg17 arg18 arg19 arg20 v65 v83 v89 fK fV gza gwb gc ga k
      ⊢ Held (F := F) c arg4 arg5 arg15 arg16 arg17 arg18 arg19 arg20 (arg4.view.rep (arg4.view.read (Elt F) fK)) (arg5.view.rep (arg5.view.read (Elt F) fV))
        (arg15.view.rep (walkAt c i arg4 arg5 arg15 arg18 arg19 arg20 v65 v83 v89 fK fV gza gwb gc ga k).za)
        (arg18.view.rep (walkAt c i arg4 arg5 arg15 arg18 arg19 arg20 v65 v83 v89 fK fV gza gwb gc ga k).wb)
        (arg19.view.rep (walkAt c i arg4 arg5 arg15 arg18 arg19 arg20 v65 v83 v89 fK fV gza gwb gc ga k).c)
        (arg20.view.rep (walkAt c i arg4 arg5 arg15 arg18 arg19 arg20 v65 v83 v89 fK fV gza gwb gc ga k).a) := by
  unfold loopHeld Held
  iintro ⟨HK, HV, Hza, Hzb, Hwa, Hwb, Hc, Ha⟩
  isplitl [HK]
  · iapply (pointsTo_rep_of_read (c : Thread nD τ) arg4 _ fullShare _ ?_)
    rotate_left 1; · iexact HK
    exact read_cont arg4.view fK _ rfl k
  isplitl [HV]
  · iapply (pointsTo_rep_of_read (c : Thread nD τ) arg5 _ fullShare _ ?_)
    rotate_left 1; · iexact HV
    exact read_cont arg5.view fV _ rfl k
  isplitl [Hza]
  · iapply (pointsTo_rep_of_read (c : Thread nD τ) arg15 _ fullShare _ ?_)
    rotate_left 1; · iexact Hza
    exact read_cont arg15.view gza (fun k => (walkAt c i arg4 arg5 arg15 arg18 arg19 arg20 v65 v83 v89 fK fV gza gwb gc ga k).za) rfl k
  isplitl [Hzb]; · iexact Hzb
  isplitl [Hwa]; · iexact Hwa
  isplitl [Hwb]
  · iapply (pointsTo_rep_of_read (c : Thread nD τ) arg18 _ fullShare _ ?_)
    rotate_left 1; · iexact Hwb
    exact read_cont arg18.view gwb (fun k => (walkAt c i arg4 arg5 arg15 arg18 arg19 arg20 v65 v83 v89 fK fV gza gwb gc ga k).wb) rfl k
  isplitl [Hc]
  · iapply (pointsTo_rep_of_read (c : Thread nD τ) arg19 _ fullShare _ ?_)
    rotate_left 1; · iexact Hc
    exact read_cont arg19.view gc (fun k => (walkAt c i arg4 arg5 arg15 arg18 arg19 arg20 v65 v83 v89 fK fV gza gwb gc ga k).c) rfl k
  · iapply (pointsTo_rep_of_read (c : Thread nD τ) arg20 _ fullShare _ ?_)
    rotate_left 1; · iexact Ha
    exact read_cont arg20.view ga (fun k => (walkAt c i arg4 arg5 arg15 arg18 arg19 arg20 v65 v83 v89 fK fV gza gwb gc ga k).a) rfl k

set_option warn.classDefReducibility false in
/-- The loop over pairs of key blocks: the walk so far, whatever the loop was entered with. -/
@[sl_loop] def loopInv1 (init : BitVec 32) :
    Cert.KernelIdeal.Gen.LoopInvTy_k0_t1 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v65 v83 v89 v114 c2_i32_64 v141 v146 v151 init where
  inv k _ := loopHeld (F := F) c i arg4 arg5 arg15 arg16 arg17 arg18 arg19 arg20 v65 v83 v89 fK fV gza gwb gc ga k
  step k acc := by
    iintro H
    iapply (wp_wand_r Idealize.ShloMosaic.frame (wpE (defs₀ (F := F)) 𝒱₀ (c : Thread nD τ) none) Set.univ)
    isplitl [H]
    · iapply (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v65 v83 v89 v114 c2_i32_64 v141 v146 v151 k acc (arg4.view.read (Elt F) fK) (arg5.view.read (Elt F) fV)
        (walkAt c i arg4 arg5 arg15 arg18 arg19 arg20 v65 v83 v89 fK fV gza gwb gc ga k.val))
      iapply (loopHeld_rep c i arg4 arg5 arg15 arg16 arg17 arg18 arg19 arg20 v65 v83 v89 fK fV gza gwb gc ga k.val)
      iexact H
    · iintro %_ H
      iexact H

set_option maxHeartbeats 400000 in
/-- What the loop leaves: some walk's values, and which walk. -/
theorem loop_done (k : ℕ) (K : Vec F S4096x512 .bf16) (V : Vec F S1x16x512x256 .bf16) :
    loopHeld (F := F) c i arg4 arg5 arg15 arg16 arg17 arg18 arg19 arg20 v65 v83 v89 (arg4.view.rep K) (arg5.view.rep V) gza gwb gc ga k
      ⊢ iprop(∃ s : Walk F, ⌜s = walkF K V v65 v83 v89 (qOf i / 2) (entry c arg15 arg18 arg19 arg20 gza gwb gc ga) k⌝
          ∗ Held (F := F) c arg4 arg5 arg15 arg16 arg17 arg18 arg19 arg20 (arg4.view.rep K) (arg5.view.rep V)
        (arg15.view.rep s.za) (arg18.view.rep s.wb) (arg19.view.rep s.c) (arg20.view.rep s.a)) := by
  iintro H
  iexists (walkAt c i arg4 arg5 arg15 arg18 arg19 arg20 v65 v83 v89 (arg4.view.rep K) (arg5.view.rep V) gza gwb gc ga k)
  isplitr; · ipureintro; unfold walkAt; rw [View.read_rep, View.read_rep]
  have h := loopHeld_rep (F := F) c i arg4 arg5 arg15 arg16 arg17 arg18 arg19 arg20 v65 v83 v89 (arg4.view.rep K) (arg5.view.rep V) gza gwb gc ga k
  rw [View.read_rep, View.read_rep] at h
  iapply h
  iexact H

end Entry

end Cert.KernelIdeal.Sb
end
-- ==== Proof.Body.lean ====
/-
  The run of the kernel body at one grid point.
-/
module

public import proofs.«01_k».proof.Proof.Loop

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld canon)

variable {F : FTy → Type} [FloatOps F] [Named F]

local notation "𝕄" => MT nD τ sig Unit (Elt F) ℕ (UR sig nD τ) ℕ

variable (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S512x256 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S32x2048 .f32) (harg9 : arg9.IsWhole) (arg10 : Memref sig .tc .vmem S256x512 .bf16) (harg10 : arg10.IsWhole) (arg11 : Memref sig .tc .vmem S512x256 .bf16) (harg11 : arg11.IsWhole) (arg12 : Memref sig .tc .vmem S16x2048 .bf16) (harg12 : arg12.IsWhole) (arg13 : Memref sig .tc .vmem S16x2048 .bf16) (harg13 : arg13.IsWhole) (arg14 : Memref sig .tc .vmem S32x2048 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x2048 .bf16) (harg17 : arg17.IsWhole) (arg18 : Memref sig .tc .vmem S256x2048 .bf16) (harg18 : arg18.IsWhole) (arg19 : Memref sig .tc .vmem S1x2048 .f32) (harg19 : arg19.IsWhole) (arg20 : Memref sig .tc .vmem S512x256 .f32) (harg20 : arg20.IsWhole)

/-- What the body is handed: the inputs' blocks, the outputs and the scratch at anything. -/
abbrev Before (Q : Vec F S256x512 .bf16) (K : Vec F S4096x512 .bf16) (V : Vec F S1x16x512x256 .bf16) (X6 : Vec F S512x256 .f32) (X7 : Vec F S16x2048 .f32) (X8 : Vec F S16x2048 .f32) (X9 : Vec F S32x2048 .f32) : sProp 𝕄 :=
  iprop((arg3.view.loc (c : Thread nD τ) ↦[arg3.view.set]{fullShare} arg3.view.rep Q) ∗ (arg4.view.loc (c : Thread nD τ) ↦[arg4.view.set]{fullShare} arg4.view.rep K) ∗ (arg5.view.loc (c : Thread nD τ) ↦[arg5.view.set]{fullShare} arg5.view.rep V) ∗ (arg6.view.loc (c : Thread nD τ) ↦[arg6.view.set]{fullShare} arg6.view.rep X6) ∗ (arg7.view.loc (c : Thread nD τ) ↦[arg7.view.set]{fullShare} arg7.view.rep X7) ∗ (arg8.view.loc (c : Thread nD τ) ↦[arg8.view.set]{fullShare} arg8.view.rep X8) ∗ (arg9.view.loc (c : Thread nD τ) ↦[arg9.view.set]{fullShare} arg9.view.rep X9) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f))

/-- What the body hands back: the inputs unchanged, the attention's block, the four weights' blocks rounded. -/
abbrev After (Q : Vec F S256x512 .bf16) (K : Vec F S4096x512 .bf16) (V : Vec F S1x16x512x256 .bf16) (X6 : Vec F S512x256 .f32) (X7 : Vec F S16x2048 .f32) (X8 : Vec F S16x2048 .f32) (X9 : Vec F S32x2048 .f32) : sProp 𝕄 :=
  iprop((arg3.view.loc (c : Thread nD τ) ↦[arg3.view.set]{fullShare} arg3.view.rep Q) ∗ (arg4.view.loc (c : Thread nD τ) ↦[arg4.view.set]{fullShare} arg4.view.rep K) ∗ (arg5.view.loc (c : Thread nD τ) ↦[arg5.view.set]{fullShare} arg5.view.rep V) ∗ (arg6.view.loc (c : Thread nD τ) ↦[arg6.view.set]{fullShare} arg6.view.rep X6) ∗ (arg7.view.loc (c : Thread nD τ) ↦[arg7.view.set]{fullShare} arg7.view.rep X7) ∗ (arg8.view.loc (c : Thread nD τ) ↦[arg8.view.set]{fullShare} arg8.view.rep X8) ∗ (arg9.view.loc (c : Thread nD τ) ↦[arg9.view.set]{fullShare} arg9.view.rep X9) ∗ (arg10.view.loc (c : Thread nD τ) ↦[arg10.view.set]{fullShare} arg10.view.rep (outF Q K V (qOf i))) ∗ (arg11.view.loc (c : Thread nD τ) ↦[arg11.view.set]{fullShare} arg11.view.rep (k0_pay93 X6)) ∗ (arg12.view.loc (c : Thread nD τ) ↦[arg12.view.set]{fullShare} arg12.view.rep (k0_pay94 X7)) ∗ (arg13.view.loc (c : Thread nD τ) ↦[arg13.view.set]{fullShare} arg13.view.rep (k0_pay95 X8)) ∗ (arg14.view.loc (c : Thread nD τ) ↦[arg14.view.set]{fullShare} arg14.view.rep (k0_pay96 X9)) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f))

end Cert.KernelIdeal.Sb
end
-- ==== Proof.Ends.lean ====
/-
  How the run before the loop and the run after it are named by the walk's functions.
-/
module

public import proofs.«01_k».proof.Proof.Body

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld canon)

variable {F : FTy → Type} [FloatOps F] [Named F]

local notation "𝕄" => MT nD τ sig Unit (Elt F) ℕ (UR sig nD τ) ℕ

/-! ## The walk at the loop's entry -/

theorem startF_even_za (Q : Vec F S256x512 .bf16) (K : Vec F S4096x512 .bf16) (V : Vec F S1x16x512x256 .bf16) {q : ℕ} (h : q % 2 = 0) :
    (startF Q K V q).za = scoreF (stack0 Q) (stack1 Q) (keyB K (q - 1)) := by rw [startF, if_pos h]; simp only [evenF]
theorem startF_even_wb (Q : Vec F S256x512 .bf16) (K : Vec F S4096x512 .bf16) (V : Vec F S1x16x512x256 .bf16) {q : ℕ} (h : q % 2 = 0) :
    (startF Q K V q).wb = weightM k0_pay107 k0_pay108 (scoreF (stack0 Q) (stack1 Q) (keyB K q)) k0_pay109 := by rw [startF, if_pos h]; simp only [evenF]
theorem startF_even_c (Q : Vec F S256x512 .bf16) (K : Vec F S4096x512 .bf16) (V : Vec F S1x16x512x256 .bf16) {q : ℕ} (h : q % 2 = 0) :
    (startF Q K V q).c = carryM k0_pay107 k0_pay108 (scoreF (stack0 Q) (stack1 Q) (keyB K q)) k0_pay109 := by rw [startF, if_pos h]; simp only [evenF]
theorem startF_even_a (Q : Vec F S256x512 .bf16) (K : Vec F S4096x512 .bf16) (V : Vec F S1x16x512x256 .bf16) {q : ℕ} (h : q % 2 = 0) :
    (startF Q K V q).a = k0_pay110 := by rw [startF, if_pos h]; simp only [evenF]
theorem startF_odd_za (Q : Vec F S256x512 .bf16) (K : Vec F S4096x512 .bf16) (V : Vec F S1x16x512x256 .bf16) {q : ℕ} (h : ¬ q % 2 = 0) :
    (startF Q K V q).za = scoreF (stack0 Q) (stack1 Q) (keyB K (q - 2)) := by rw [startF, if_neg h]; simp only [oddF]
theorem startF_odd_wb (Q : Vec F S256x512 .bf16) (K : Vec F S4096x512 .bf16) (V : Vec F S1x16x512x256 .bf16) {q : ℕ} (h : ¬ q % 2 = 0) :
    (startF Q K V q).wb = weightF k0_pay107 (scoreF (stack0 Q) (stack1 Q) (keyB K (q - 1)))
      (carryM k0_pay107 k0_pay108 (scoreF (stack0 Q) (stack1 Q) (keyB K q)) k0_pay109) := by rw [startF, if_neg h]; simp only [oddF]
theorem startF_odd_c (Q : Vec F S256x512 .bf16) (K : Vec F S4096x512 .bf16) (V : Vec F S1x16x512x256 .bf16) {q : ℕ} (h : ¬ q % 2 = 0) :
    (startF Q K V q).c = carryF k0_pay107 (scoreF (stack0 Q) (stack1 Q) (keyB K (q - 1)))
      (carryM k0_pay107 k0_pay108 (scoreF (stack0 Q) (stack1 Q) (keyB K q)) k0_pay109) := by rw [startF, if_neg h]; simp only [oddF]
theorem startF_odd_a (Q : Vec F S256x512 .bf16) (K : Vec F S4096x512 .bf16) (V : Vec F S1x16x512x256 .bf16) {q : ℕ} (h : ¬ q % 2 = 0) :
    (startF Q K V q).a = addF V q (weightM k0_pay107 k0_pay108 (scoreF (stack0 Q) (stack1 Q) (keyB K q)) k0_pay109) k0_pay110 := by
  rw [startF, if_neg h]; simp only [oddF]

/-- The walk read off the buffers, field by field. -/
theorem entry_eq (c : Dev nD) (arg15 : Memref sig .tc .vmem S256x2048 .f32) (arg18 : Memref sig .tc .vmem S256x2048 .bf16)
    (arg19 : Memref sig .tc .vmem S1x2048 .f32) (arg20 : Memref sig .tc .vmem S512x256 .f32)
    (gza : Buf (Elt F) (arg15.view.loc (c : Thread nD τ))) (gwb : Buf (Elt F) (arg18.view.loc (c : Thread nD τ)))
    (gc : Buf (Elt F) (arg19.view.loc (c : Thread nD τ))) (ga : Buf (Elt F) (arg20.view.loc (c : Thread nD τ))) {s : Walk F}
    (h1 : arg15.view.read (Elt F) gza = s.za) (h2 : arg18.view.read (Elt F) gwb = s.wb) (h3 : arg19.view.read (Elt F) gc = s.c)
    (h4 : arg20.view.read (Elt F) ga = s.a) : entry c arg15 arg18 arg19 arg20 gza gwb gc ga = s := by
  cases s
  simp only at h1 h2 h3 h4
  subst h1 h2 h3 h4
  rfl

/-- The walk after the loop, once its ingredients are known. -/
theorem walk_done {Q : Vec F S256x512 .bf16} {K : Vec F S4096x512 .bf16} {V : Vec F S1x16x512x256 .bf16} {q0 q1 : FVec F S256x1024 .bf16}
    {incl : FVec F S256x256 .bf16} {q k : ℕ} {e s : Walk F} (hs : s = walkF K V q0 q1 incl (q / 2) e k) (h0 : q0 = stack0 Q) (h1 : q1 = stack1 Q)
    (h2 : incl = k0_pay107) (hk : k = q / 2) (he : e = startF Q K V q) :
    s = walkF K V (stack0 Q) (stack1 Q) k0_pay107 (q / 2) (startF Q K V q) (q / 2) := by
  subst h0 h1 h2 hk he
  exact hs

/-- The output block from the walk after the loop: block 0's values are still to be added. -/
theorem outF_of {Q : Vec F S256x512 .bf16} {K : Vec F S4096x512 .bf16} {V : Vec F S1x16x512x256 .bf16} {q : ℕ} {s : Walk F}
    (hs : s = walkF K V (stack0 Q) (stack1 Q) k0_pay107 (q / 2) (startF Q K V q) (q / 2)) : k0_pay2 (addF V 0 s.wb s.a) = outF Q K V q := by
  subst hs
  simp only [outF]

/-- One head's sum, its three operands loaded. -/
theorem band_of (v5 : View sig .tc .vmem S1x16x512x256 .bf16) (v20 : View sig .tc .vmem S512x256 .f32) (v18 : View sig .tc .vmem S256x2048 .bf16)
    (V : Vec F S1x16x512x256 .bf16) (A : Vec F S512x256 .f32) (w : Vec F S256x2048 .bf16) {off : Fin 4 → ℕ} (j h : ℕ) (e : off = ![0, j, 64 * h, 0]) (hj : j < 16)
    (hh : h < 8) (inb : ∀ a, off a + S1x1x64x256.size a ≤ S1x16x512x256.size a) {oA : Fin 2 → ℕ} (iA : ∀ a, oA a + S64x256.size a ≤ S512x256.size a)
    {oW : Fin 2 → ℕ} (iW : ∀ a, oW a + S256x256.size a ≤ S256x2048.size a) :
    k0_pay40 (v5.readAt (Elt F) (Rect.unit (s := S1x16x512x256) off S1x1x64x256.size inb).toLoadRect (v5.rep V))
        (v20.readAt (Elt F) (Rect.unit (s := S512x256) oA S64x256.size iA).toLoadRect (v20.rep A))
        (v18.readAt (Elt F) (Rect.unit (s := S256x2048) oW S256x256.size iW).toLoadRect (v18.rep w))
      = k0_pay40 (valB V j h) (ld A (Rect.unit (s := S512x256) oA S64x256.size iA)) (ld w (Rect.unit (s := S256x2048) oW S256x256.size iW)) := by
  rw [load_val V j h e hj hh, View.readAt_rep, View.readAt_rep]

end Cert.KernelIdeal.Sb
end
-- ==== Proof.RunEven.lean ====
/-
  The run of the kernel body at one grid point: an even query block.
-/
module

public import proofs.«01_k».proof.Proof.Ends

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld canon)

variable {F : FTy → Type} [FloatOps F] [Named F]

local notation "𝕄" => MT nD τ sig Unit (Elt F) ℕ (UR sig nD τ) ℕ

variable (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S512x256 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S32x2048 .f32) (harg9 : arg9.IsWhole) (arg10 : Memref sig .tc .vmem S256x512 .bf16) (harg10 : arg10.IsWhole) (arg11 : Memref sig .tc .vmem S512x256 .bf16) (harg11 : arg11.IsWhole) (arg12 : Memref sig .tc .vmem S16x2048 .bf16) (harg12 : arg12.IsWhole) (arg13 : Memref sig .tc .vmem S16x2048 .bf16) (harg13 : arg13.IsWhole) (arg14 : Memref sig .tc .vmem S32x2048 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x2048 .bf16) (harg17 : arg17.IsWhole) (arg18 : Memref sig .tc .vmem S256x2048 .bf16) (harg18 : arg18.IsWhole) (arg19 : Memref sig .tc .vmem S1x2048 .f32) (harg19 : arg19.IsWhole) (arg20 : Memref sig .tc .vmem S512x256 .f32) (harg20 : arg20.IsWhole)

set_option maxHeartbeats 2000000 in
/-- The body at an even query block. -/
theorem run_even (hp : qOf i % 2 = 0) (Q : Vec F S256x512 .bf16) (K : Vec F S4096x512 .bf16) (V : Vec F S1x16x512x256 .bf16) (X6 : Vec F S512x256 .f32) (X7 : Vec F S16x2048 .f32) (X8 : Vec F S16x2048 .f32) (X9 : Vec F S32x2048 .f32) :
    Before (F := F) c arg3 arg4 arg5 arg6 arg7 arg8 arg9 arg10 arg11 arg12 arg13 arg14 arg15 arg16 arg17 arg18 arg19 arg20 Q K V X6 X7 X8 X9
      ⊢ wp frame (wpE (defs₀ (F := F)) 𝒱₀ (c : Thread nD τ) none) Set.univ (cc0_sb_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => After (F := F) c i arg3 arg4 arg5 arg6 arg7 arg8 arg9 arg10 arg11 arg12 arg13 arg14 arg15 arg16 arg17 arg18 arg19 arg20 Q K V X6 X7 X8 X9) := by
  have h1 : k0_cond1 i = 1#1 := (cond1 i).mpr hp
  have h2 : ¬ k0_cond2 i = 1#1 := fun h => ((cond2 i).mp h) hp
  have hq := qOf_lt i
  unfold Before After
  iintro ⟨H3, H4, H5, H6, H7, H8, H9, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩⟩
  sl_unfold [cc0_sb_attn]
  sl_exec
  ihave HL := (loop_done (F := F) c i arg4 arg5 arg15 arg16 arg17 arg18 arg19 arg20 _ _ _ _ _ _ _ _ K V) $$ [H4 H5 H15 H16 H17 H18 H19 H20]
  · unfold loopHeld Held
    isplitl [H4]; · iexact H4
    isplitl [H5]; · iexact H5
    isplitl [H15]; · iexact H15
    isplitl [H16]; · iexists _; iexact H16
    isplitl [H17]; · iexists _; iexact H17
    isplitl [H18]; · iexact H18
    isplitl [H19]; · iexact H19
    iexact H20
  icases HL with ⟨%s, %hs, H4, H5, H15, ⟨%g16', H16⟩, ⟨%g17', H17⟩, H18, H19, H20⟩
  have htr := trips2 i
  sl_exec
  have e65 : run_even.sl.v65 arg3 Q = stack0 Q :=
    (show run_even.sl.v65 arg3 Q = stack0 (arg3.view.readAt (Elt F) (Rect.unit (s := S256x512) ![0, 0] S256x512.size inb_S256x512_S256x512_0_0).toLoadRect (arg3.view.rep Q)) from rfl).trans (congrArg stack0 (readAt_all _ _ _))
  have e83 : run_even.sl.v83 arg3 Q = stack1 Q :=
    (show run_even.sl.v83 arg3 Q = stack1 (arg3.view.readAt (Elt F) (Rect.unit (s := S256x512) ![0, 0] S256x512.size inb_S256x512_S256x512_0_0).toLoadRect (arg3.view.rep Q)) from rfl).trans (congrArg stack1 (readAt_all _ _ _))
  have e89 : (run_even.sl.v89 : FVec F S256x256 .bf16) = k0_pay107 := rfl
  have e94 : run_even.sl.v94 = k0_pay108 := rfl
  have e271 : run_even.sl.v271 arg19 = (k0_pay109 : FVec F S1x2048 .f32) := by
    delta run_even.sl.v271 run_even.sl.H19_1
    rw [View.readCov_full]
    rfl
  have e270 : run_even.sl.v270 i arg3 arg4 arg16 Q K h1 = scoreF (stack0 Q) (stack1 Q) (keyB K (qOf i)) := by
    delta run_even.sl.v270
    rw [readCov_all]
    delta run_even.sl.H16_2
    refine scoreF_of _ _ _ _ _ ?_ ?_
    · rw [load_key K _ (off1 i) (by omega), e65] <;> rfl
    · rw [load_key K _ (off1 i) (by omega), e83] <;> rfl
  have hs' : s = walkF K V (stack0 Q) (stack1 Q) k0_pay107 (qOf i / 2) (startF Q K V (qOf i)) (qOf i / 2) := by
    refine walk_done hs e65 e83 e89 (trips1 i) (entry_eq c arg15 arg18 arg19 arg20 _ _ _ _ ?_ ?_ ?_ ?_)
    · refine (read_halves arg15.view _ _ _ []).trans ?_
      rw [startF_even_za Q K V hp]
      refine scoreF_of _ _ _ _ _ ?_ ?_
      · rw [load_key K _ (off2 i hp) (by omega), e65] <;> rfl
      · rw [load_key K _ (off2 i hp) (by omega), e83] <;> rfl
    · refine (View.read_writes_full arg18.view _ _ _ []).trans ?_
      rw [startF_even_wb Q K V hp, ← e94, ← e89, ← e271, ← e270]
      rfl
    · refine (View.read_writes_full arg19.view _ _ _ run_even.sl.H19_1).trans ?_
      rw [startF_even_c Q K V hp, ← e94, ← e89, ← e271, ← e270]
      rfl
    · refine (View.read_writes_full arg20.view _ _ _ []).trans ?_
      rw [startF_even_a Q K V hp]
      rfl
  have e237 : run_even.sl.v237 arg5 arg18 arg20 V s = addF V 0 s.wb s.a := by
    delta run_even.sl.v237
    rw [readCov_all]
    delta run_even.sl.H20_8
    refine addF_of V 0 s.wb s.a _ _ _ _ _ _ _ _ ?_ ?_ ?_ ?_ ?_ ?_ ?_ ?_
    · exact band_of arg5.view arg20.view arg18.view V s.a s.wb (off := ![0, 0, 0, 0]) 0 0 rfl (by decide) (by decide) inb_S1x16x512x256_S1x1x64x256_0_0_0_0 inb_S512x256_S64x256_0_0 inb_S256x2048_S256x256_0_0
    · exact band_of arg5.view arg20.view arg18.view V s.a s.wb (off := ![0, 0, 64, 0]) 0 1 rfl (by decide) (by decide) inb_S1x16x512x256_S1x1x64x256_0_0_64_0 inb_S512x256_S64x256_64_0 inb_S256x2048_S256x256_0_256
    · exact band_of arg5.view arg20.view arg18.view V s.a s.wb (off := ![0, 0, 128, 0]) 0 2 rfl (by decide) (by decide) inb_S1x16x512x256_S1x1x64x256_0_0_128_0 inb_S512x256_S64x256_128_0 inb_S256x2048_S256x256_0_512
    · exact band_of arg5.view arg20.view arg18.view V s.a s.wb (off := ![0, 0, 192, 0]) 0 3 rfl (by decide) (by decide) inb_S1x16x512x256_S1x1x64x256_0_0_192_0 inb_S512x256_S64x256_192_0 inb_S256x2048_S256x256_0_768
    · exact band_of arg5.view arg20.view arg18.view V s.a s.wb (off := ![0, 0, 256, 0]) 0 4 rfl (by decide) (by decide) inb_S1x16x512x256_S1x1x64x256_0_0_256_0 inb_S512x256_S64x256_256_0 inb_S256x2048_S256x256_0_1024
    · exact band_of arg5.view arg20.view arg18.view V s.a s.wb (off := ![0, 0, 320, 0]) 0 5 rfl (by decide) (by decide) inb_S1x16x512x256_S1x1x64x256_0_0_320_0 inb_S512x256_S64x256_320_0 inb_S256x2048_S256x256_0_1280
    · exact band_of arg5.view arg20.view arg18.view V s.a s.wb (off := ![0, 0, 384, 0]) 0 6 rfl (by decide) (by decide) inb_S1x16x512x256_S1x1x64x256_0_0_384_0 inb_S512x256_S64x256_384_0 inb_S256x2048_S256x256_0_1536
    · exact band_of arg5.view arg20.view arg18.view V s.a s.wb (off := ![0, 0, 448, 0]) 0 7 rfl (by decide) (by decide) inb_S1x16x512x256_S1x1x64x256_0_0_448_0 inb_S512x256_S64x256_448_0 inb_S256x2048_S256x256_0_1792
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (pointsTo_rep_of_read (c : Thread nD τ) arg10 _ fullShare _ ?_)
    rotate_left 1; · iexact H10
    rw [View.read_writes_full, e237, outF_of hs']
  isplitl [H11]
  · iapply (pointsTo_rep_of_read (c : Thread nD τ) arg11 _ fullShare _ ?_)
    rotate_left 1; · iexact H11
    delta run_even.sl.H11_1
    rw [View.read_writes_full]
    exact (show run_even.sl.v2 arg6 X6 = k0_pay93 (arg6.view.readAt (Elt F) (Rect.unit (s := S512x256) ![0, 0] S512x256.size inb_S512x256_S512x256_0_0).toLoadRect (arg6.view.rep X6)) from rfl).trans
      (congrArg k0_pay93 (readAt_all _ _ _))
  isplitl [H12]
  · iapply (pointsTo_rep_of_read (c : Thread nD τ) arg12 _ fullShare _ ?_)
    rotate_left 1; · iexact H12
    delta run_even.sl.H12_1
    rw [View.read_writes_full]
    exact (show run_even.sl.v6 arg7 X7 = k0_pay94 (arg7.view.readAt (Elt F) (Rect.unit (s := S16x2048) ![0, 0] S16x2048.size inb_S16x2048_S16x2048_0_0).toLoadRect (arg7.view.rep X7)) from rfl).trans
      (congrArg k0_pay94 (readAt_all _ _ _))
  isplitl [H13]
  · iapply (pointsTo_rep_of_read (c : Thread nD τ) arg13 _ fullShare _ ?_)
    rotate_left 1; · iexact H13
    delta run_even.sl.H13_1
    rw [View.read_writes_full]
    exact (show run_even.sl.v10 arg8 X8 = k0_pay95 (arg8.view.readAt (Elt F) (Rect.unit (s := S16x2048) ![0, 0] S16x2048.size inb_S16x2048_S16x2048_0_0).toLoadRect (arg8.view.rep X8)) from rfl).trans
      (congrArg k0_pay95 (readAt_all _ _ _))
  isplitl [H14]
  · iapply (pointsTo_rep_of_read (c : Thread nD τ) arg14 _ fullShare _ ?_)
    rotate_left 1; · iexact H14
    delta run_even.sl.H14_1
    rw [View.read_writes_full]
    exact (show run_even.sl.v14 arg9 X9 = k0_pay96 (arg9.view.readAt (Elt F) (Rect.unit (s := S32x2048) ![0, 0] S32x2048.size inb_S32x2048_S32x2048_0_0).toLoadRect (arg9.view.rep X9)) from rfl).trans
      (congrArg k0_pay96 (readAt_all _ _ _))
  isplitl [H15]; · iexists _; iexact H15
  isplitl [H16]; · iexists _; iexact H16
  isplitl [H17]; · iexists _; iexact H17
  isplitl [H18]; · iexists _; iexact H18
  isplitl [H19]; · iexists _; iexact H19
  iexists _; iexact H20

end Cert.KernelIdeal.Sb
end
-- ==== Proof.RunOdd.lean ====
/-
  The run of the kernel body at one grid point: an odd query block.
-/
module

public import proofs.«01_k».proof.Proof.Ends

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld canon)

variable {F : FTy → Type} [FloatOps F] [Named F]

local notation "𝕄" => MT nD τ sig Unit (Elt F) ℕ (UR sig nD τ) ℕ

variable (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S512x256 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S32x2048 .f32) (harg9 : arg9.IsWhole) (arg10 : Memref sig .tc .vmem S256x512 .bf16) (harg10 : arg10.IsWhole) (arg11 : Memref sig .tc .vmem S512x256 .bf16) (harg11 : arg11.IsWhole) (arg12 : Memref sig .tc .vmem S16x2048 .bf16) (harg12 : arg12.IsWhole) (arg13 : Memref sig .tc .vmem S16x2048 .bf16) (harg13 : arg13.IsWhole) (arg14 : Memref sig .tc .vmem S32x2048 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x2048 .bf16) (harg17 : arg17.IsWhole) (arg18 : Memref sig .tc .vmem S256x2048 .bf16) (harg18 : arg18.IsWhole) (arg19 : Memref sig .tc .vmem S1x2048 .f32) (harg19 : arg19.IsWhole) (arg20 : Memref sig .tc .vmem S512x256 .f32) (harg20 : arg20.IsWhole)

set_option maxHeartbeats 2000000 in
/-- The body at an odd query block. -/
theorem run_odd (hp : ¬ qOf i % 2 = 0) (Q : Vec F S256x512 .bf16) (K : Vec F S4096x512 .bf16) (V : Vec F S1x16x512x256 .bf16) (X6 : Vec F S512x256 .f32) (X7 : Vec F S16x2048 .f32) (X8 : Vec F S16x2048 .f32) (X9 : Vec F S32x2048 .f32) :
    Before (F := F) c arg3 arg4 arg5 arg6 arg7 arg8 arg9 arg10 arg11 arg12 arg13 arg14 arg15 arg16 arg17 arg18 arg19 arg20 Q K V X6 X7 X8 X9
      ⊢ wp frame (wpE (defs₀ (F := F)) 𝒱₀ (c : Thread nD τ) none) Set.univ (cc0_sb_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => After (F := F) c i arg3 arg4 arg5 arg6 arg7 arg8 arg9 arg10 arg11 arg12 arg13 arg14 arg15 arg16 arg17 arg18 arg19 arg20 Q K V X6 X7 X8 X9) := by
  have h2 : k0_cond2 i = 1#1 := (cond2 i).mpr hp
  have h1 : ¬ k0_cond1 i = 1#1 := fun h => hp ((cond1 i).mp h)
  have hq := qOf_lt i
  unfold Before After
  iintro ⟨H3, H4, H5, H6, H7, H8, H9, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩⟩
  sl_unfold [cc0_sb_attn]
  sl_exec
  ihave HL := (loop_done (F := F) c i arg4 arg5 arg15 arg16 arg17 arg18 arg19 arg20 _ _ _ _ _ _ _ _ K V) $$ [H4 H5 H15 H16 H17 H18 H19 H20]
  · unfold loopHeld Held
    isplitl [H4]; · iexact H4
    isplitl [H5]; · iexact H5
    isplitl [H15]; · iexact H15
    isplitl [H16]; · iexists _; iexact H16
    isplitl [H17]; · iexists _; iexact H17
    isplitl [H18]; · iexact H18
    isplitl [H19]; · iexact H19
    iexact H20
  icases HL with ⟨%s, %hs, H4, H5, H15, ⟨%g16', H16⟩, ⟨%g17', H17⟩, H18, H19, H20⟩
  have htr := trips2 i
  sl_exec
  have e65 : run_odd.sl.v65 arg3 Q = stack0 Q :=
    (show run_odd.sl.v65 arg3 Q = stack0 (arg3.view.readAt (Elt F) (Rect.unit (s := S256x512) ![0, 0] S256x512.size inb_S256x512_S256x512_0_0).toLoadRect (arg3.view.rep Q)) from rfl).trans (congrArg stack0 (readAt_all _ _ _))
  have e83 : run_odd.sl.v83 arg3 Q = stack1 Q :=
    (show run_odd.sl.v83 arg3 Q = stack1 (arg3.view.readAt (Elt F) (Rect.unit (s := S256x512) ![0, 0] S256x512.size inb_S256x512_S256x512_0_0).toLoadRect (arg3.view.rep Q)) from rfl).trans (congrArg stack1 (readAt_all _ _ _))
  have e89 : (run_odd.sl.v89 : FVec F S256x256 .bf16) = k0_pay107 := rfl
  have e94 : run_odd.sl.v94 = k0_pay108 := rfl
  have e271 : run_odd.sl.v271 arg19 = (k0_pay109 : FVec F S1x2048 .f32) := by
    delta run_odd.sl.v271 run_odd.sl.H19_1
    rw [View.readCov_full]
    rfl
  have e270 : run_odd.sl.v270 i arg3 arg4 arg15 Q K h2 = scoreF (stack0 Q) (stack1 Q) (keyB K (qOf i)) := by
    delta run_odd.sl.v270
    rw [readCov_all]
    delta run_odd.sl.H15_2
    refine scoreF_of _ _ _ _ _ ?_ ?_
    · rw [load_key K _ (off3 i) (by omega), e65] <;> rfl
    · rw [load_key K _ (off3 i) (by omega), e83] <;> rfl
  have e393 : run_odd.sl.v393 i arg3 arg4 arg16 Q K h2 = scoreF (stack0 Q) (stack1 Q) (keyB K (qOf i - 1)) := by
    delta run_odd.sl.v393
    rw [readCov_all]
    delta run_odd.sl.H16_2
    refine scoreF_of _ _ _ _ _ ?_ ?_
    · rw [load_key K _ (off4 i hp) (by omega), e65] <;> rfl
    · rw [load_key K _ (off4 i hp) (by omega), e83] <;> rfl
  have e292 : run_odd.sl.v292 i arg3 arg4 arg15 arg19 Q K h2
      = weightM k0_pay107 k0_pay108 (scoreF (stack0 Q) (stack1 Q) (keyB K (qOf i))) k0_pay109 := by
    rw [← e94, ← e89, ← e271, ← e270]
    rfl
  have e394 : run_odd.sl.v394 i arg3 arg4 arg15 arg19 Q K h2
      = carryM k0_pay107 k0_pay108 (scoreF (stack0 Q) (stack1 Q) (keyB K (qOf i))) k0_pay109 := by
    delta run_odd.sl.v394 run_odd.sl.H19_2
    rw [View.readCov_full, ← e94, ← e89, ← e271, ← e270]
    rfl
  have hs' : s = walkF K V (stack0 Q) (stack1 Q) k0_pay107 (qOf i / 2) (startF Q K V (qOf i)) (qOf i / 2) := by
    refine walk_done hs e65 e83 e89 (trips1 i) (entry_eq c arg15 arg18 arg19 arg20 _ _ _ _ ?_ ?_ ?_ ?_)
    · refine (read_halves arg15.view _ _ _ (run_odd.sl.H15_2 i arg3 arg4 Q K h2)).trans ?_
      rw [startF_odd_za Q K V hp]
      refine scoreF_of _ _ _ _ _ ?_ ?_
      · delta run_odd.sl.v307 run_odd.sl.v304 run_odd.sl.v303 run_odd.sl.v302
        rw [load_key K _ (off5 i hp) (by omega), e65] <;> rfl
      · delta run_odd.sl.v312 run_odd.sl.v309 run_odd.sl.v308 run_odd.sl.v302
        rw [load_key K _ (off5 i hp) (by omega), e83] <;> rfl
    · refine (View.read_writes_full arg18.view _ _ _ []).trans ?_
      rw [startF_odd_wb Q K V hp, ← e394, ← e393, ← e89]
      rfl
    · refine (View.read_writes_full arg19.view _ _ _ (run_odd.sl.H19_2 i arg3 arg4 arg15 arg19 Q K h2)).trans ?_
      rw [startF_odd_c Q K V hp, ← e394, ← e393, ← e89]
      rfl
    · refine (read_bands arg20.view _ _ _ _ _ _ _ _ _ run_odd.sl.H20_1).trans ?_
      rw [startF_odd_a Q K V hp]
      refine addF_of V _ _ _ _ _ _ _ _ _ _ _ ?_ ?_ ?_ ?_ ?_ ?_ ?_ ?_
      · delta run_odd.sl.v322 run_odd.sl.v319 run_odd.sl.v318 run_odd.sl.v315
        delta run_odd.sl.v316
        delta run_odd.sl.H20_1
        delta run_odd.sl.v317
        delta run_odd.sl.H17_1
        simp (disch := decide) only [View.readCov_skip, View.readCov_cons_toLoadRect]
        simp (disch := decide) only [View.readCov_fill, load_val V _ 0 (off6 i) (by omega) (by decide)]
        rw [e292]
        rfl
      · delta run_odd.sl.v332 run_odd.sl.v329 run_odd.sl.v328 run_odd.sl.v325
        delta run_odd.sl.v326
        delta run_odd.sl.H20_2 run_odd.sl.H20_1
        delta run_odd.sl.v327
        delta run_odd.sl.H17_1
        simp (disch := decide) only [View.readCov_skip, View.readCov_cons_toLoadRect]
        simp (disch := decide) only [View.readCov_fill, load_val V _ 1 (off7 i) (by omega) (by decide)]
        rw [e292]
        rfl
      · delta run_odd.sl.v342 run_odd.sl.v339 run_odd.sl.v338 run_odd.sl.v335
        delta run_odd.sl.v336
        delta run_odd.sl.H20_3 run_odd.sl.H20_2 run_odd.sl.H20_1
        delta run_odd.sl.v337
        delta run_odd.sl.H17_1
        simp (disch := decide) only [View.readCov_skip, View.readCov_cons_toLoadRect]
        simp (disch := decide) only [View.readCov_fill, load_val V _ 2 (off8 i) (by omega) (by decide)]
        rw [e292]
        rfl
      · delta run_odd.sl.v352 run_odd.sl.v349 run_odd.sl.v348 run_odd.sl.v345
        delta run_odd.sl.v346
        delta run_odd.sl.H20_4 run_odd.sl.H20_3 run_odd.sl.H20_2 run_odd.sl.H20_1
        delta run_odd.sl.v347
        delta run_odd.sl.H17_1
        simp (disch := decide) only [View.readCov_skip, View.readCov_cons_toLoadRect]
        simp (disch := decide) only [View.readCov_fill, load_val V _ 3 (off9 i) (by omega) (by decide)]
        rw [e292]
        rfl
      · delta run_odd.sl.v362 run_odd.sl.v359 run_odd.sl.v358 run_odd.sl.v355
        delta run_odd.sl.v356
        delta run_odd.sl.H20_5 run_odd.sl.H20_4 run_odd.sl.H20_3 run_odd.sl.H20_2 run_odd.sl.H20_1
        delta run_odd.sl.v357
        delta run_odd.sl.H17_1
        simp (disch := decide) only [View.readCov_skip, View.readCov_cons_toLoadRect]
        simp (disch := decide) only [View.readCov_fill, load_val V _ 4 (off10 i) (by omega) (by decide)]
        rw [e292]
        rfl
      · delta run_odd.sl.v369 run_odd.sl.v368 run_odd.sl.v365
        delta run_odd.sl.v366
        delta run_odd.sl.H20_6 run_odd.sl.H20_5 run_odd.sl.H20_4 run_odd.sl.H20_3 run_odd.sl.H20_2 run_odd.sl.H20_1
        delta run_odd.sl.v367
        delta run_odd.sl.H17_1
        simp (disch := decide) only [View.readCov_skip, View.readCov_cons_toLoadRect]
        simp (disch := decide) only [View.readCov_fill, load_val V _ 5 (off11 i) (by omega) (by decide)]
        rw [e292]
        rfl
      · delta run_odd.sl.v376
        delta run_odd.sl.H20_7 run_odd.sl.H20_6 run_odd.sl.H20_5 run_odd.sl.H20_4 run_odd.sl.H20_3 run_odd.sl.H20_2 run_odd.sl.H20_1
        delta run_odd.sl.v377
        delta run_odd.sl.H17_1
        simp (disch := decide) only [View.readCov_skip, View.readCov_cons_toLoadRect]
        simp (disch := decide) only [View.readCov_fill, load_val V _ 6 (off12 i) (by omega) (by decide)]
        rw [e292]
        rfl
      · delta run_odd.sl.v386
        delta run_odd.sl.H20_8 run_odd.sl.H20_7 run_odd.sl.H20_6 run_odd.sl.H20_5 run_odd.sl.H20_4 run_odd.sl.H20_3 run_odd.sl.H20_2 run_odd.sl.H20_1
        delta run_odd.sl.v387
        delta run_odd.sl.H17_1
        simp (disch := decide) only [View.readCov_skip, View.readCov_cons_toLoadRect]
        simp (disch := decide) only [View.readCov_fill, load_val V _ 7 (off13 i) (by omega) (by decide)]
        rw [e292]
        rfl
  have e237 : run_odd.sl.v237 arg5 arg18 arg20 V s = addF V 0 s.wb s.a := by
    delta run_odd.sl.v237
    rw [readCov_all]
    delta run_odd.sl.H20_8_1
    refine addF_of V 0 s.wb s.a _ _ _ _ _ _ _ _ ?_ ?_ ?_ ?_ ?_ ?_ ?_ ?_
    · exact band_of arg5.view arg20.view arg18.view V s.a s.wb (off := ![0, 0, 0, 0]) 0 0 rfl (by decide) (by decide) inb_S1x16x512x256_S1x1x64x256_0_0_0_0 inb_S512x256_S64x256_0_0 inb_S256x2048_S256x256_0_0
    · exact band_of arg5.view arg20.view arg18.view V s.a s.wb (off := ![0, 0, 64, 0]) 0 1 rfl (by decide) (by decide) inb_S1x16x512x256_S1x1x64x256_0_0_64_0 inb_S512x256_S64x256_64_0 inb_S256x2048_S256x256_0_256
    · exact band_of arg5.view arg20.view arg18.view V s.a s.wb (off := ![0, 0, 128, 0]) 0 2 rfl (by decide) (by decide) inb_S1x16x512x256_S1x1x64x256_0_0_128_0 inb_S512x256_S64x256_128_0 inb_S256x2048_S256x256_0_512
    · exact band_of arg5.view arg20.view arg18.view V s.a s.wb (off := ![0, 0, 192, 0]) 0 3 rfl (by decide) (by decide) inb_S1x16x512x256_S1x1x64x256_0_0_192_0 inb_S512x256_S64x256_192_0 inb_S256x2048_S256x256_0_768
    · exact band_of arg5.view arg20.view arg18.view V s.a s.wb (off := ![0, 0, 256, 0]) 0 4 rfl (by decide) (by decide) inb_S1x16x512x256_S1x1x64x256_0_0_256_0 inb_S512x256_S64x256_256_0 inb_S256x2048_S256x256_0_1024
    · exact band_of arg5.view arg20.view arg18.view V s.a s.wb (off := ![0, 0, 320, 0]) 0 5 rfl (by decide) (by decide) inb_S1x16x512x256_S1x1x64x256_0_0_320_0 inb_S512x256_S64x256_320_0 inb_S256x2048_S256x256_0_1280
    · exact band_of arg5.view arg20.view arg18.view V s.a s.wb (off := ![0, 0, 384, 0]) 0 6 rfl (by decide) (by decide) inb_S1x16x512x256_S1x1x64x256_0_0_384_0 inb_S512x256_S64x256_384_0 inb_S256x2048_S256x256_0_1536
    · exact band_of arg5.view arg20.view arg18.view V s.a s.wb (off := ![0, 0, 448, 0]) 0 7 rfl (by decide) (by decide) inb_S1x16x512x256_S1x1x64x256_0_0_448_0 inb_S512x256_S64x256_448_0 inb_S256x2048_S256x256_0_1792
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (pointsTo_rep_of_read (c : Thread nD τ) arg10 _ fullShare _ ?_)
    rotate_left 1; · iexact H10
    rw [View.read_writes_full, e237, outF_of hs']
  isplitl [H11]
  · iapply (pointsTo_rep_of_read (c : Thread nD τ) arg11 _ fullShare _ ?_)
    rotate_left 1; · iexact H11
    delta run_odd.sl.H11_1
    rw [View.read_writes_full]
    exact (show run_odd.sl.v2 arg6 X6 = k0_pay93 (arg6.view.readAt (Elt F) (Rect.unit (s := S512x256) ![0, 0] S512x256.size inb_S512x256_S512x256_0_0).toLoadRect (arg6.view.rep X6)) from rfl).trans
      (congrArg k0_pay93 (readAt_all _ _ _))
  isplitl [H12]
  · iapply (pointsTo_rep_of_read (c : Thread nD τ) arg12 _ fullShare _ ?_)
    rotate_left 1; · iexact H12
    delta run_odd.sl.H12_1
    rw [View.read_writes_full]
    exact (show run_odd.sl.v6 arg7 X7 = k0_pay94 (arg7.view.readAt (Elt F) (Rect.unit (s := S16x2048) ![0, 0] S16x2048.size inb_S16x2048_S16x2048_0_0).toLoadRect (arg7.view.rep X7)) from rfl).trans
      (congrArg k0_pay94 (readAt_all _ _ _))
  isplitl [H13]
  · iapply (pointsTo_rep_of_read (c : Thread nD τ) arg13 _ fullShare _ ?_)
    rotate_left 1; · iexact H13
    delta run_odd.sl.H13_1
    rw [View.read_writes_full]
    exact (show run_odd.sl.v10 arg8 X8 = k0_pay95 (arg8.view.readAt (Elt F) (Rect.unit (s := S16x2048) ![0, 0] S16x2048.size inb_S16x2048_S16x2048_0_0).toLoadRect (arg8.view.rep X8)) from rfl).trans
      (congrArg k0_pay95 (readAt_all _ _ _))
  isplitl [H14]
  · iapply (pointsTo_rep_of_read (c : Thread nD τ) arg14 _ fullShare _ ?_)
    rotate_left 1; · iexact H14
    delta run_odd.sl.H14_1
    rw [View.read_writes_full]
    exact (show run_odd.sl.v14 arg9 X9 = k0_pay96 (arg9.view.readAt (Elt F) (Rect.unit (s := S32x2048) ![0, 0] S32x2048.size inb_S32x2048_S32x2048_0_0).toLoadRect (arg9.view.rep X9)) from rfl).trans
      (congrArg k0_pay96 (readAt_all _ _ _))
  isplitl [H15]; · iexists _; iexact H15
  isplitl [H16]; · iexists _; iexact H16
  isplitl [H17]; · iexists _; iexact H17
  isplitl [H18]; · iexists _; iexact H18
  isplitl [H19]; · iexists _; iexact H19
  iexists _; iexact H20

end Cert.KernelIdeal.Sb
end
-- ==== Proof.Run.lean ====
/-
  The run of the whole program: the launch's data, the body at every grid point, and the pipeline around it.
-/
module

public import proofs.«01_k».proof.Proof.RunEven
public import proofs.«01_k».proof.Proof.RunOdd
public import Idealize.ShloMosaic.Lib.Pipeline.Quiescent

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The launch's data -/

/-- What each window's buffer holds after the body at point `t`: an input its block, the attention its block of
    outputs, the other four results their blocks of rounded weights. -/
def afterW (c : Dev nD) (t : Fin cfg0.N) : (w : Fin cfg0.W) → (cfg0.win w).block.Idx → Elt F (cfg0.win w).elt
  | ⟨0, _⟩ => X0_0 m c t
  | ⟨1, _⟩ => X0_1 m c t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => outF (X0_0 m c t) (X0_1 m c t) (iblk m c 2 t) (qOf (grid0.coords t))
  | ⟨8, _⟩ => k0_pay93 (iblk m c 3 t)
  | ⟨9, _⟩ => k0_pay94 (iblk m c 4 t)
  | ⟨10, _⟩ => k0_pay95 (iblk m c 5 t)
  | ⟨11, _⟩ => k0_pay96 (iblk m c 6 t)
  | ⟨_ + 12, h⟩ => absurd h (Nat.not_lt.2 (Nat.le_add_left _ _))

/-- The proof data of the one call. -/
abbrev dats (_ : Fin 1) (c : Dev nD) : Dat τ (Elt F) Unit ℕ (UR sig nD τ) ℕ cfg0 c where
  A w := V m c (Pipeline.arrRef spec0 w)
  after w t := afterW m c t w
  Φ _ := Pipeline.ΦA spec0 c
  q w := Pipeline.shareOf spec0 w
  owed _ := 0

theorem before0_0 (c : Dev nD) (t : Fin cfg0.N) (d) : (dats m 0 c).before 0 t d = X0_0 m c t := before0_0_of m (dats m 0 c) rfl (fun _ => rfl) t d
theorem before0_1 (c : Dev nD) (t : Fin cfg0.N) (d) : (dats m 0 c).before 1 t d = X0_1 m c t := before0_1_of m (dats m 0 c) rfl (fun _ => rfl) t d
theorem before0_2 (c : Dev nD) (t : Fin cfg0.N) (d) : (dats m 0 c).before 2 t d = iblk m c 2 t := before0_2_of m (dats m 0 c) rfl (fun _ => rfl) t d
theorem before0_3 (c : Dev nD) (t : Fin cfg0.N) (d) : (dats m 0 c).before 3 t d = iblk m c 3 t := before0_3_of m (dats m 0 c) rfl (fun _ => rfl) t d
theorem before0_4 (c : Dev nD) (t : Fin cfg0.N) (d) : (dats m 0 c).before 4 t d = iblk m c 4 t := before0_4_of m (dats m 0 c) rfl (fun _ => rfl) t d
theorem before0_5 (c : Dev nD) (t : Fin cfg0.N) (d) : (dats m 0 c).before 5 t d = iblk m c 5 t := before0_5_of m (dats m 0 c) rfl (fun _ => rfl) t d
theorem before0_6 (c : Dev nD) (t : Fin cfg0.N) (d) : (dats m 0 c).before 6 t d = iblk m c 6 t := before0_6_of m (dats m 0 c) rfl (fun _ => rfl) t d

/-! ## Buffers as the body takes them -/

section
variable (c : Dev nD) {sp : Space} {s : Shape} {e : EltTy} (M : Memref sig .tc sp s e) (X : s.Idx → Elt F e)

/-- A buffer holding `X` is the buffer at the contents that read as `X`. -/
theorem owns_rep : (owns (c : Thread nD τ) M fullShare X : sProp 𝕄) ⊢ (M.view.loc (c : Thread nD τ) ↦[M.view.set]{fullShare} M.view.rep X) := by
  unfold owns
  iintro ⟨%f, %hf, H⟩
  iapply (pointsTo_rep_of_read (c : Thread nD τ) M f fullShare X hf)
  iexact H

/-- A buffer at the contents that read as `X` is a buffer holding `X`. -/
theorem rep_owns : (M.view.loc (c : Thread nD τ) ↦[M.view.set]{fullShare} M.view.rep X : sProp 𝕄) ⊢ owns (c : Thread nD τ) M fullShare X := by
  unfold owns
  iintro H
  iexists (M.view.rep X)
  isplitr
  · ipureintro; exact M.view.read_rep X
  iexact H

/-- A buffer holding something is the buffer at some contents. -/
theorem owns_any : (owns (c : Thread nD τ) M fullShare X : sProp 𝕄) ⊢ iprop(∃ g, (M.view.loc (c : Thread nD τ) ↦[M.view.set]{fullShare} g)) := by
  unfold owns
  iintro ⟨%f, %hf, H⟩
  iexists f
  iexact H

end

/-- A whole buffer's view covers the buffer. -/
theorem scratch_in (c : Dev nD) (b : Ref sig .tc) : iprop(∃ f : Buf (Elt F) ((c : Thread nD τ).loc b), ((c : Thread nD τ).loc b) ↦{fullShare} f)
    ⊢ (iprop(∃ g : Buf (Elt F) ((Memref.whole b).view.loc (c : Thread nD τ)), ((Memref.whole b).view.loc (c : Thread nD τ) ↦[(Memref.whole b).view.set]{fullShare} g)) : sProp 𝕄) := by
  simp only [View.set_whole]
  exact .rfl

/-- The buffer is covered by the view of the whole of it. -/
theorem scratch_out (c : Dev nD) (b : Ref sig .tc) : (iprop(∃ g : Buf (Elt F) ((Memref.whole b).view.loc (c : Thread nD τ)), ((Memref.whole b).view.loc (c : Thread nD τ) ↦[(Memref.whole b).view.set]{fullShare} g)) : sProp 𝕄)
    ⊢ iprop(∃ f : Buf (Elt F) ((c : Thread nD τ).loc b), ((c : Thread nD τ).loc b) ↦{fullShare} f) := by
  simp only [View.set_whole]
  exact .rfl

section
variable (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S512x256 .f32) (harg6 : arg6.IsWhole) (arg7 : Memref sig .tc .vmem S16x2048 .f32) (harg7 : arg7.IsWhole) (arg8 : Memref sig .tc .vmem S16x2048 .f32) (harg8 : arg8.IsWhole) (arg9 : Memref sig .tc .vmem S32x2048 .f32) (harg9 : arg9.IsWhole) (arg10 : Memref sig .tc .vmem S256x512 .bf16) (harg10 : arg10.IsWhole) (arg11 : Memref sig .tc .vmem S512x256 .bf16) (harg11 : arg11.IsWhole) (arg12 : Memref sig .tc .vmem S16x2048 .bf16) (harg12 : arg12.IsWhole) (arg13 : Memref sig .tc .vmem S16x2048 .bf16) (harg13 : arg13.IsWhole) (arg14 : Memref sig .tc .vmem S32x2048 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x2048 .bf16) (harg17 : arg17.IsWhole) (arg18 : Memref sig .tc .vmem S256x2048 .bf16) (harg18 : arg18.IsWhole) (arg19 : Memref sig .tc .vmem S1x2048 .f32) (harg19 : arg19.IsWhole) (arg20 : Memref sig .tc .vmem S512x256 .f32) (harg20 : arg20.IsWhole)

/-- The body at a point of either parity. -/
theorem run_body (Q : Vec F S256x512 .bf16) (K : Vec F S4096x512 .bf16) (V : Vec F S1x16x512x256 .bf16) (X6 : Vec F S512x256 .f32) (X7 : Vec F S16x2048 .f32) (X8 : Vec F S16x2048 .f32) (X9 : Vec F S32x2048 .f32) :
    Before (F := F) c arg3 arg4 arg5 arg6 arg7 arg8 arg9 arg10 arg11 arg12 arg13 arg14 arg15 arg16 arg17 arg18 arg19 arg20 Q K V X6 X7 X8 X9
      ⊢ wp frame (wpE (defs₀ (F := F)) 𝒱₀ (c : Thread nD τ) none) Set.univ (cc0_sb_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => After (F := F) c i arg3 arg4 arg5 arg6 arg7 arg8 arg9 arg10 arg11 arg12 arg13 arg14 arg15 arg16 arg17 arg18 arg19 arg20 Q K V X6 X7 X8 X9) := by
  by_cases hp : qOf i % 2 = 0
  · exact run_even c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hp Q K V X6 X7 X8 X9
  · exact run_odd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hp Q K V X6 X7 X8 X9

end

set_option maxHeartbeats 2000000 in
/-- The body at every grid point takes the buffers from what they held before to what the data say. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).owesAt () t.succ = (dats m 0 c).owesAt () t.castSucc from rfl]
  unfold Pipeline.ΦA
  rw [scopedRest0_eq]
  iintro ⟨⟨⟨⟨%s0, S0⟩, ⟨%s1, S1⟩, ⟨%s2, S2⟩, ⟨%s3, S3⟩, ⟨%s4, S4⟩, ⟨%s5, S5⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_wand_r Idealize.ShloMosaic.frame (wpE (defs₀ (F := F)) 𝒱₀ (c : Thread nD τ) none) Set.univ)
  isplitl [H0 H1 H2 H3 H4 H5 H6 H7 H8 H9 H10 H11 S0 S1 S2 S3 S4 S5]
  · iapply (run_body c (grid0.coords t) _ _ _ _ _ _ _ _ _ _ _ _ _ _ _ _ _ _ _ _ _ _ _ _ _ _ _ _ _ _ _ _ _ _ _ _ (X0_0 m c t) (X0_1 m c t) (iblk m c 2 t) (iblk m c 3 t) (iblk m c 4 t) (iblk m c 5 t) (iblk m c 6 t))
    isplitl [H0]; · iapply (owns_rep (F := F) c _ _); iexact H0
    isplitl [H1]; · iapply (owns_rep (F := F) c _ _); iexact H1
    isplitl [H2]; · iapply (owns_rep (F := F) c _ _); iexact H2
    isplitl [H3]; · iapply (owns_rep (F := F) c _ _); iexact H3
    isplitl [H4]; · iapply (owns_rep (F := F) c _ _); iexact H4
    isplitl [H5]; · iapply (owns_rep (F := F) c _ _); iexact H5
    isplitl [H6]; · iapply (owns_rep (F := F) c _ _); iexact H6
    isplitl [H7]; · iapply (owns_any (F := F) c _ _); iexact H7
    isplitl [H8]; · iapply (owns_any (F := F) c _ _); iexact H8
    isplitl [H9]; · iapply (owns_any (F := F) c _ _); iexact H9
    isplitl [H10]; · iapply (owns_any (F := F) c _ _); iexact H10
    isplitl [H11]; · iapply (owns_any (F := F) c _ _); iexact H11
    isplitl [S0]; · iapply (scratch_in (F := F) c cc0_scratch0); iexists s0; iexact S0
    isplitl [S1]; · iapply (scratch_in (F := F) c cc0_scratch1); iexists s1; iexact S1
    isplitl [S2]; · iapply (scratch_in (F := F) c cc0_scratch2); iexists s2; iexact S2
    isplitl [S3]; · iapply (scratch_in (F := F) c cc0_scratch3); iexists s3; iexact S3
    isplitl [S4]; · iapply (scratch_in (F := F) c cc0_scratch4); iexists s4; iexact S4
    iapply (scratch_in (F := F) c cc0_scratch5); iexists s5; iexact S5
  iintro %_ ⟨H0, H1, H2, H3, H4, H5, H6, H7, H8, H9, H10, H11, ⟨%g0, S0⟩, ⟨%g1, S1⟩, ⟨%g2, S2⟩, ⟨%g3, S3⟩, ⟨%g4, S4⟩, ⟨%g5, S5⟩⟩
  isplitl [Hr S0 S1 S2 S3 S4 S5]
  · isplitr [Hr]
    · isplitl [S0]; · iapply (scratch_out (F := F) c cc0_scratch0); iexists g0; iexact S0
      isplitl [S1]; · iapply (scratch_out (F := F) c cc0_scratch1); iexists g1; iexact S1
      isplitl [S2]; · iapply (scratch_out (F := F) c cc0_scratch2); iexists g2; iexact S2
      isplitl [S3]; · iapply (scratch_out (F := F) c cc0_scratch3); iexists g3; iexact S3
      isplitl [S4]; · iapply (scratch_out (F := F) c cc0_scratch4); iexists g4; iexact S4
      iapply (scratch_out (F := F) c cc0_scratch5); iexists g5; iexact S5
    · iexact Hr
  isplitl [Ho]; · iexact Ho
  isplitl [H0]; · iapply (rep_owns (F := F) c _ _); iexact H0
  isplitl [H1]; · iapply (rep_owns (F := F) c _ _); iexact H1
  isplitl [H2]; · iapply (rep_owns (F := F) c _ _); iexact H2
  isplitl [H3]; · iapply (rep_owns (F := F) c _ _); iexact H3
  isplitl [H4]; · iapply (rep_owns (F := F) c _ _); iexact H4
  isplitl [H5]; · iapply (rep_owns (F := F) c _ _); iexact H5
  isplitl [H6]; · iapply (rep_owns (F := F) c _ _); iexact H6
  isplitl [H7]; · iapply (rep_owns (F := F) c _ _); iexact H7
  isplitl [H8]; · iapply (rep_owns (F := F) c _ _); iexact H8
  isplitl [H9]; · iapply (rep_owns (F := F) c _ _); iexact H9
  isplitl [H10]; · iapply (rep_owns (F := F) c _ _); iexact H10
  iapply (rep_owns (F := F) c _ _); iexact H11

/-! ## The run and the frames -/

set_option backward.isDefEq.respectTransparency.types false in
/-- From any memory with zero counters every weakly fair execution of the program terminates, with every array of
    the pipeline at what the data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hΦ := fun _ _ => rfl)

end Cert.KernelIdeal.Sb
end
-- ==== Proof.Frames.lean ====
/-
  The three frames and the idealization's conjunct: every program runs to the end, leaves its arguments as it found
  them and every counter at zero.
-/
module

public import proofs.«01_k».proof.Defs
public import proofs.«01_k».proof.Proof.Gen.Kernel
public import proofs.«01_k».proof.Proof.Gen.ReferenceIdeal.Run
public import proofs.«01_k».proof.Proof.Run
public import Idealize.ShloMosaic.Lib.Claim
public import Idealize.ShloMosaic.Lib.Quiescent

@[expose] public section

set_option maxRecDepth 16384

noncomputable section

namespace Cert.Frames

open Idealize.ShloMosaic Idealize.ShloMosaic.TcCoe Idealize.ShloMosaic.Tactic Idealize.SL.Sem

/-- The idealized kernel's frame. -/
theorem quiescent_KernelIdeal : Cert.quiescent_KernelIdeal := fun m ρ _ =>
  θ_run_with_sems (Cert.KernelIdeal.Gen.frame_of m ρ (Cert.KernelIdeal.Sb.dats m) fun _ _ => rfl)
    (Cert.KernelIdeal.Sb.run_main (F := Ideal) m ρ)

/-- Over words a named constant is the word printed where it stands. -/
local instance wordsNamed : Named Bits := ⟨fun _ _ {φ} bits => Scalar.ofBits φ bits⟩

/-- The run over words, the named constant read as its word. -/
theorem words (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) ∧ r.2.sem = fun _ => 0) :=
  θ_run_with_sems (Cert.KernelIdeal.Gen.frame_of (F := Bits) m ρ (Cert.KernelIdeal.Sb.dats m) fun _ _ => rfl)
    (Cert.KernelIdeal.Sb.run_main (F := Bits) m ρ)

/-- The same run under an equal table. -/
theorem words_of (d : Defs Cert.KernelIdeal.nD Cert.KernelIdeal.τ Cert.KernelIdeal.sig (Elt Bits) (Pipeline.Sig Cert.KernelIdeal.Λ₀ (Fin 1) fun p => (Cert.KernelIdeal.pcfgs (F := Bits) p).Adm))
    (hd : d = Cert.KernelIdeal.defs (F := Bits)) (m : (ℓ : Loc Cert.KernelIdeal.nD Cert.KernelIdeal.τ Cert.KernelIdeal.sig) → Buf (Elt Bits) ℓ) (ρ : Dev Cert.KernelIdeal.nD → PrngReg) :
    θ_run d (onTc (τ := Cert.KernelIdeal.τ) (Cert.KernelIdeal.main (F := Bits))) ⟨m, fun _ => 0, ρ⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) ∧ r.2.sem = fun _ => 0) := by
  subst hd
  exact words m ρ

/-- The kernel's label runs the idealized kernel's body, the named constant read as its word. -/
theorem labels_eq : Cert.Kernel.defs₀ (F := Bits) = Cert.KernelIdeal.defs₀ (F := Bits) := by
  unfold Cert.Kernel.defs₀ Cert.KernelIdeal.defs₀
  refine congrArg Defs.onTc (funext fun ℓ => ?_)
  match ℓ with
  | 0 => exact funext fun ⟨t, s⟩ => rfl

/-- So do the two programs' tables. -/
theorem defs_eq : Cert.Kernel.defs (F := Bits) = Cert.KernelIdeal.defs (F := Bits) :=
  congrArg (Pipeline.defs Cert.KernelIdeal.pcfgs) labels_eq

/-- The kernel's frame: the same run. -/
theorem quiescent_Kernel : Cert.quiescent_Kernel := fun m ρ _ => words_of _ defs_eq m ρ

/-- The reference's frame. -/
theorem quiescent_ReferenceIdeal : Cert.quiescent_ReferenceIdeal := fun m ρ _ =>
  (θ_run Cert.ReferenceIdeal.defs _ _).mono (fun r h => ⟨fun c => (h c).2.2.2.2.2, sem_eq_zero_of_no_sems rfl r.2⟩)
    (Cert.ReferenceIdeal.Value.run (F := Ideal) m ρ)

/-- The cut is named infinity. -/
theorem preserves : Cert.preserves_Kernel_KernelIdeal :=
  IdealRules.named_const.statement Cert.KernelIdeal.κ "cut" .f32 0x41880000#32 ⊤ rfl

end Cert.Frames

end
-- ==== Proof.SbMath.lean ====
/-
  The arithmetic of stick-breaking weights over the extended reals: softplus in its two spellings, and sums of
  nonnegative terms cut at block boundaries.  No vectors, no programs.
-/
module

public import Idealize.ShloMosaic.PureOps.IdealRules
public import Idealize.ShloMosaic.Lib.Pointwise

@[expose] public section

noncomputable section

namespace Cert.Sb

open Idealize.ShloMosaic
open Finset (Ico range)

/-- Softplus over the extended reals, as the kernel computes it. -/
def sp (z : EReal) : EReal := Ideal.log (1 + Ideal.exp z)

theorem sp_coe (r : ℝ) : sp (r : EReal) = ((Real.log (1 + Real.exp r) : ℝ) : EReal) := by
  have h : ¬ (1 + Real.exp r ≤ 0) := by have := Real.exp_pos r; linarith
  unfold sp
  rw [Ideal.exp_coe, ← EReal.coe_one, ← EReal.coe_add, Ideal.log_coe, if_neg h]

theorem sp_bot : sp ⊥ = 0 := by
  unfold sp
  rw [Ideal.exp_bot, add_zero, ← EReal.coe_one, Ideal.log_coe, if_neg (by norm_num), Real.log_one, EReal.coe_zero]

theorem sp_top : sp ⊤ = ⊤ := by
  unfold sp
  rw [Ideal.exp_top, EReal.add_top_of_ne_bot (by decide), Ideal.log_top]

/-- Softplus is nonnegative. -/
theorem sp_nonneg (z : EReal) : 0 ≤ sp z := by
  induction z with
  | bot => rw [sp_bot]
  | top => rw [sp_top]; exact le_top
  | coe r =>
    rw [sp_coe, ← EReal.coe_zero, EReal.coe_le_coe_iff]
    exact Real.log_nonneg (by have := Real.exp_pos r; linarith)

/-- The reference's softplus, the larger of `x` and 0 plus `log (1 + exp (-|x|))`, is the kernel's. -/
theorem softplus_eq (x : EReal) : max x 0 + Ideal.log (1 + Ideal.exp (-(max x (-x)))) = sp x := by
  have hc : ∀ a b : ℝ, max (a : EReal) (b : EReal) = ((max a b : ℝ) : EReal) := fun a b => (EReal.coe_strictMono.monotone.map_max).symm
  have l1 : Ideal.log 1 = 0 := by rw [← EReal.coe_one, Ideal.log_coe, if_neg (by norm_num), Real.log_one, EReal.coe_zero]
  induction x with
  | bot => rw [sp_bot]; simp [l1]
  | top => rw [sp_top]; simp [l1]
  | coe r =>
    rw [← EReal.coe_neg, hc, ← EReal.coe_neg, ← EReal.coe_zero, hc]
    have h := sp_coe (-(max r (-r)))
    unfold sp at h
    rw [h, sp_coe, ← EReal.coe_add]
    congr 1
    rcases le_total 0 r with hr | hr
    · rw [max_eq_left hr, max_eq_left (by linarith)]
      have e : (1 + Real.exp r) = Real.exp r * (1 + Real.exp (-r)) := by
        rw [mul_add, mul_one, ← Real.exp_add, add_neg_cancel, Real.exp_zero, add_comm]
      rw [e, Real.log_mul (Real.exp_pos r).ne' (by have := Real.exp_pos (-r); positivity), Real.log_exp]
    · rw [max_eq_right hr, max_eq_right (by linarith), neg_neg, zero_add]

/-- The exponent: what the reference adds up is the score less the sum of the softplus terms. -/
theorem exponent_eq (z T : EReal) (hT : 0 ≤ T) : -sp (-z) + (-(sp z + T) - -sp z) = z - (sp z + T) := by
  have hTb : T ≠ ⊥ := fun h => by rw [h] at hT; exact absurd hT (by decide)
  induction z with
  | bot => rw [EReal.neg_bot, sp_top, EReal.neg_top, EReal.bot_add, EReal.bot_sub]
  | top =>
    rw [sp_top, EReal.top_add_of_ne_bot hTb, EReal.neg_top, EReal.bot_sub, EReal.add_bot]; rfl
  | coe r =>
    induction T with
    | bot => exact absurd rfl hTb
    | top =>
      rw [sp_coe, EReal.coe_add_top, EReal.neg_top, EReal.bot_sub, EReal.add_bot]; rfl
    | coe t =>
      rw [← EReal.coe_neg, sp_coe, sp_coe]
      norm_cast
      have e : (1 + Real.exp r) = Real.exp r * (1 + Real.exp (-r)) := by
        rw [mul_add, mul_one, ← Real.exp_add, add_neg_cancel, Real.exp_zero, add_comm]
      have h : Real.log (1 + Real.exp r) = r + Real.log (1 + Real.exp (-r)) := by
        rw [e, Real.log_mul (Real.exp_pos r).ne' (by have := Real.exp_pos (-r); positivity), Real.log_exp]
      rw [h]; ring

/-- Subtracting two nonnegative terms one after the other is subtracting their sum. -/
theorem sub_sub_nonneg (z a b : EReal) (ha : 0 ≤ a) (hb : 0 ≤ b) : z - a - b = z - (a + b) := by
  have ha' : a ≠ ⊥ := fun h => by rw [h] at ha; exact absurd ha (by decide)
  have hb' : b ≠ ⊥ := fun h => by rw [h] at hb; exact absurd hb (by decide)
  rw [sub_eq_add_neg, sub_eq_add_neg, sub_eq_add_neg, EReal.neg_add (Or.inl ha') (Or.inr hb'), sub_eq_add_neg, add_assoc]

/-- The sum of the negatives of nonnegative terms is the negative of their sum. -/
theorem sum_neg {ι : Type} (s : Finset ι) (f : ι → EReal) (hf : ∀ i, 0 ≤ f i) : ∑ i ∈ s, -f i = -∑ i ∈ s, f i := by
  classical
  induction s using Finset.induction_on with
  | empty => simp
  | insert a s ha ih =>
    have h1 : f a ≠ ⊥ := fun h => by have := hf a; rw [h] at this; exact absurd this (by decide)
    have h2 : ∑ i ∈ s, f i ≠ ⊥ := fun h => by
      have := Finset.sum_nonneg (s := s) fun i _ => hf i; rw [h] at this; exact absurd this (by decide)
    rw [Finset.sum_insert ha, Finset.sum_insert ha, ih, EReal.neg_add (Or.inl h1) (Or.inr h2), sub_eq_add_neg]

/-- One block's tail sum over its 256 positions, as a sum over an interval. -/
theorem sum_tail (f : ℕ → EReal) (n r : ℕ) :
    (∑ x : Fin 256, if r ≤ x.val then f (256 * n + x.val) else 0) = ∑ k ∈ Ico (256 * n + r) (256 * (n + 1)), f k := by
  rw [Fin.sum_univ_eq_sum_range (fun x => if r ≤ x then f (256 * n + x) else 0) 256, ← Finset.sum_filter]
  have : (range 256).filter (fun x => r ≤ x) = Ico r 256 := by ext x; simp; omega
  rw [this, mul_add, mul_one, add_comm _ 256, add_comm _ r, ← Finset.sum_Ico_add (fun k => f k) r 256 (256 * n)]

/-- The same for the whole block. -/
theorem sum_block (f : ℕ → EReal) (n : ℕ) :
    (∑ x : Fin 256, f (256 * n + x.val)) = ∑ k ∈ Ico (256 * n) (256 * (n + 1)), f k := by
  have := sum_tail f n 0
  simpa using this

end Cert.Sb
end
-- ==== Proof.Read.lean ====
/-
  The body's operations over the reals, read at an index.
-/
module

public import proofs.«01_k».proof.Proof.Blocks
public import proofs.«01_k».proof.Proof.SbMath
public import Idealize.ShloMosaic.Lib.Pointwise
public import Idealize.ShloMosaic.Lib.WordCmp
public import Idealize.ShloMosaic.Lib.Pipeline.ValueKit
public import Idealize.ShloMosaic.PureOps.IdealRules

@[expose] public section

set_option maxRecDepth 16384

noncomputable section

namespace Cert.KernelIdeal.Sb

open Cert.KernelIdeal Cert.KernelIdeal.Gen Cert.Sb
open Idealize.ShloMosaic Idealize.ShloMosaic.TcCoe Idealize.SL.Sem

/-- The overflow cut, sent to infinity: the softplus always takes its logarithm branch. -/
theorem cut_eq : Named.named (F := Ideal) κ "cut" (φ := .f32) 0x41880000#32 = (⊤ : EReal) :=
  IdealRules.named_const.ideal_named_scalar _ _ _ _ rfl

theorem sp_fold (z : EReal) : (if (⊤ : EReal) < z then z else Ideal.log (1 + Ideal.exp z)) = sp z := if_neg not_top_lt

/-- The triangle of ones: row `r` holds a 1 from column `r` on. -/
theorem incl_at (r x : Fin 256) :
    FloatOps.sitofp (F := Ideal) FTy.f32 (BitVec.setWidth 32 (IntOp.cmpi .sge (BitVec.ofNat 32 x.val) (BitVec.ofNat 32 r.val)))
      = if r.val ≤ x.val then (1 : EReal) else 0 := by
  have h : IntOp.cmpi .sge (BitVec.ofNat 32 x.val) (BitVec.ofNat 32 r.val) = BitVec.ofBool (decide (r.val ≤ x.val)) := by
    have := x.2; have := r.2
    simp (disch := omega) only [hlo_ix]
  rw [h]
  by_cases hx : r.val ≤ x.val <;> simp [hx, Scalar.sitofp, FloatOps.sitofp]

theorem sum_incl (r : Fin 256) (f : Fin 256 → EReal) :
    (∑ x : Fin 256, FloatOps.sitofp (F := Ideal) FTy.f32 (BitVec.setWidth 32 (IntOp.cmpi .sge (BitVec.ofNat 32 x.val) (BitVec.ofNat 32 r.val))) * f x)
      = ∑ x : Fin 256, if r.val ≤ x.val then f x else 0 := by
  refine Finset.sum_congr rfl fun x _ => ?_
  rw [incl_at]
  split
  · rw [one_mul]
  · rw [zero_mul]

/-- The column's position within its query block. -/
theorem lane_and : ∀ l : Fin 2048, IntOp.andi (BitVec.ofNat 32 l.val) 255#32 = BitVec.ofNat 32 (l.val % 256) := by
  decide +kernel

/-- The causal mask's word. -/
theorem mask_at (x : Fin 256) (l : Fin 2048) :
    IntOp.cmpi .slt (BitVec.ofNat 32 x.val) (IntOp.andi (BitVec.ofNat 32 l.val) 255#32) = BitVec.ofBool (decide (x.val < l.val % 256)) := by
  rw [lane_and]
  have := x.2
  have := Nat.mod_lt l.val (show 0 < 256 by decide)
  generalize l.val % 256 = p at *
  simp (disch := omega) only [hlo_ix]

/-- The weights of a block below the diagonal. -/
theorem weight_at (z : Vec Ideal S256x2048 .f32) (c : Vec Ideal S1x2048 .f32) (r : Fin 256) (l : Fin 2048) :
    weightF k0_pay107 z c (ix2 r l)
      = Ideal.exp ((z (ix2 r l) - ∑ x : Fin 256, if r.val ≤ x.val then sp (z (ix2 x l)) else 0) - c (ix2 0 l)) := by
  rw [← sum_incl r fun x => sp (z (ix2 x l))]
  pointwise [weightF, k0_pay50, k0_pay49, k0_pay107, cut_eq]
  all_goals (simp only [sp_fold])

/-- The carried sum after a block below the diagonal. -/
theorem carry_at (z : Vec Ideal S256x2048 .f32) (c : Vec Ideal S1x2048 .f32) (l : Fin 2048) :
    carryF k0_pay107 z c (ix2 0 l) = c (ix2 0 l) + ∑ x : Fin 256, sp (z (ix2 x l)) := by
  have e : (∑ x : Fin 256, sp (z (ix2 x l))) = ∑ x : Fin 256, if (0 : Fin 256).val ≤ x.val then sp (z (ix2 x l)) else 0 := by simp
  rw [e, ← sum_incl 0 fun x => sp (z (ix2 x l))]
  pointwise [carryF, k0_pay51, k0_pay49, k0_pay107, cut_eq]
  all_goals (simp only [sp_fold])

/-- The weights of the diagonal block. -/
theorem weightM_at (z : Vec Ideal S256x2048 .f32) (c : Vec Ideal S1x2048 .f32) (r : Fin 256) (l : Fin 2048) :
    weightM k0_pay107 k0_pay108 z c (ix2 r l)
      = if r.val < l.val % 256 then
          Ideal.exp ((z (ix2 r l) - ∑ x : Fin 256, if r.val ≤ x.val then (if x.val < l.val % 256 then sp (z (ix2 x l)) else 0) else 0) - c (ix2 0 l))
        else 0 := by
  rw [← sum_incl r fun x => if x.val < l.val % 256 then sp (z (ix2 x l)) else 0]
  pointwise [weightM, k0_pay9, k0_pay10, k0_pay112, k0_pay111, k0_pay108, k0_pay107, cut_eq]
  all_goals (simp only [sp_fold, mask_at, WordCmp.select_ofBool, decide_eq_true_eq, mul_ite, mul_zero])

/-- The carried sum after the diagonal block. -/
theorem carryM_at (z : Vec Ideal S256x2048 .f32) (c : Vec Ideal S1x2048 .f32) (l : Fin 2048) :
    carryM k0_pay107 k0_pay108 z c (ix2 0 l)
      = c (ix2 0 l) + ∑ x : Fin 256, if x.val < l.val % 256 then sp (z (ix2 x l)) else 0 := by
  have e : (∑ x : Fin 256, if x.val < l.val % 256 then sp (z (ix2 x l)) else 0)
      = ∑ x : Fin 256, if (0 : Fin 256).val ≤ x.val then (if x.val < l.val % 256 then sp (z (ix2 x l)) else 0) else 0 := by simp
  rw [e, ← sum_incl 0 fun x => if x.val < l.val % 256 then sp (z (ix2 x l)) else 0]
  pointwise [carryM, k0_pay9, k0_pay10, k0_pay113, k0_pay111, k0_pay108, k0_pay107, cut_eq]
  all_goals (simp only [sp_fold, mask_at, WordCmp.select_ofBool, decide_eq_true_eq, mul_ite, mul_zero])

end Cert.KernelIdeal.Sb
end
-- ==== Proof.Stacks.lean ====
/-
  The two stacks of scaled queries, the scores of a key block and the values added to the accumulator, read at an index.
-/
module

public import proofs.«01_k».proof.Proof.Read

@[expose] public section

set_option maxRecDepth 16384

noncomputable section

namespace Cert.KernelIdeal.Sb

open Cert.KernelIdeal Cert.KernelIdeal.Gen Cert.Sb
open Idealize.ShloMosaic Idealize.ShloMosaic.TcCoe Idealize.SL.Sem
open Idealize.ShloMosaic.View (ld canon)

/-- The scale, one eighth. -/
def eighth : EReal := Ideal.ofBits FTy.bf16 15872#16

/-- The head of row `d` within its stack, as the kernel computes it. -/
def headW (d : ℕ) : BitVec 32 :=
    Scalar.select
        (IntOp.andi
          (IntOp.cmpi CmpIPredicate.ne
            (IntOp.subi (BitVec.setWidth 32 (IntOp.cmpi CmpIPredicate.sgt (BitVec.ofNat 32 d) 0#32))
              (BitVec.setWidth 32 (IntOp.cmpi CmpIPredicate.slt (BitVec.ofNat 32 d) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 d) 64#32) 0#32))
        (IntOp.subi (IntOp.divsi ArithUnit.vector (BitVec.ofNat 32 d) 64#32) 1#32)
        (IntOp.divsi ArithUnit.vector (BitVec.ofNat 32 d) 64#32)

theorem headW_eq : ∀ d : Fin 256, headW d.val = BitVec.ofNat 32 (d.val / 64) := by
  decide +kernel

theorem head_eq0 : ∀ d : Fin 256, IntOp.cmpi .eq (BitVec.ofNat 32 (d.val / 64)) 0#32 = BitVec.ofBool (decide (d.val / 64 = 0)) := by decide +kernel
theorem head_eq1 : ∀ d : Fin 256, IntOp.cmpi .eq (BitVec.ofNat 32 (d.val / 64)) 1#32 = BitVec.ofBool (decide (d.val / 64 = 1)) := by decide +kernel
theorem head_eq2 : ∀ d : Fin 256, IntOp.cmpi .eq (BitVec.ofNat 32 (d.val / 64)) 2#32 = BitVec.ofBool (decide (d.val / 64 = 2)) := by decide +kernel
theorem head_eq3 : ∀ d : Fin 256, IntOp.cmpi .eq (BitVec.ofNat 32 (d.val / 64)) 3#32 = BitVec.ofBool (decide (d.val / 64 = 3)) := by decide +kernel

/-- Where column `l` of a stack falls. -/
theorem stack_col (l : Fin 1024) :
    l.val / 256 = 0 ∧ l.val < 256 ∧ l.val % 256 = l.val ∨ l.val / 256 = 1 ∧ ¬ l.val < 256 ∧ l.val - 256 < 256 ∧ l.val % 256 = l.val - 256
      ∨ l.val / 256 = 2 ∧ ¬ l.val < 256 ∧ ¬ l.val - 256 < 256 ∧ l.val - 256 - 256 < 256 ∧ l.val % 256 = l.val - 256 - 256
      ∨ l.val / 256 = 3 ∧ ¬ l.val < 256 ∧ ¬ l.val - 256 < 256 ∧ ¬ l.val - 256 - 256 < 256 ∧ l.val % 256 = l.val - 256 - 256 - 256 := by
  have := l.2
  omega

/-- The first stack, read as it is built. -/
theorem stack0_raw (Q : Vec Ideal S256x512 .bf16) (d : Fin 256) (l : Fin 1024) :
    stack0 Q (ix2 d l) =
      if h : l.val < 256 then
        Scalar.select (IntOp.cmpi .eq (headW d.val) 0#32) (Q (ix2 ⟨l.val, h⟩ ⟨d.val, by have := d.2; omega⟩) * Ideal.ofBits FTy.bf16 15872#16) 0
      else if h : l.val - 256 < 256 then
        Scalar.select (IntOp.cmpi .eq (headW d.val) 1#32) (Q (ix2 ⟨l.val - 256, h⟩ ⟨d.val, by have := d.2; omega⟩) * Ideal.ofBits FTy.bf16 15872#16) 0
      else if h : l.val - 256 - 256 < 256 then
        Scalar.select (IntOp.cmpi .eq (headW d.val) 2#32) (Q (ix2 ⟨l.val - 256 - 256, h⟩ ⟨d.val, by have := d.2; omega⟩) * Ideal.ofBits FTy.bf16 15872#16) 0
      else
        Scalar.select (IntOp.cmpi .eq (headW d.val) 3#32)
          (Q (ix2 ⟨l.val - 256 - 256 - 256, by have := l.2; omega⟩ ⟨d.val, by have := d.2; omega⟩) * Ideal.ofBits FTy.bf16 15872#16) 0 := by
  unfold headW
  pointwise [stack0, k0_pay102, k0_pay101, k0_pay97, k0_pay98, k0_pay99, k0_pay100]

/-- Row `d`, column `l` of the first stack: the scaled query of head `l / 256` in that head's rows, zero elsewhere. -/
theorem stack0_at (Q : Vec Ideal S256x512 .bf16) (d : Fin 256) (l : Fin 1024) :
    stack0 Q (ix2 d l) = if d.val / 64 = l.val / 256 then
      Q (ix2 ⟨l.val % 256, Nat.mod_lt _ (by decide)⟩ ⟨d.val, by have := d.2; omega⟩) * eighth else 0 := by
  rw [stack0_raw, headW_eq, head_eq0, head_eq1, head_eq2, head_eq3]
  simp only [WordCmp.select_ofBool, decide_eq_true_eq]
  unfold eighth
  rcases stack_col l with ⟨e, a, f⟩ | ⟨e, a, b, f⟩ | ⟨e, a, b, c, f⟩ | ⟨e, a, b, c, f⟩
  · simp only [e, f, a, dif_pos]
  · simp only [e, f, a, b, dif_pos, dif_neg, not_false_eq_true]
  · simp only [e, f, a, b, c, dif_pos, dif_neg, not_false_eq_true]
  · simp only [e, f, a, b, c, dif_pos, dif_neg, not_false_eq_true]

/-- The second stack, read as it is built. -/
theorem stack1_raw (Q : Vec Ideal S256x512 .bf16) (d : Fin 256) (l : Fin 1024) :
    stack1 Q (ix2 d l) =
      if h : l.val < 256 then
        Scalar.select (IntOp.cmpi .eq (headW d.val) 0#32) (Q (ix2 ⟨l.val, h⟩ ⟨256 + d.val, by have := d.2; omega⟩) * Ideal.ofBits FTy.bf16 15872#16) 0
      else if h : l.val - 256 < 256 then
        Scalar.select (IntOp.cmpi .eq (headW d.val) 1#32) (Q (ix2 ⟨l.val - 256, h⟩ ⟨256 + d.val, by have := d.2; omega⟩) * Ideal.ofBits FTy.bf16 15872#16) 0
      else if h : l.val - 256 - 256 < 256 then
        Scalar.select (IntOp.cmpi .eq (headW d.val) 2#32) (Q (ix2 ⟨l.val - 256 - 256, h⟩ ⟨256 + d.val, by have := d.2; omega⟩) * Ideal.ofBits FTy.bf16 15872#16) 0
      else
        Scalar.select (IntOp.cmpi .eq (headW d.val) 3#32)
          (Q (ix2 ⟨l.val - 256 - 256 - 256, by have := l.2; omega⟩ ⟨256 + d.val, by have := d.2; omega⟩) * Ideal.ofBits FTy.bf16 15872#16) 0 := by
  unfold headW
  pointwise [stack1, k0_pay106, k0_pay101, k0_pay103, k0_pay104, k0_pay105, k0_pay97, k0_pay98, k0_pay99, k0_pay100]

/-- The second stack: the same, four heads on. -/
theorem stack1_at (Q : Vec Ideal S256x512 .bf16) (d : Fin 256) (l : Fin 1024) :
    stack1 Q (ix2 d l) = if d.val / 64 = l.val / 256 then
      Q (ix2 ⟨l.val % 256, Nat.mod_lt _ (by decide)⟩ ⟨256 + d.val, by have := d.2; omega⟩) * eighth else 0 := by
  rw [stack1_raw, headW_eq, head_eq0, head_eq1, head_eq2, head_eq3]
  simp only [WordCmp.select_ofBool, decide_eq_true_eq]
  unfold eighth
  rcases stack_col l with ⟨e, a, f⟩ | ⟨e, a, b, f⟩ | ⟨e, a, b, c, f⟩ | ⟨e, a, b, c, f⟩
  · simp only [e, f, a, dif_pos]
  · simp only [e, f, a, b, dif_pos, dif_neg, not_false_eq_true]
  · simp only [e, f, a, b, c, dif_pos, dif_neg, not_false_eq_true]
  · simp only [e, f, a, b, c, dif_pos, dif_neg, not_false_eq_true]

/-- A sum over a stack's 256 rows in which only head `k`'s rows count. -/
theorem sum_head (k : ℕ) (hk : k < 4) (f : Fin 256 → EReal) :
    (∑ x : Fin 256, if x.val / 64 = k then f x else 0) = ∑ d : Fin 64, f ⟨64 * k + d.val, by have := d.2; omega⟩ := by
  have e : ∀ x : Fin 256, (if x.val / 64 = k then f x else 0) = (fun n : ℕ => if h : n < 256 then (if n / 64 = k then f ⟨n, h⟩ else 0) else 0) x.val := by
    intro x; have := x.2; dsimp only; rw [dif_pos (by omega)]
  rw [Finset.sum_congr rfl fun x _ => e x, Fin.sum_univ_eq_sum_range (fun n : ℕ => if h : n < 256 then (if n / 64 = k then f ⟨n, h⟩ else 0) else 0) 256]
  have e2 : ∀ d : Fin 64, f ⟨64 * k + d.val, by have := d.2; omega⟩ = (fun n : ℕ => if h : 64 * k + n < 256 then f ⟨64 * k + n, h⟩ else 0) d.val := by
    intro d; have := d.2; dsimp only; rw [dif_pos (by omega)]
  rw [Finset.sum_congr rfl fun x _ => e2 x, Fin.sum_univ_eq_sum_range (fun n : ℕ => if h : 64 * k + n < 256 then f ⟨64 * k + n, h⟩ else 0) 64]
  rw [Finset.range_eq_Ico, Finset.range_eq_Ico, Finset.sum_Ico_add (fun n : ℕ => if h : n < 256 then f ⟨n, h⟩ else 0) 0 64 (64 * k)]
  symm
  refine Finset.sum_subset_zero_on_sdiff (fun x hx => ?_) (fun x hx => ?_) (fun x hx => ?_)
  · simp at hx ⊢; omega
  · simp at hx
    have h1 : x < 256 := by omega
    have h2 : ¬ x / 64 = k := by omega
    simp only [h1, h2, dif_pos, if_false]
  · simp at hx
    have h2 : x / 64 = k := by omega
    simp only [h2, if_true]

theorem pay4_at (q : FVec Ideal S256x1024 .bf16) (kb : Vec Ideal S256x512 .bf16) (r : Fin 256) (l : Fin 1024) :
    k0_pay4 q kb (ix2 r l) = ∑ x : Fin 256, kb (ix2 r ⟨x.val, by have := x.2; omega⟩) * q (ix2 x l) := by
  pointwise [k0_pay4, k0_pay3]

theorem pay5_at (q : FVec Ideal S256x1024 .bf16) (kb : Vec Ideal S256x512 .bf16) (r : Fin 256) (l : Fin 1024) :
    k0_pay5 q kb (ix2 r l) = ∑ x : Fin 256, kb (ix2 r ⟨256 + x.val, by have := x.2; omega⟩) * q (ix2 x l) := by
  pointwise [k0_pay5, k0_pay3]

theorem pay40_at (v : Vec Ideal S1x1x64x256 .bf16) (a : Vec Ideal S64x256 .f32) (w : Vec Ideal S256x256 .bf16) (d : Fin 64) (l : Fin 256) :
    k0_pay40 v a w (ix2 d l) = a (ix2 d l) + ∑ x : Fin 256, v (ix4 0 0 d x) * w (ix2 x l) := by
  pointwise [k0_pay40]

/-- The score of key row `r` against query `p` of head `h`. -/
theorem score_at (Q : Vec Ideal S256x512 .bf16) (kb : Vec Ideal S256x512 .bf16) (r : Fin 256) (h : Fin 8) (p : Fin 256) :
    scoreF (stack0 Q) (stack1 Q) kb (ix2 r ⟨256 * h.val + p.val, by have := h.2; have := p.2; omega⟩)
      = ∑ d : Fin 64, kb (ix2 r ⟨64 * h.val + d.val, by have := h.2; have := d.2; omega⟩)
          * (Q (ix2 p ⟨64 * h.val + d.val, by have := h.2; have := d.2; omega⟩) * eighth) := by
  unfold scoreF
  have hh := h.2
  have hp := p.2
  canon_tiles x hx
  all_goals idx_vars x
  case piece0 =>
    obtain rfl : r = x0 := Fin.ext (by omega)
    have e1 : x1.val / 256 = h.val - 4 := by omega
    have e2 : x1.val % 256 = p.val := by omega
    refine (pay5_at (stack1 Q) kb r x1).trans ?_
    have e : ∀ x : Fin 256, kb (ix2 r ⟨256 + x.val, by have := x.2; omega⟩) * stack1 Q (ix2 x x1)
        = if x.val / 64 = h.val - 4 then kb (ix2 r ⟨256 + x.val, by have := x.2; omega⟩) * (Q (ix2 p ⟨256 + x.val, by have := x.2; omega⟩) * eighth) else 0 := by
      intro x
      rw [stack1_at, mul_ite, mul_zero]
      simp only [e1, e2]
    rw [Finset.sum_congr rfl fun x _ => e x, sum_head (h.val - 4) (by omega)]
    refine Finset.sum_congr rfl fun d _ => ?_
    have e3 : 256 + (64 * (h.val - 4) + d.val) = 64 * h.val + d.val := by omega
    simp only [e3]
  case piece1 =>
    obtain rfl : r = x0 := Fin.ext (by omega)
    have e1 : x1.val / 256 = h.val := by omega
    have e2 : x1.val % 256 = p.val := by omega
    refine (pay4_at (stack0 Q) kb r x1).trans ?_
    have e : ∀ x : Fin 256, kb (ix2 r ⟨x.val, by have := x.2; omega⟩) * stack0 Q (ix2 x x1)
        = if x.val / 64 = h.val then kb (ix2 r ⟨x.val, by have := x.2; omega⟩) * (Q (ix2 p ⟨x.val, by have := x.2; omega⟩) * eighth) else 0 := by
      intro x
      rw [stack0_at, mul_ite, mul_zero]
      simp only [e1, e2]
    rw [Finset.sum_congr rfl fun x _ => e x, sum_head h.val (by omega)]

/-- One block's values added: row `d` of head `h`, query `p`. -/
theorem add_at (V : Vec Ideal S1x16x512x256 .bf16) (j : Fin 16) (w : Vec Ideal S256x2048 .bf16) (A : Vec Ideal S512x256 .f32)
    (h : Fin 8) (d : Fin 64) (p : Fin 256) :
    addF V j.val w A (ix2 ⟨64 * h.val + d.val, by have := h.2; have := d.2; omega⟩ p)
      = A (ix2 ⟨64 * h.val + d.val, by have := h.2; have := d.2; omega⟩ p)
        + ∑ x : Fin 256, V (ix4 0 j ⟨64 * h.val + d.val, by have := h.2; have := d.2; omega⟩ x)
          * w (ix2 x ⟨256 * h.val + p.val, by have := h.2; have := p.2; omega⟩) := by
  unfold addF
  have hh := h.2
  have hp := p.2
  have hd := d.2
  canon_tiles x hx
  all_goals idx_vars x
  case piece0 =>
    obtain rfl : h = 7 := Fin.ext (by omega)
    obtain rfl : d = x0 := Fin.ext (by omega)
    obtain rfl : p = x1 := Fin.ext (by omega)
    have ej := Nat.mod_eq_of_lt j.2
    have ed : (448 + d.val) % 512 = 448 + d.val := by omega
    pointwise [k0_pay40, valB]
    simp only [ej, ed]
  case piece1 =>
    obtain rfl : h = 6 := Fin.ext (by omega)
    obtain rfl : d = x0 := Fin.ext (by omega)
    obtain rfl : p = x1 := Fin.ext (by omega)
    have ej := Nat.mod_eq_of_lt j.2
    have ed : (384 + d.val) % 512 = 384 + d.val := by omega
    pointwise [k0_pay40, valB]
    simp only [ej, ed]
  case piece2 =>
    obtain rfl : h = 5 := Fin.ext (by omega)
    obtain rfl : d = x0 := Fin.ext (by omega)
    obtain rfl : p = x1 := Fin.ext (by omega)
    have ej := Nat.mod_eq_of_lt j.2
    have ed : (320 + d.val) % 512 = 320 + d.val := by omega
    pointwise [k0_pay40, valB]
    simp only [ej, ed]
  case piece3 =>
    obtain rfl : h = 4 := Fin.ext (by omega)
    obtain rfl : d = x0 := Fin.ext (by omega)
    obtain rfl : p = x1 := Fin.ext (by omega)
    have ej := Nat.mod_eq_of_lt j.2
    have ed : (256 + d.val) % 512 = 256 + d.val := by omega
    pointwise [k0_pay40, valB]
    simp only [ej, ed]
  case piece4 =>
    obtain rfl : h = 3 := Fin.ext (by omega)
    obtain rfl : d = x0 := Fin.ext (by omega)
    obtain rfl : p = x1 := Fin.ext (by omega)
    have ej := Nat.mod_eq_of_lt j.2
    have ed : (192 + d.val) % 512 = 192 + d.val := by omega
    pointwise [k0_pay40, valB]
    simp only [ej, ed]
  case piece5 =>
    obtain rfl : h = 2 := Fin.ext (by omega)
    obtain rfl : d = x0 := Fin.ext (by omega)
    obtain rfl : p = x1 := Fin.ext (by omega)
    have ej := Nat.mod_eq_of_lt j.2
    have ed : (128 + d.val) % 512 = 128 + d.val := by omega
    pointwise [k0_pay40, valB]
    simp only [ej, ed]
  case piece6 =>
    obtain rfl : h = 1 := Fin.ext (by omega)
    obtain rfl : d = x0 := Fin.ext (by omega)
    obtain rfl : p = x1 := Fin.ext (by omega)
    have ej := Nat.mod_eq_of_lt j.2
    have ed : (64 + d.val) % 512 = 64 + d.val := by omega
    pointwise [k0_pay40, valB]
    simp only [ej, ed]
  case piece7 =>
    obtain rfl : h = 0 := Fin.ext (by omega)
    obtain rfl : d = x0 := Fin.ext (by omega)
    obtain rfl : p = x1 := Fin.ext (by omega)
    have ej := Nat.mod_eq_of_lt j.2
    have ed : d.val % 512 = d.val := by omega
    pointwise [k0_pay40, valB]
    simp only [ej, ed]

end Cert.KernelIdeal.Sb
end
-- ==== Proof.Weights.lean ====
/-
  What one grid point computes, in closed form: the walk over the key blocks keeps the scores, the sum of the softplus
  terms, the weights and the accumulator of a stick-breaking attention, and its output is the sum over the keys of the
  values under the weights.
-/
module

public import proofs.«01_k».proof.Proof.Stacks

@[expose] public section

set_option maxRecDepth 16384

noncomputable section

namespace Cert.KernelIdeal.Sb

open Cert.KernelIdeal Cert.KernelIdeal.Gen Cert.Sb
open Idealize.ShloMosaic Idealize.ShloMosaic.TcCoe Idealize.SL.Sem
open Finset (Ico range)

theorem col_lt (h : Fin 8) (p : Fin 256) : 256 * h.val + p.val < 2048 := by have := h.2; have := p.2; omega
theorem feat_lt (h : Fin 8) (d : Fin 64) : 64 * h.val + d.val < 512 := by have := h.2; have := d.2; omega

section
variable (Q : Vec Ideal S256x512 .bf16) (K : Vec Ideal S4096x512 .bf16) (V : Vec Ideal S1x16x512x256 .bf16) (q : ℕ)

/-- The score of key `k` against query `p` of the block, head `h`. -/
def zz (h : Fin 8) (p : Fin 256) (k : ℕ) : EReal :=
  ∑ d : Fin 64, K (ix2 (n0 := 4096) (n1 := 512) ⟨k % 4096, Nat.mod_lt _ (by decide)⟩ ⟨64 * h.val + d.val, feat_lt h d⟩)
    * (Q (ix2 p ⟨64 * h.val + d.val, feat_lt h d⟩) * eighth)

/-- The softplus term of key `k` before query `256 q + p`; zero from the query on. -/
def mm (h : Fin 8) (p : Fin 256) (k : ℕ) : EReal := if k < 256 * q + p.val then sp (zz Q K h p k) else 0

/-- The stick-breaking weight of key `j`. -/
def ww (h : Fin 8) (p : Fin 256) (j : ℕ) : EReal :=
  if j < 256 * q + p.val then Ideal.exp (zz Q K h p j - ∑ k ∈ Ico j (256 * (q + 1)), mm Q K q h p k) else 0

/-- Feature `d` of head `h` of the value of key `j`. -/
def vv (h : Fin 8) (d : Fin 64) (j : ℕ) : EReal :=
  V (ix4 (n0 := 1) (n1 := 16) (n2 := 512) (n3 := 256) 0 ⟨j / 256 % 16, Nat.mod_lt _ (by decide)⟩ ⟨64 * h.val + d.val, feat_lt h d⟩
    ⟨j % 256, Nat.mod_lt _ (by decide)⟩)

theorem mm_nonneg (h : Fin 8) (p : Fin 256) (k : ℕ) : 0 ≤ mm Q K q h p k := by
  unfold mm; split
  · exact sp_nonneg _
  · exact le_rfl

/-- `z` holds the scores of block `n`. -/
def IsScore (n : ℕ) (z : Vec Ideal S256x2048 .f32) : Prop :=
  ∀ (r : Fin 256) (h : Fin 8) (p : Fin 256), z (ix2 r ⟨256 * h.val + p.val, col_lt h p⟩) = zz Q K h p (256 * n + r.val)

/-- `c` holds the sums of the softplus terms of the keys of blocks `n` to `q`. -/
def IsCarry (n : ℕ) (c : Vec Ideal S1x2048 .f32) : Prop :=
  ∀ (h : Fin 8) (p : Fin 256), c (ix2 0 ⟨256 * h.val + p.val, col_lt h p⟩) = ∑ k ∈ Ico (256 * n) (256 * (q + 1)), mm Q K q h p k

/-- `w` holds the weights of block `n`. -/
def IsWeight (n : ℕ) (w : Vec Ideal S256x2048 .bf16) : Prop :=
  ∀ (r : Fin 256) (h : Fin 8) (p : Fin 256), w (ix2 r ⟨256 * h.val + p.val, col_lt h p⟩) = ww Q K q h p (256 * n + r.val)

/-- `a` holds the values of the keys of blocks `n` to `q`, added up under their weights. -/
def IsAcc (n : ℕ) (a : Vec Ideal S512x256 .f32) : Prop :=
  ∀ (h : Fin 8) (d : Fin 64) (p : Fin 256), a (ix2 ⟨64 * h.val + d.val, feat_lt h d⟩ p)
    = ∑ j ∈ Ico (256 * n) (256 * (q + 1)), vv V h d j * ww Q K q h p j

variable {Q K V q}

theorem score_spec (n : ℕ) : IsScore Q K n (scoreF (stack0 Q) (stack1 Q) (keyB K n)) := by
  intro r h p
  rw [score_at]
  rfl

theorem carry_spec {n : ℕ} (hn : n < q) {z : Vec Ideal S256x2048 .f32} {c : Vec Ideal S1x2048 .f32}
    (hz : IsScore Q K n z) (hc : IsCarry Q K q (n + 1) c) : IsCarry Q K q n (carryF k0_pay107 z c) := by
  intro h p
  have e : ∀ x : Fin 256, sp (z (ix2 x ⟨256 * h.val + p.val, col_lt h p⟩)) = mm Q K q h p (256 * n + x.val) := by
    intro x
    rw [hz x h p, mm, if_pos (by have := x.2; omega)]
  rw [carry_at, hc h p, Finset.sum_congr rfl fun x _ => e x, sum_block (mm Q K q h p) n, add_comm]
  exact Finset.sum_Ico_consecutive _ (by omega) (by omega)

theorem weight_spec {n : ℕ} (hn : n < q) {z : Vec Ideal S256x2048 .f32} {c : Vec Ideal S1x2048 .f32}
    (hz : IsScore Q K n z) (hc : IsCarry Q K q (n + 1) c) : IsWeight Q K q n (weightF k0_pay107 z c) := by
  intro r h p
  have hr := r.2
  have e : ∀ x : Fin 256, (if r.val ≤ x.val then sp (z (ix2 x ⟨256 * h.val + p.val, col_lt h p⟩)) else 0)
      = if r.val ≤ x.val then mm Q K q h p (256 * n + x.val) else 0 := by
    intro x
    rw [hz x h p, mm, if_pos (show 256 * n + x.val < 256 * q + p.val by have := x.2; omega)]
  rw [weight_at, hz r h p, hc h p, Finset.sum_congr rfl fun x _ => e x, sum_tail (mm Q K q h p) n r.val,
    sub_sub_nonneg _ _ _ (Finset.sum_nonneg fun k _ => mm_nonneg Q K q h p k) (Finset.sum_nonneg fun k _ => mm_nonneg Q K q h p k),
    Finset.sum_Ico_consecutive _ (by omega) (by omega), ww, if_pos (show 256 * n + r.val < 256 * q + p.val by omega)]

theorem carryM_spec {z : Vec Ideal S256x2048 .f32} {c : Vec Ideal S1x2048 .f32}
    (hz : IsScore Q K q z) (hc : IsCarry Q K q (q + 1) c) : IsCarry Q K q q (carryM k0_pay107 k0_pay108 z c) := by
  intro h p
  have hp : (256 * h.val + p.val) % 256 = p.val := by have := p.2; omega
  have e : ∀ x : Fin 256, (if x.val < (256 * h.val + p.val) % 256 then sp (z (ix2 x ⟨256 * h.val + p.val, col_lt h p⟩)) else 0)
      = mm Q K q h p (256 * q + x.val) := by
    intro x
    rw [hz x h p, mm, hp]
    by_cases hx : x.val < p.val
    · rw [if_pos hx, if_pos (by omega)]
    · rw [if_neg hx, if_neg (by omega)]
  rw [carryM_at, hc h p, Finset.sum_congr rfl fun x _ => e x, sum_block (mm Q K q h p) q, add_comm]
  exact Finset.sum_Ico_consecutive _ (by omega) (by omega)

theorem weightM_spec {z : Vec Ideal S256x2048 .f32} {c : Vec Ideal S1x2048 .f32}
    (hz : IsScore Q K q z) (hc : IsCarry Q K q (q + 1) c) : IsWeight Q K q q (weightM k0_pay107 k0_pay108 z c) := by
  intro r h p
  have hr := r.2
  have hp : (256 * h.val + p.val) % 256 = p.val := by have := p.2; omega
  have e : ∀ x : Fin 256, (if r.val ≤ x.val then (if x.val < (256 * h.val + p.val) % 256 then sp (z (ix2 x ⟨256 * h.val + p.val, col_lt h p⟩)) else 0) else 0)
      = if r.val ≤ x.val then mm Q K q h p (256 * q + x.val) else 0 := by
    intro x
    rw [hz x h p, mm, hp]
    by_cases hx : x.val < p.val
    · rw [if_pos hx, if_pos (show 256 * q + x.val < 256 * q + p.val by omega)]
    · rw [if_neg hx, if_neg (show ¬ 256 * q + x.val < 256 * q + p.val by omega)]
  rw [weightM_at, hz r h p, hc h p, Finset.sum_congr rfl fun x _ => e x, sum_tail (mm Q K q h p) q r.val,
    sub_sub_nonneg _ _ _ (Finset.sum_nonneg fun k _ => mm_nonneg Q K q h p k) (Finset.sum_nonneg fun k _ => mm_nonneg Q K q h p k),
    Finset.sum_Ico_consecutive _ (by omega) (by omega), ww]
  dsimp only
  rw [hp]
  by_cases hx : r.val < p.val
  · rw [if_pos hx, if_pos (show 256 * q + r.val < 256 * q + p.val by omega)]
  · rw [if_neg hx, if_neg (show ¬ 256 * q + r.val < 256 * q + p.val by omega)]

theorem add_spec {n : ℕ} (hn : n ≤ q) (hq : q < 16) {w : Vec Ideal S256x2048 .bf16} {a : Vec Ideal S512x256 .f32}
    (hw : IsWeight Q K q n w) (ha : IsAcc Q K V q (n + 1) a) : IsAcc Q K V q n (addF V n w a) := by
  intro h d p
  have e : ∀ x : Fin 256, V (ix4 0 ⟨n, by omega⟩ ⟨64 * h.val + d.val, feat_lt h d⟩ x) * w (ix2 x ⟨256 * h.val + p.val, col_lt h p⟩)
      = (fun j => vv V h d j * ww Q K q h p j) (256 * n + x.val) := by
    intro x
    have hx := x.2
    have e1 : (256 * n + x.val) / 256 % 16 = n := by omega
    have e2 : (256 * n + x.val) % 256 = x.val := by omega
    dsimp only
    rw [hw x h p, vv]
    simp only [e1, e2]
  refine (add_at V ⟨n, by omega⟩ w a h d p).trans ?_
  rw [ha h d p, Finset.sum_congr rfl fun x _ => e x, sum_block (fun j => vv V h d j * ww Q K q h p j) n, add_comm]
  exact Finset.sum_Ico_consecutive _ (by omega) (by omega)

theorem carry_zero : IsCarry Q K q (q + 1) (k0_pay109 (F := Ideal)) := by
  intro h p
  rw [Finset.Ico_self, Finset.sum_empty]
  pointwise [k0_pay109]

theorem acc_zero : IsAcc Q K V q (q + 1) (k0_pay110 (F := Ideal)) := by
  intro h d p
  rw [Finset.Ico_self, Finset.sum_empty]
  pointwise [k0_pay110]

/-- What is kept between two pairs, with `n` pairs to go. -/
structure Kept (Q : Vec Ideal S256x512 .bf16) (K : Vec Ideal S4096x512 .bf16) (V : Vec Ideal S1x16x512x256 .bf16) (q n : ℕ) (s : Walk Ideal) : Prop where
  za : 0 < n → IsScore Q K (2 * n - 1) s.za
  wb : IsWeight Q K q (2 * n) s.wb
  c : IsCarry Q K q (2 * n) s.c
  a : IsAcc Q K V q (2 * n + 1) s.a

theorem kept_start (hq : q < 16) : Kept Q K V q (q / 2) (startF Q K V q) := by
  unfold startF
  have z := score_spec (Q := Q) (K := K) q
  have c := carryM_spec z (carry_zero (Q := Q) (K := K) (q := q))
  have w := weightM_spec z (carry_zero (Q := Q) (K := K) (q := q))
  by_cases hp : q % 2 = 0
  · rw [if_pos hp]
    have e : 2 * (q / 2) = q := by omega
    unfold evenF
    refine ⟨fun _ => ?_, ?_, ?_, ?_⟩ <;> dsimp only <;> rw [e]
    · exact score_spec (q - 1)
    · exact w
    · exact c
    · exact acc_zero
  · rw [if_neg hp]
    have e : 2 * (q / 2) = q - 1 := by omega
    have e1 : q - 1 + 1 = q := by omega
    have e2 : q - 1 - 1 = q - 2 := by omega
    unfold oddF
    refine ⟨fun _ => ?_, ?_, ?_, ?_⟩ <;> dsimp only <;> rw [e]
    · rw [e2]; exact score_spec (q - 2)
    · exact weight_spec (by omega) (score_spec (q - 1)) (by rw [e1]; exact c)
    · exact carry_spec (by omega) (score_spec (q - 1)) (by rw [e1]; exact c)
    · rw [e1]; exact add_spec le_rfl hq w acc_zero

theorem kept_pair (hq : q < 16) {n : ℕ} (hn : 2 * n + 2 ≤ q) {s : Walk Ideal} (h : Kept Q K V q (n + 1) s) :
    Kept Q K V q n (pairF K V (stack0 Q) (stack1 Q) k0_pay107 (n + 1) s) := by
  have hza := h.za (Nat.succ_pos n)
  have hwb := h.wb
  have hc := h.c
  have ha := h.a
  have e1 : 2 * (n + 1) - 1 = 2 * n + 1 := by omega
  have e2 : 2 * (n + 1) = 2 * n + 1 + 1 := by omega
  have e3 : 2 * (n + 1) - 2 = 2 * n := by omega
  have e4 : 2 * (n + 1) - 3 = 2 * n - 1 := by omega
  rw [e1] at hza
  rw [e2] at hwb hc ha
  have c1 := carry_spec (by omega) hza hc
  unfold pairF
  refine ⟨fun _ => ?_, ?_, ?_, ?_⟩ <;> dsimp only
  · rw [e4]; exact score_spec _
  · rw [e3]; exact weight_spec (by omega) (score_spec _) c1
  · rw [e3]; exact carry_spec (by omega) (score_spec _) c1
  · rw [e1, e2]
    exact add_spec (by omega) hq (weight_spec (by omega) hza hc) (add_spec (by omega) hq hwb ha)

theorem kept_walk (hq : q < 16) : ∀ k : ℕ, k ≤ q / 2 →
    Kept Q K V q (q / 2 - k) (walkF K V (stack0 Q) (stack1 Q) k0_pay107 (q / 2) (startF Q K V q) k)
  | 0, _ => kept_start hq
  | k + 1, hk => by
    have h := kept_walk hq k (by omega)
    have e : q / 2 - k = q / 2 - (k + 1) + 1 := by omega
    rw [e] at h
    have h2 := kept_pair hq (by omega) h
    rw [← e] at h2
    exact h2

/-- The block of outputs: query `p`, feature `d` of head `h`. -/
theorem out_at (hq : q < 16) (h : Fin 8) (d : Fin 64) (p : Fin 256) :
    outF Q K V q (ix2 p ⟨64 * h.val + d.val, feat_lt h d⟩) = ∑ j ∈ Ico 0 (256 * (q + 1)), vv V h d j * ww Q K q h p j := by
  have hk := kept_walk (Q := Q) (K := K) (V := V) hq (q / 2) le_rfl
  rw [Nat.sub_self] at hk
  have hA := add_spec (Nat.zero_le q) hq hk.wb hk.a h d p
  rw [Nat.mul_zero] at hA
  rw [← hA]
  unfold outF
  generalize addF V 0 _ _ = A
  pointwise [k0_pay2]

end

end Cert.KernelIdeal.Sb
end
-- ==== Proof.RefValue.lean ====
/-
  The reference's attention, read at an index.
-/
module

public import proofs.«01_k».proof.Proof.Gen.ReferenceIdeal.Run
public import proofs.«01_k».proof.Proof.SbMath
public import Idealize.ShloMosaic.Lib.Pointwise
public import Idealize.ShloMosaic.Lib.WordCmp
public import Idealize.ShloMosaic.Lib.IdealHost
public import Idealize.ShloMosaic.Lib.Pipeline.ValueKit

@[expose] public section

set_option maxRecDepth 16384

noncomputable section

namespace Cert.ReferenceIdeal.Sb

open Cert.ReferenceIdeal Cert.ReferenceIdeal.Value Cert.Sb
open Idealize.ShloMosaic Idealize.ShloMosaic.TcCoe Idealize.SL.Sem

/-- A running sum from the left end of a list is the list's sum. -/
theorem foldl_add_sum {α : Type} (f : α → EReal) : ∀ (l : List α) (v : EReal), l.foldl (fun r n => r + f n) v = v + (l.map f).sum
  | [], v => by simp
  | a :: l, v => by rw [List.foldl_cons, foldl_add_sum f l, List.map_cons, List.sum_cons, add_assoc]

/-- The terms at distance `k` from position `j` that fall inside, added up over all distances, are the terms from `j` on. -/
theorem sum_shift (f : Fin 4096 → EReal) (j : Fin 4096) :
    (∑ k : Fin 4096, if j.val + k.val < 4096 then f ⟨(j.val + k.val) % 4096, Nat.mod_lt _ (by decide)⟩ else 0)
      = ∑ k : Fin 4096, if j.val ≤ k.val then f k else 0 := by
  have hj := j.2
  let g : ℕ → EReal := fun n => if h : n < 4096 then f ⟨n, h⟩ else 0
  have e1 : ∀ k : Fin 4096, (if j.val + k.val < 4096 then f ⟨(j.val + k.val) % 4096, Nat.mod_lt _ (by decide)⟩ else 0)
      = (fun n : ℕ => g (j.val + n)) k.val := by
    intro k
    by_cases h : j.val + k.val < 4096
    · have e := Nat.mod_eq_of_lt h
      simp only [g, h, e, if_true, dif_pos]
    · simp only [g, h, if_false, dif_neg, not_false_eq_true]
  have e2 : ∀ k : Fin 4096, (if j.val ≤ k.val then f k else 0) = (fun n : ℕ => if j.val ≤ n then g n else 0) k.val := by
    intro k
    simp only [g, k.2, dif_pos]
  rw [Finset.sum_congr rfl fun k _ => e1 k, Finset.sum_congr rfl fun k _ => e2 k,
    Fin.sum_univ_eq_sum_range (fun n : ℕ => g (j.val + n)) 4096, Fin.sum_univ_eq_sum_range (fun n : ℕ => if j.val ≤ n then g n else 0) 4096,
    Finset.range_eq_Ico, Finset.sum_Ico_add g 0 4096 j.val, ← Finset.sum_filter]
  symm
  refine Finset.sum_subset (fun n hn => ?_) (fun n hn hn' => ?_)
  · simp at hn ⊢; omega
  · simp at hn hn'
    have : ¬ n < 4096 := fun h => by have := hn' h; omega
    simp only [g, this, dif_neg, not_false_eq_true]

/-- The reversed running sum along the keys: at key `j`, the sum over the keys from `j` on. -/
theorem suffix_at (x : FVec Ideal S2x16x4096x4096 .f32) (h : S2x16x4096x4096.ReduceWindows ![1, 1, 1, 4096] ![1, 1, 1, 1] ![0, 0, 0, 0] ![0, 0, 0, 4095] S2x16x4096x4096)
    (hb) (hu : 0 < S_.numel) (b : Fin 2) (H : Fin 16) (i j : Fin 4096) :
    Host.reduceWindowAdd (F := Ideal) (φ := .f32) (t := S2x16x4096x4096) (u := S_) ![1, 1, 1, 4096] ![1, 1, 1, 1] ![0, 0, 0, 0] ![0, 0, 0, 4095] x
        (broadcastInDim S_ ![] hb (constant S_ FTy.f32 0#32)) h hu (ix4 b H i j)
      = ∑ k : Fin 4096, if j.val ≤ k.val then x (ix4 b H i k) else 0 := by
  have hi : ∀ i, broadcastInDim S_ ![] hb (constant (F := Ideal) S_ FTy.f32 0#32) i = 0 := fun i => by pointwise []
  unfold Host.reduceWindowAdd
  rw [hi]
  show Ideal.hostReduceWindowAdd _ _ _ _ h x 0 (ix4 b H i j) = _
  unfold Ideal.hostReduceWindowAdd Host.reduceWindow
  dsimp only
  rw [foldl_add_sum, zero_add, ← Fin.sum_univ_def]
  have hs := Equiv.sum_comp (Shape.rowMajor ⟨4, ![1, 1, 1, 4096]⟩).symm fun w : (⟨4, ![1, 1, 1, 4096]⟩ : Shape).Idx =>
    if j.val + (w 3).val < 4096 then x (ix4 b H i ⟨(j.val + (w 3).val) % 4096, Nat.mod_lt _ (by decide)⟩) else 0
  refine Eq.trans (Finset.sum_congr rfl fun n _ => ?_) (hs.trans ?_)
  · have w0 : ((Shape.rowMajor ⟨4, ![1, 1, 1, 4096]⟩).symm n 0).val < 1 := ((Shape.rowMajor ⟨4, ![1, 1, 1, 4096]⟩).symm n 0).isLt
    have w1 : ((Shape.rowMajor ⟨4, ![1, 1, 1, 4096]⟩).symm n 1).val < 1 := ((Shape.rowMajor ⟨4, ![1, 1, 1, 4096]⟩).symm n 1).isLt
    have w2 : ((Shape.rowMajor ⟨4, ![1, 1, 1, 4096]⟩).symm n 2).val < 1 := ((Shape.rowMajor ⟨4, ![1, 1, 1, 4096]⟩).symm n 2).isLt
    have hb := b.2
    have hH := H.2
    have hi' := i.2
    by_cases hc : j.val + ((Shape.rowMajor ⟨4, ![1, 1, 1, 4096]⟩).symm n 3).val < 4096
    · rw [if_pos hc, dif_pos]
      · refine congrArg x (funext fun a => Fin.ext ?_)
        match a with
        | ⟨0, _⟩ => show b.val * 1 + ((Shape.rowMajor ⟨4, ![1, 1, 1, 4096]⟩).symm n 0).val - 0 = b.val; omega
        | ⟨1, _⟩ => show H.val * 1 + ((Shape.rowMajor ⟨4, ![1, 1, 1, 4096]⟩).symm n 1).val - 0 = H.val; omega
        | ⟨2, _⟩ => show i.val * 1 + ((Shape.rowMajor ⟨4, ![1, 1, 1, 4096]⟩).symm n 2).val - 0 = i.val; omega
        | ⟨3, _⟩ => show j.val * 1 + ((Shape.rowMajor ⟨4, ![1, 1, 1, 4096]⟩).symm n 3).val - 0 = (j.val + ((Shape.rowMajor ⟨4, ![1, 1, 1, 4096]⟩).symm n 3).val) % 4096; omega
      · intro a
        match a with
        | ⟨0, _⟩ => show 0 ≤ b.val * 1 + ((Shape.rowMajor ⟨4, ![1, 1, 1, 4096]⟩).symm n 0).val ∧ b.val * 1 + ((Shape.rowMajor ⟨4, ![1, 1, 1, 4096]⟩).symm n 0).val - 0 < 2; omega
        | ⟨1, _⟩ => show 0 ≤ H.val * 1 + ((Shape.rowMajor ⟨4, ![1, 1, 1, 4096]⟩).symm n 1).val ∧ H.val * 1 + ((Shape.rowMajor ⟨4, ![1, 1, 1, 4096]⟩).symm n 1).val - 0 < 16; omega
        | ⟨2, _⟩ => show 0 ≤ i.val * 1 + ((Shape.rowMajor ⟨4, ![1, 1, 1, 4096]⟩).symm n 2).val ∧ i.val * 1 + ((Shape.rowMajor ⟨4, ![1, 1, 1, 4096]⟩).symm n 2).val - 0 < 4096; omega
        | ⟨3, _⟩ => show 0 ≤ j.val * 1 + ((Shape.rowMajor ⟨4, ![1, 1, 1, 4096]⟩).symm n 3).val ∧ j.val * 1 + ((Shape.rowMajor ⟨4, ![1, 1, 1, 4096]⟩).symm n 3).val - 0 < 4096; omega
    · rw [if_neg hc, dif_neg]
      intro hall
      have h3 : j.val * 1 + ((Shape.rowMajor ⟨4, ![1, 1, 1, 4096]⟩).symm n 3).val - 0 < 4096 := (hall 3).2
      omega
  · rw [← sum_shift (fun k => x (ix4 b H i k)) j]
    refine Fintype.sum_equiv ⟨fun w => w 3, fun k => ix4 (n0 := 1) (n1 := 1) (n2 := 1) (n3 := 4096) 0 0 0 k, fun w => funext fun a => ?_, fun k => rfl⟩ _ _ fun w => rfl
    match a with
    | ⟨0, _⟩ => exact Fin.ext (by have h : (w 0).val < 1 := (w 0).isLt; show 0 = (w 0).val; omega)
    | ⟨1, _⟩ => exact Fin.ext (by have h : (w 1).val < 1 := (w 1).isLt; show 0 = (w 1).val; omega)
    | ⟨2, _⟩ => exact Fin.ext (by have h : (w 2).val < 1 := (w 2).isLt; show 0 = (w 2).val; omega)
    | ⟨3, _⟩ => rfl

/-- The reference's softplus of one score. -/
theorem rsp_eq (x : EReal) : (if x ≠ x then x else max x 0 + Ideal.log1p (Ideal.exp (-FloatOps.absf (F := Ideal) (φ := .f32) x))) = sp x := by
  rw [if_neg (not_not.2 rfl)]
  exact softplus_eq x

theorem mask_word (i j : Fin 4096) : IntOp.cmpi .slt (BitVec.ofNat 32 j.val) (BitVec.ofNat 32 i.val) = BitVec.ofBool (decide (j.val < i.val)) := by
  have := i.2
  have := j.2
  simp (disch := omega) only [hlo_ix]

section
variable (X : FVec Ideal S8192x4352 .f32) (I : Fin 8192) (C : Fin 1024)

/-- The score of key `j` of the query's batch row, in the head of feature `C`. -/
def zr (j : Fin 4096) : EReal :=
  (∑ d : Fin 64, X (ix2 I ⟨C.val / 64 * 64 + d.val, by have := C.2; have := d.2; omega⟩)
    * X (ix2 ⟨I.val / 4096 * 4096 + j.val, by have := I.2; have := j.2; omega⟩ ⟨1024 + (C.val / 64 * 64 + d.val), by have := C.2; have := d.2; omega⟩))
    * Ideal.ofBits FTy.f32 1040187392#32

end

/-- The exponent the reference adds up, for a key before the query. -/
theorem exponent_sum (z : Fin 4096 → EReal) (i : ℕ) (j : Fin 4096) (hj : j.val < i) :
    -sp (-z j) + ((∑ k : Fin 4096, if j.val ≤ k.val then (if k.val < i then -sp (z k) else 0) else 0) - -sp (z j))
      = z j - ∑ k : Fin 4096, if j.val ≤ k.val then (if k.val < i then sp (z k) else 0) else 0 := by
  classical
  have hf : ∀ k : Fin 4096, 0 ≤ (if j.val ≤ k.val then (if k.val < i then sp (z k) else 0) else 0) := by
    intro k
    split
    · split
      · exact sp_nonneg _
      · exact le_rfl
    · exact le_rfl
  have e : ∀ k : Fin 4096, (if j.val ≤ k.val then (if k.val < i then -sp (z k) else 0) else 0)
      = -(if j.val ≤ k.val then (if k.val < i then sp (z k) else 0) else 0) := by
    intro k
    split
    · split
      · rfl
      · rw [neg_zero]
    · rw [neg_zero]
  rw [Finset.sum_congr rfl fun k _ => e k, sum_neg _ _ hf, ← Finset.add_sum_erase _ _ (Finset.mem_univ j), if_pos le_rfl, if_pos hj]
  exact exponent_eq _ _ (Finset.sum_nonneg fun k _ => hf k)

/-- The reference's attention at row `I`, feature `C`: the values of the keys before the query under the stick-breaking weights. -/
theorem ref_at (m : (ℓ : Loc nD τ sig) → Buf (Elt Ideal) ℓ) (c : Dev nD) (I : Fin 8192) (C : Fin 1024) :
    (show FVec Ideal S8192x1024 .bf16 from res_main_v27 m c) (ix2 I C)
      = ∑ j : Fin 4096, (show FVec Ideal S8192x4352 .f32 from m (c.tc.loc main_arg0)) (ix2 ⟨I.val / 4096 * 4096 + j.val, by have := I.2; have := j.2; omega⟩
          ⟨2048 + C.val, by have := C.2; omega⟩)
        * if j.val < I.val % 4096 then Ideal.exp (zr (m (c.tc.loc main_arg0)) I C j
            - ∑ k : Fin 4096, if j.val ≤ k.val then (if k.val < I.val % 4096 then sp (zr (m (c.tc.loc main_arg0)) I C k) else 0) else 0) else 0 := by
  unfold res_main_v27
  pointwise [rsp_eq]
  refine Finset.sum_congr rfl fun x _ => ?_
  rw [suffix_at]
  pointwise [rsp_eq]
  have h0 : (id (constant (F := Ideal) S_ FTy.f32 0#32) ix0 : EReal) = 0 := by
    show constant (F := Ideal) S_ FTy.f32 0#32 ix0 = (0 : EReal)
    pointwise []
  have hm : ∀ k : Fin 4096, IntOp.cmpi .slt (BitVec.ofNat 32 k.val) (BitVec.ofNat 32 (I.val % 4096)) = BitVec.ofBool (decide (k.val < I.val % 4096)) :=
    fun k => mask_word ⟨I.val % 4096, Nat.mod_lt _ (by decide)⟩ k
  simp only [hm, h0, WordCmp.select_ofBool, decide_eq_true_eq, neg_neg]
  refine Ideal.mul_congr rfl ?_
  by_cases hx : x.val < I.val % 4096
  · rw [if_pos hx, if_pos hx, if_pos hx]
    exact congrArg Ideal.exp (exponent_sum (zr (m (c.tc.loc main_arg0)) I C) (I.val % 4096) x hx)
  · rw [if_neg hx, if_neg hx]

/-- The reference's attention as a function of the projection. -/
def refOut (X : FVec Ideal S8192x4352 .f32) : FVec Ideal S8192x1024 .bf16 := fun y =>
  ∑ j : Fin 4096, X (ix2 (n0 := 8192) (n1 := 4352) ⟨(y 0).val / 4096 * 4096 + j.val, by have h : (y 0).val < 8192 := (y 0).isLt; have := j.2; omega⟩
      ⟨2048 + (y 1).val, by have h : (y 1).val < 1024 := (y 1).isLt; omega⟩)
    * if j.val < (y 0).val % 4096 then Ideal.exp (zr X (y 0) (y 1) j
        - ∑ k : Fin 4096, if j.val ≤ k.val then (if k.val < (y 0).val % 4096 then sp (zr X (y 0) (y 1) k) else 0) else 0) else 0

theorem refOut_at (X : FVec Ideal S8192x4352 .f32) (I : Fin 8192) (C : Fin 1024) : refOut X (ix2 I C)
    = ∑ j : Fin 4096, X (ix2 (n0 := 8192) (n1 := 4352) ⟨I.val / 4096 * 4096 + j.val, by have h := I.2; have := j.2; omega⟩
      ⟨2048 + C.val, by have h := C.2; omega⟩)
    * if j.val < I.val % 4096 then Ideal.exp (zr X I C j
        - ∑ k : Fin 4096, if j.val ≤ k.val then (if k.val < I.val % 4096 then sp (zr X I C k) else 0) else 0) else 0 := rfl

/-- The reference's first result is that function of its first argument. -/
theorem ref_eq (m : (ℓ : Loc nD τ sig) → Buf (Elt Ideal) ℓ) (c : Dev nD) : res_main_v27 m c = refOut (m (c.tc.loc main_arg0)) := by
  funext y
  obtain ⟨I, C, rfl⟩ : ∃ (I : Fin 8192) (C : Fin 1024), y = ix2 I C := ⟨y 0, y 1, eq_ix2 y⟩
  exact ref_at m c I C

end Cert.ReferenceIdeal.Sb
end
-- ==== Proof.Value.lean ====
/-
  The kernel's five results over the reals are the reference's.
-/
module

public import proofs.«01_k».proof.Proof.Run
public import proofs.«01_k».proof.Proof.Weights
public import proofs.«01_k».proof.Proof.RefValue
public import Idealize.ShloMosaic.Lib.Pipeline.ValueKit
public import Idealize.ShloMosaic.Lib.Claim

@[expose] public section

set_option maxRecDepth 16384

noncomputable section

namespace Cert.KernelIdeal.Sb

open Cert.KernelIdeal Cert.KernelIdeal.Gen Cert.Sb
open Idealize.ShloMosaic Idealize.ShloMosaic.TcCoe Idealize.SL.Sem
open Idealize.ShloMosaic.Pipeline (Dat)
open Finset (Ico range)

variable (m : (ℓ : Loc nD τ sig) → Buf (Elt Ideal) ℓ)

/-! ## The two forms of the sum -/

theorem eighth_eq : eighth = (((1 : ℝ) / 8 : ℝ) : EReal) := by
  unfold eighth
  simp [Ideal.ofBits, Ideal.ieee, -EReal.coe_mul]; norm_num

theorem eighth_eq' : Ideal.ofBits FTy.f32 1040187392#32 = (((1 : ℝ) / 8 : ℝ) : EReal) := by
  simp [Ideal.ofBits, Ideal.ieee, -EReal.coe_mul]; norm_num

/-- Scaling each query feature or scaling the score: the scale is a positive real, so it distributes. -/
theorem scale_sum {ι : Type} (s : Finset ι) (f g : ι → EReal) :
    ∑ d ∈ s, f d * (g d * eighth) = (∑ d ∈ s, g d * f d) * Ideal.ofBits FTy.f32 1040187392#32 := by
  classical
  rw [eighth_eq', eighth_eq]
  induction s using Finset.induction_on with
  | empty => simp
  | insert a s ha ih =>
    rw [Finset.sum_insert ha, Finset.sum_insert ha, ih, EReal.right_distrib_of_nonneg_of_ne_top (by norm_num) (EReal.coe_ne_top _),
      ← mul_assoc, mul_comm (f a)]

/-- The kernel's sum over the blocks up to the diagonal one is the reference's over all the keys. -/
theorem sums_eq (Q : Vec Ideal S256x512 .bf16) (K : Vec Ideal S4096x512 .bf16) (V : Vec Ideal S1x16x512x256 .bf16) (q : ℕ) (hq : q < 16)
    (h : Fin 8) (d : Fin 64) (p : Fin 256) (z v : Fin 4096 → EReal) (hz : ∀ j : Fin 4096, zz Q K h p j.val = z j)
    (hv : ∀ j : Fin 4096, vv V h d j.val = v j) :
    ∑ j ∈ Ico 0 (256 * (q + 1)), vv V h d j * ww Q K q h p j
      = ∑ j : Fin 4096, v j * if j.val < 256 * q + p.val then Ideal.exp (z j
          - ∑ k : Fin 4096, if j.val ≤ k.val then (if k.val < 256 * q + p.val then sp (z k) else 0) else 0) else 0 := by
  have hp := p.2
  have inner : ∀ j : Fin 4096, (∑ k : Fin 4096, if j.val ≤ k.val then (if k.val < 256 * q + p.val then sp (z k) else 0) else 0)
      = ∑ k ∈ Ico j.val (256 * (q + 1)), mm Q K q h p k := by
    intro j
    have e : ∀ k : Fin 4096, (if j.val ≤ k.val then (if k.val < 256 * q + p.val then sp (z k) else 0) else 0)
        = (fun n : ℕ => if j.val ≤ n then mm Q K q h p n else 0) k.val := by
      intro k
      simp only [mm, hz]
    rw [Finset.sum_congr rfl fun k _ => e k, Fin.sum_univ_eq_sum_range (fun n : ℕ => if j.val ≤ n then mm Q K q h p n else 0) 4096, ← Finset.sum_filter]
    symm
    refine Finset.sum_subset (fun n hn => ?_) (fun n hn hn' => ?_)
    · simp at hn ⊢; omega
    · simp at hn hn'
      rw [mm, if_neg]
      intro hlt
      have := hn' hn.2
      omega
  have e : ∀ j : Fin 4096, (v j * if j.val < 256 * q + p.val then Ideal.exp (z j
          - ∑ k : Fin 4096, if j.val ≤ k.val then (if k.val < 256 * q + p.val then sp (z k) else 0) else 0) else 0)
      = (fun n : ℕ => vv V h d n * ww Q K q h p n) j.val := by
    intro j
    simp only [inner, ww, hz, hv]
  rw [Finset.sum_congr rfl fun j _ => e j, Fin.sum_univ_eq_sum_range (fun n : ℕ => vv V h d n * ww Q K q h p n) 4096]
  refine Finset.sum_subset (fun n hn => ?_) (fun n hn hn' => ?_)
  · simp at hn ⊢; omega
  · simp at hn hn'
    rw [ww, if_neg (by omega), mul_zero]

/-! ## The blocks, as parts of the arguments -/

theorem idx : ∀ t : Fin cfg0.N, win0_0.index t = ![t.val / 32 * 16 + t.val % 16, t.val / 16 % 2] ∧ win0_1.index t = ![t.val / 32, 2 + t.val / 16 % 2]
    ∧ win0_2.index t = ![t.val / 32, 0, t.val / 16 % 2, 0] ∧ win0_7.index t = ![t.val / 32 * 16 + t.val % 16, t.val / 16 % 2]
    ∧ qOf (grid0.coords t) = t.val % 16 ∧ t.val < 64 :=
  (by decide +kernel : ∀ t : Fin grid0.N, _)

theorem idxW : ∀ t : Fin cfg0.N, win0_3.index t = ![t.val / 16, 17 + t.val % 16] ∧ win0_8.index t = ![t.val / 16, t.val % 16]
    ∧ win0_4.index t = ![t.val, 0] ∧ win0_5.index t = ![t.val, 0] ∧ win0_6.index t = ![t.val, 0]
    ∧ win0_9.index t = ![t.val, 0] ∧ win0_10.index t = ![t.val, 0] ∧ win0_11.index t = ![t.val, 0] :=
  (by decide +kernel : ∀ t : Fin grid0.N, _)

/-- The projection, as the kernel's first argument holds it. -/
abbrev proj (c : Dev nD) : FVec Ideal S8192x4352 .f32 := m ((c : Thread nD τ).loc main_arg0)

/-- A block of queries. -/
theorem readQ (c : Dev nD) (t : Fin cfg0.N) (p : Fin 256) (e : Fin 512) (I : Fin 8192) (C : Fin 4352)
    (hI : I.val = (t.val / 32 * 16 + t.val % 16) * 256 + p.val) (hC : C.val = t.val / 16 % 2 * 512 + e.val) :
    (show Vec Ideal S256x512 .bf16 from X0_0 m c t) (ix2 p e) = proj m c (ix2 I C) := by
  unfold X0_0 Pipeline.Window.fill
  dsimp only
  rw [dif_pos (moved0_0 t _)]
  blk_simp [iblk, idx t]
  entry_read
  pointwise []
  blk_ext [iblk, V, idx t]

/-- The keys. -/
theorem readK (c : Dev nD) (t : Fin cfg0.N) (p : Fin 4096) (e : Fin 512) (I : Fin 8192) (C : Fin 4352)
    (hI : I.val = t.val / 32 * 4096 + p.val) (hC : C.val = (2 + t.val / 16 % 2) * 512 + e.val) :
    (show Vec Ideal S4096x512 .bf16 from X0_1 m c t) (ix2 p e) = proj m c (ix2 I C) := by
  unfold X0_1 Pipeline.Window.fill
  dsimp only
  rw [dif_pos (moved0_1 t _)]
  blk_simp [iblk, idx t]
  entry_read
  pointwise []
  blk_ext [iblk, V, idx t]

/-- The values, transposed block by block. -/
theorem readV (c : Dev nD) (t : Fin cfg0.N) (j : Fin 16) (f : Fin 512) (x : Fin 256) (I : Fin 8192) (C : Fin 4352)
    (hI : I.val = t.val / 32 * 4096 + 256 * j.val + x.val) (hC : C.val = 2048 + t.val / 16 % 2 * 512 + f.val) :
    (show Vec Ideal S1x16x512x256 .bf16 from iblk m c 2 t) (ix4 0 j f x) = proj m c (ix2 I C) := by
  blk_simp [iblk, idx t]
  entry_read
  pointwise []
  blk_ext [iblk, V, idx t]

/-! ## The attention, one element of one block -/

open Cert.ReferenceIdeal.Sb (zr refOut) in
theorem point7 (c : Dev nD) (t : Fin cfg0.N) (h : Fin 8) (d : Fin 64) (p : Fin 256) (I : Fin 8192) (C : Fin 1024)
    (hI : I.val = (t.val / 32 * 16 + t.val % 16) * 256 + p.val) (hC : C.val = t.val / 16 % 2 * 512 + (64 * h.val + d.val)) :
    outF (X0_0 m c t) (X0_1 m c t) (iblk m c 2 t) (qOf (grid0.coords t)) (ix2 p ⟨64 * h.val + d.val, feat_lt h d⟩)
      = refOut (proj m c) (ix2 I C) := by
  have ht := (idx t).2.2.2.2.2
  have hp := p.2
  have hh := h.2
  have hd := d.2
  have hq : qOf (grid0.coords t) = t.val % 16 := (idx t).2.2.2.2.1
  have hq16 : t.val % 16 < 16 := Nat.mod_lt _ (by norm_num)
  have hb : I.val / 4096 = t.val / 32 := by omega
  have hi : I.val % 4096 = 256 * (t.val % 16) + p.val := by omega
  have hc : C.val / 64 * 64 = t.val / 16 % 2 * 512 + 64 * h.val := by omega
  rw [hq, out_at hq16 h d p]
  rw [sums_eq _ _ _ _ hq16 h d p (fun j => zr (proj m c) I C j)
    (fun j => proj m c (ix2 (n0 := 8192) (n1 := 4352) ⟨I.val / 4096 * 4096 + j.val, by have := j.2; omega⟩ ⟨2048 + C.val, by omega⟩)) ?_ ?_]
  · rw [Cert.ReferenceIdeal.Sb.refOut_at, hi]
  · intro j
    have hj := j.2
    unfold zz zr
    rw [scale_sum]
    congr 1
    refine Finset.sum_congr rfl fun e _ => ?_
    have he := e.2
    congr 1
    · exact readQ m c t _ _ _ _ hI (by show C.val / 64 * 64 + e.val = _; simp only; omega)
    · exact readK m c t _ _ _ _ (by show I.val / 4096 * 4096 + j.val = _ + j.val % 4096; omega)
        (by show 1024 + (C.val / 64 * 64 + e.val) = _; simp only; omega)
  · intro j
    have hj := j.2
    unfold vv
    exact readV m c t _ _ _ _ _ (by show I.val / 4096 * 4096 + j.val = t.val / 32 * 4096 + 256 * (j.val / 256 % 16) + j.val % 256; omega)
      (by show 2048 + C.val = _; simp only; omega)

/-- The same at any index of the block. -/
theorem point7_any (c : Dev nD) (t : Fin cfg0.N) (y : Shape.Idx S256x512) (z : Shape.Idx S8192x1024)
    (h0 : (z 0).val = (t.val / 32 * 16 + t.val % 16) * 256 + (y 0).val) (h1 : (z 1).val = t.val / 16 % 2 * 512 + (y 1).val) :
    outF (X0_0 m c t) (X0_1 m c t) (iblk m c 2 t) (qOf (grid0.coords t)) y = Cert.ReferenceIdeal.Sb.refOut (proj m c) z := by
  obtain ⟨p, f, rfl⟩ : ∃ (p : Fin 256) (f : Fin 512), y = ix2 p f := ⟨y 0, y 1, eq_ix2 y⟩
  obtain ⟨I, C, rfl⟩ : ∃ (I : Fin 8192) (C : Fin 1024), z = ix2 I C := ⟨z 0, z 1, eq_ix2 z⟩
  have hf := f.2
  obtain ⟨h, d, rfl⟩ : ∃ (h : Fin 8) (d : Fin 64), f = ⟨64 * h.val + d.val, feat_lt h d⟩ :=
    ⟨⟨f.val / 64, by omega⟩, ⟨f.val % 64, by omega⟩, Fin.ext (by show f.val = 64 * (f.val / 64) + f.val % 64; omega)⟩
  exact point7 m c t h d p I C h0 h1

/-! ## The five results -/

theorem after0_7 (c : Dev nD) (t : Fin cfg0.N) : (dats m 0 c).after 7 t
    = outF (X0_0 m c t) (X0_1 m c t) (iblk m c 2 t) (qOf (grid0.coords t)) := rfl
theorem after0_8 (c : Dev nD) (t : Fin cfg0.N) : (dats m 0 c).after 8 t = k0_pay93 (iblk m c 3 t) := rfl
theorem after0_9 (c : Dev nD) (t : Fin cfg0.N) : (dats m 0 c).after 9 t = k0_pay94 (iblk m c 4 t) := rfl
theorem after0_10 (c : Dev nD) (t : Fin cfg0.N) : (dats m 0 c).after 10 t = k0_pay95 (iblk m c 5 t) := rfl
theorem after0_11 (c : Dev nD) (t : Fin cfg0.N) : (dats m 0 c).after 11 t = k0_pay96 (iblk m c 6 t) := rfl

/-- The attention's result. -/
theorem final7 (c : Dev nD) : (dats m 0 c).arrAt 7 (cfgs 0).N = Cert.ReferenceIdeal.Sb.refOut (proj m c) := by
  refine (dats m 0 c).arrAt_eq_of_covers 7 _ (by decide +kernel) fun t _ y => ?_
  blk_simp
  rw [after0_7]
  refine point7_any m c t y _ ?_ ?_
  · blk_simp [idx t]
  · blk_simp [idx t]

/-- Rounded weights, block by block. -/
theorem final8 (c : Dev nD) : (dats m 0 c).arrAt 8 (cfgs 0).N
    = truncf .bf16 (extractStridedSlice S2048x4096 ![0, 4352] (shapeCast S2048x8448 (show FVec Ideal S1x2048x8448 .f32 from m ((c : Thread nD τ).loc main_arg1)) (by decide)) (by decide)) := by
  refine (dats m 0 c).arrAt_eq_of_covers 8 _ (by decide +kernel) fun t _ y => ?_
  blk_simp
  rw [after0_8]
  pointwise [k0_pay93]
  blk_point [iblk, V, idxW t]

/-- Rounded weights, block by block. -/
theorem final9 (c : Dev nD) : (dats m 0 c).arrAt 9 (cfgs 0).N
    = truncf .bf16 (shapeCast S1024x2048 (show FVec Ideal S1x1024x2048 .f32 from m ((c : Thread nD τ).loc main_arg2)) (by decide)) := by
  refine (dats m 0 c).arrAt_eq_of_covers 9 _ (by decide +kernel) fun t _ y => ?_
  blk_simp
  rw [after0_9]
  pointwise [k0_pay94]
  blk_point [iblk, V, idxW t]

/-- Rounded weights, block by block. -/
theorem final10 (c : Dev nD) : (dats m 0 c).arrAt 10 (cfgs 0).N
    = truncf .bf16 (shapeCast S1024x2048 (show FVec Ideal S1x1024x2048 .f32 from m ((c : Thread nD τ).loc main_arg3)) (by decide)) := by
  refine (dats m 0 c).arrAt_eq_of_covers 10 _ (by decide +kernel) fun t _ y => ?_
  blk_simp
  rw [after0_10]
  pointwise [k0_pay95]
  blk_point [iblk, V, idxW t]

/-- Rounded weights, block by block. -/
theorem final11 (c : Dev nD) : (dats m 0 c).arrAt 11 (cfgs 0).N
    = truncf .bf16 (shapeCast S2048x2048 (show FVec Ideal S1x2048x2048 .f32 from m ((c : Thread nD τ).loc main_arg4)) (by decide)) := by
  refine (dats m 0 c).arrAt_eq_of_covers 11 _ (by decide +kernel) fun t _ y => ?_
  blk_simp
  rw [after0_11]
  pointwise [k0_pay96]
  blk_point [iblk, V, idxW t]

end Cert.KernelIdeal.Sb
end
-- ==== Proof.Algebraic.lean ====
/-
  Over the reals the kernel and the reference end with the same results.
-/
module

public import proofs.«01_k».proof.Proof.Value
public import proofs.«01_k».proof.Proof.Frames

@[expose] public section

set_option maxRecDepth 16384

noncomputable section

namespace Cert.Equal

open Idealize.ShloMosaic Idealize.ShloMosaic.TcCoe Idealize.SL.Sem

/-- Over the reals the kernel and the reference end with the same five results. -/
theorem algebraic : Cert.algebraic_KernelIdeal_ReferenceIdeal := by
  pair_intro
  · run_from Cert.KernelIdeal.Gen.frame_of m g (Cert.KernelIdeal.Sb.dats m) (fun _ _ => rfl) (θ_run_mono (Cert.KernelIdeal.Sb.run_main (F := Ideal) m g) fun r h => h.1)
      & θ_run_mono (Cert.KernelIdeal.Sb.run_main (F := Ideal) m g) fun r h => h.1
  · run_from Cert.ReferenceIdeal.Value.run m' g'
    · rw [Cert.ReferenceIdeal.Sb.ref_eq, (hagree c).1]
      exact (Cert.KernelIdeal.Sb.final7 m c).symm
    · exact (Cert.KernelIdeal.Sb.final8 m c).symm
    · exact (Cert.KernelIdeal.Sb.final9 m c).symm
    · exact (Cert.KernelIdeal.Sb.final10 m c).symm
    · rw [Cert.KernelIdeal.Sb.final11 m c]

end Cert.Equal
end
-- ==== Proof.DownRef.lean ====
/-
  The reference's results as functions of its arguments.
-/
module

public import proofs.«01_k».proof.Proof.Gen.Reference2Ideal.Run
public import Idealize.ShloMosaic.Lib.Pipeline.ValueKit

@[expose] public section

noncomputable section

namespace Cert.Reference2Ideal.Down

open Cert.Reference2Ideal Cert.Reference2Ideal.Gen Idealize.ShloMosaic

/-- What the reference computes as its result `main_v15`, as a function of its arguments. -/
def main_v15_of (h : FVec Ideal S8192x2048 .f32) (act : FVec Ideal S8192x5632 .f32) (w : FVec Ideal S1x5632x2048 .f32) (g : FVec Ideal S2048 .f32) : FVec Ideal S8192x2048 .f32 :=
  mulf (mulf (addf h (Host.dotGeneral dot_S8192x5632_S5632x2048_S8192x2048_1_0_0_1_n_n none act (shapeCast _ w shapeCasts_S1x5632x2048_S5632x2048))) (broadcastInDim S8192x2048 ![0, 1] bcast_S8192x1_S8192x2048_0_1 (Host.rsqrt (addf (Host.divf (broadcastInDim S8192x1 ![0] bcast_S8192_S8192x1_0 (Host.reduceAdd (mulf (addf h (Host.dotGeneral dot_S8192x5632_S5632x2048_S8192x2048_1_0_0_1_n_n none act (shapeCast _ w shapeCasts_S1x5632x2048_S5632x2048))) (addf h (Host.dotGeneral dot_S8192x5632_S5632x2048_S8192x2048_1_0_0_1_n_n none act (shapeCast _ w shapeCasts_S1x5632x2048_S5632x2048)))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 g))

end Cert.Reference2Ideal.Down
end
-- ==== Proof.SameRun.lean ====
/-
  A run under one table of bodies is a run under an equal table.
-/
module

public import Idealize.ShloMosaic.Lib.Claim

@[expose] public section

namespace Cert.SameRun

open Idealize.ShloMosaic Idealize.SL.Sem

variable {nD : Nat} {τ : Topo} {sig : RefSig} {Val : EltTy → Type} {Λ : Labels}

/-- The same run, under an equal table of bodies. -/
theorem of_eq {d d' : Defs nD τ sig Val Λ} (hd : d = d') (p : (c : Thread nD τ) → Prog (TpuEff nD τ sig Val Λ c.2) PUnit) {s Q}
    (h : θ_run d' p s Q) : θ_run d p s Q := by
  subst hd
  exact h

end Cert.SameRun
end
-- ==== Proof.Down.lean ====
/-
  Down: the frames, and the results over the reals.
-/
module

public import proofs.«01_k».proof.Defs
public import proofs.«01_k».proof.Proof.Gen.Kernel2
public import proofs.«01_k».proof.Proof.Gen.Kernel2Ideal.Value
public import proofs.«01_k».proof.Proof.DownRef
public import Idealize.ShloMosaic.Lib.Pipeline.ValueKit
public import proofs.«01_k».proof.Proof.SameRun
public import Idealize.ShloMosaic.Lib.Claim
public import Idealize.ShloMosaic.Lib.Quiescent

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic Idealize.SL.Sem
open Idealize.ShloMosaic.Pipeline (Dat)

/-- The idealized kernel's frame. -/
theorem frame_ideal : Cert.quiescent_Kernel2Ideal := fun m ρ _ => Cert.Kernel2Ideal.Gen.frame m ρ

/-- The two programs' labels run the same body. -/
theorem labels_eq : Cert.Kernel2.defs₀ (F := Bits) = Cert.Kernel2Ideal.defs₀ (F := Bits) := by
  unfold Cert.Kernel2.defs₀ Cert.Kernel2Ideal.defs₀
  refine congrArg Defs.onTc (funext fun ℓ => ?_)
  match ℓ with
  | 0 => exact funext fun ⟨t, s⟩ => rfl

/-- So the two tables are the same. -/
theorem defs_eq : Cert.Kernel2.defs (F := Bits) = Cert.Kernel2Ideal.defs (F := Bits) :=
  congrArg (Pipeline.defs Cert.Kernel2Ideal.pcfgs) labels_eq

/-- The kernel's frame: the same run, over words. -/
theorem frame_kernel : Cert.quiescent_Kernel2 := fun m ρ _ =>
  Cert.SameRun.of_eq defs_eq _ (Cert.Kernel2Ideal.Gen.frame (F := Bits) m ρ)

/-- The reference's frame. -/
theorem frame_reference : Cert.quiescent_Reference2Ideal := fun m ρ _ =>
  (θ_run Cert.Reference2Ideal.defs _ _).mono (fun r h => ⟨fun c => (h c).2, sem_eq_zero_of_no_sems rfl r.2⟩)
    (Cert.Reference2Ideal.Value.run (F := Ideal) m ρ)

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![t.val, 0]
    ∧ t.val < 32 :=
  (by decide +kernel : ∀ t : Fin grid0.N, _)

set_option maxHeartbeats 1900000 in
/-- The result array of window 4 is the reference's result. -/
theorem final4 (c : Dev nD) : (dats m 0 c).arrAt 4 (cfgs 0).N
    = Cert.Reference2Ideal.Down.main_v15_of (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold Cert.Reference2Ideal.Down.main_v15_of
  pointwise [k0_pay1]
  blk_point [iblk, V, idx t]

/-- Over the reals the kernel and the reference end with the same results. -/
theorem algebraic : Cert.algebraic_Kernel2Ideal_Reference2Ideal := by
  pair_intro
  · run_from Cert.Kernel2Ideal.Value.run_blocks m g
  · run_from Cert.Reference2Ideal.Value.run m' g'
    · exact (final4 m c).symm

end Cert.Kernel2Ideal.Down
end
-- ==== Proof.MixRef.lean ====
/-
  The reference's results as functions of its arguments.
-/
module

public import proofs.«01_k».proof.Proof.Gen.Reference3Ideal.Run
public import Idealize.ShloMosaic.Lib.Pipeline.ValueKit

@[expose] public section

noncomputable section

namespace Cert.Reference3Ideal.Mix

open Cert.Reference3Ideal Cert.Reference3Ideal.Gen Idealize.ShloMosaic

/-- What the reference computes as its result `main_v25`, as a function of its arguments. -/
def main_v25_of (xn : FVec Ideal S8192x2048 .f32) (w : FVec Ideal S1x2048x8448 .f32) (a : FVec Ideal S8192x1024 .f32) (wa : FVec Ideal S1x1024x2048 .f32) (b : FVec Ideal S8192x1024 .f32) (wb : FVec Ideal S1x1024x2048 .f32) : FVec Ideal S8192x2048 .bf16 :=
  truncf .bf16 (addf (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none xn (extractStridedSlice S2048x2048 ![0, 4352] (shapeCast _ w shapeCasts_S1x2048x8448_S2048x8448) slices_S2048x8448_S2048x2048_0_4352)))))) (Host.dotGeneral dot_S8192x1024_S1024x2048_S8192x2048_1_0_0_1_n_n none a (shapeCast _ wa shapeCasts_S1x1024x2048_S1024x2048))) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none xn (extractStridedSlice S2048x2048 ![0, 6400] (shapeCast _ w shapeCasts_S1x2048x8448_S2048x8448) slices_S2048x8448_S2048x2048_0_6400)))))) (Host.dotGeneral dot_S8192x1024_S1024x2048_S8192x2048_1_0_0_1_n_n none b (shapeCast _ wb shapeCasts_S1x1024x2048_S1024x2048)))) bitsLt_bf16_f32

end Cert.Reference3Ideal.Mix
end
-- ==== Proof.Mix.lean ====
/-
  Mix: the frames, and the results over the reals.
-/
module

public import proofs.«01_k».proof.Defs
public import proofs.«01_k».proof.Proof.Gen.Kernel3
public import proofs.«01_k».proof.Proof.Gen.Kernel3Ideal.Value
public import proofs.«01_k».proof.Proof.MixRef
public import Idealize.ShloMosaic.Lib.Pipeline.ValueKit
public import proofs.«01_k».proof.Proof.SameRun
public import Idealize.ShloMosaic.Lib.Claim
public import Idealize.ShloMosaic.Lib.Quiescent

@[expose] public section

set_option maxRecDepth 16384

noncomputable section

namespace Cert.Kernel3Ideal.Mix

open Cert.Kernel3Ideal Cert.Kernel3Ideal.Gen
open Idealize.ShloMosaic Idealize.ShloMosaic.TcCoe Idealize.ShloMosaic.Tactic Idealize.SL.Sem
open Idealize.ShloMosaic.Pipeline (Dat)

/-- The idealized kernel's frame. -/
theorem frame_ideal : Cert.quiescent_Kernel3Ideal := fun m ρ _ => Cert.Kernel3Ideal.Gen.frame m ρ

/-- The two programs' labels run the same body. -/
theorem labels_eq : Cert.Kernel3.defs₀ (F := Bits) = Cert.Kernel3Ideal.defs₀ (F := Bits) := by
  unfold Cert.Kernel3.defs₀ Cert.Kernel3Ideal.defs₀
  refine congrArg Defs.onTc (funext fun ℓ => ?_)
  match ℓ with
  | 0 => exact funext fun ⟨t, s⟩ => rfl

/-- So the two tables are the same. -/
theorem defs_eq : Cert.Kernel3.defs (F := Bits) = Cert.Kernel3Ideal.defs (F := Bits) :=
  congrArg (Pipeline.defs Cert.Kernel3Ideal.pcfgs) labels_eq

/-- The kernel's frame: the same run, over words. -/
theorem frame_kernel : Cert.quiescent_Kernel3 := fun m ρ _ =>
  Cert.SameRun.of_eq defs_eq _ (Cert.Kernel3Ideal.Gen.frame (F := Bits) m ρ)

/-- The reference's frame. -/
theorem frame_reference : Cert.quiescent_Reference3Ideal := fun m ρ _ =>
  (θ_run Cert.Reference3Ideal.defs _ _).mono (fun r h => ⟨fun c => (h c).2, sem_eq_zero_of_no_sems rfl r.2⟩)
    (Cert.Reference3Ideal.Value.run (F := Ideal) m ρ)

variable (m : (ℓ : Loc nD τ sig) → Buf (Elt Ideal) ℓ)

theorem idx : ∀ t : Fin cfg0.N, win0_0.index t = ![t.val / 2, 0] ∧ win0_1.index t = ![0, t.val % 2] ∧ win0_2.index t = ![0, 2 + t.val % 2] ∧ win0_3.index t = ![t.val / 2, 0] ∧ win0_4.index t = ![0, t.val % 2] ∧ win0_5.index t = ![t.val / 2, 0] ∧ win0_6.index t = ![0, t.val % 2] ∧ win0_7.index t = ![t.val / 2, t.val % 2]
    ∧ t.val < 16 :=
  (by decide +kernel : ∀ t : Fin grid0.N, _)

set_option maxHeartbeats 1900000 in
/-- The result array of window 7 is the reference's result. -/
theorem final7 (c : Dev nD) : (dats m 0 c).arrAt 7 (cfgs 0).N
    = Cert.Reference3Ideal.Mix.main_v25_of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  frame_out
  unfold Cert.Reference3Ideal.Mix.main_v25_of
  pointwise [k0_pay1]
  unfold Ideal.logistic
  refine congrArg₂ (· + ·) (congrArg₂ (· * ·) (congrArg (fun z : EReal => Ideal.div 1 (1 + Ideal.exp (-z))) ?_) ?_)
    (congrArg₂ (· * ·) (congrArg (fun z : EReal => Ideal.div 1 (1 + Ideal.exp (-z))) ?_) ?_)
  all_goals
    refine Finset.sum_congr rfl fun k _ => ?_
    blk_point [iblk, V, idx t]

/-- Over the reals the kernel and the reference end with the same results. -/
theorem algebraic : Cert.algebraic_Kernel3Ideal_Reference3Ideal := by
  pair_intro
  · run_from Cert.Kernel3Ideal.Value.run_blocks m g
  · run_from Cert.Reference3Ideal.Value.run m' g'
    · exact (final7 m c).symm

end Cert.Kernel3Ideal.Mix
end
-- ==== Proof.OprojRef.lean ====
/-
  The reference's results as functions of its arguments.
-/
module

public import proofs.«01_k».proof.Proof.Gen.Reference4Ideal.Run
public import Idealize.ShloMosaic.Lib.Pipeline.ValueKit

@[expose] public section

noncomputable section

namespace Cert.Reference4Ideal.Oproj

open Cert.Reference4Ideal Cert.Reference4Ideal.Gen Idealize.ShloMosaic

/-- What the reference computes as its result `main_v2`, as a function of its arguments. -/
def main_v2_of (x : FVec Ideal S8192x2048 .f32) (mixed : FVec Ideal S8192x2048 .f32) (w : FVec Ideal S1x2048x2048 .f32) (g : FVec Ideal S1x2048 .f32) : FVec Ideal S8192x2048 .f32 :=
  addf x (Host.dotGeneral dot_S8192x2048_S2048x2048_S8192x2048_1_0_0_1_n_n none mixed (shapeCast _ w shapeCasts_S1x2048x2048_S2048x2048))

/-- What the reference computes as its result `main_v17`, as a function of its arguments. -/
def main_v17_of (x : FVec Ideal S8192x2048 .f32) (mixed : FVec Ideal S8192x2048 .f32) (w : FVec Ideal S1x2048x2048 .f32) (g : FVec Ideal S1x2048 .f32) : FVec Ideal S8192x2048 .bf16 :=
  truncf .bf16 (mulf (mulf (addf x (Host.dotGeneral dot_S8192x2048_S2048x2048_S8192x2048_1_0_0_1_n_n none mixed (shapeCast _ w shapeCasts_S1x2048x2048_S2048x2048))) (broadcastInDim S8192x2048 ![0, 1] bcast_S8192x1_S8192x2048_0_1 (Host.rsqrt (addf (Host.divf (broadcastInDim S8192x1 ![0] bcast_S8192_S8192x1_0 (Host.reduceAdd (mulf (addf x (Host.dotGeneral dot_S8192x2048_S2048x2048_S8192x2048_1_0_0_1_n_n none mixed (shapeCast _ w shapeCasts_S1x2048x2048_S2048x2048))) (addf x (Host.dotGeneral dot_S8192x2048_S2048x2048_S8192x2048_1_0_0_1_n_n none mixed (shapeCast _ w shapeCasts_S1x2048x2048_S2048x2048)))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 (shapeCast _ g shapeCasts_S1x2048_S2048)))) bitsLt_bf16_f32

end Cert.Reference4Ideal.Oproj
end
-- ==== Proof.Oproj.lean ====
/-
  Oproj: the frames, and the results over the reals.
-/
module

public import proofs.«01_k».proof.Defs
public import proofs.«01_k».proof.Proof.Gen.Kernel4
public import proofs.«01_k».proof.Proof.Gen.Kernel4Ideal.Value
public import proofs.«01_k».proof.Proof.OprojRef
public import Idealize.ShloMosaic.Lib.Pipeline.ValueKit
public import proofs.«01_k».proof.Proof.SameRun
public import Idealize.ShloMosaic.Lib.Claim
public import Idealize.ShloMosaic.Lib.Quiescent

@[expose] public section

set_option maxRecDepth 16384

noncomputable section

namespace Cert.Kernel4Ideal.Oproj

open Cert.Kernel4Ideal Cert.Kernel4Ideal.Gen
open Idealize.ShloMosaic Idealize.ShloMosaic.TcCoe Idealize.ShloMosaic.Tactic Idealize.SL.Sem
open Idealize.ShloMosaic.Pipeline (Dat)

/-- The idealized kernel's frame. -/
theorem frame_ideal : Cert.quiescent_Kernel4Ideal := fun m ρ _ => Cert.Kernel4Ideal.Gen.frame m ρ

/-- The two programs' labels run the same body. -/
theorem labels_eq : Cert.Kernel4.defs₀ (F := Bits) = Cert.Kernel4Ideal.defs₀ (F := Bits) := by
  unfold Cert.Kernel4.defs₀ Cert.Kernel4Ideal.defs₀
  refine congrArg Defs.onTc (funext fun ℓ => ?_)
  match ℓ with
  | 0 => exact funext fun ⟨t, s⟩ => rfl

/-- So the two tables are the same. -/
theorem defs_eq : Cert.Kernel4.defs (F := Bits) = Cert.Kernel4Ideal.defs (F := Bits) :=
  congrArg (Pipeline.defs Cert.Kernel4Ideal.pcfgs) labels_eq

/-- The kernel's frame: the same run, over words. -/
theorem frame_kernel : Cert.quiescent_Kernel4 := fun m ρ _ =>
  Cert.SameRun.of_eq defs_eq _ (Cert.Kernel4Ideal.Gen.frame (F := Bits) m ρ)

/-- The reference's frame. -/
theorem frame_reference : Cert.quiescent_Reference4Ideal := fun m ρ _ =>
  (θ_run Cert.Reference4Ideal.defs _ _).mono (fun r h => ⟨fun c => (h c).2.2, sem_eq_zero_of_no_sems rfl r.2⟩)
    (Cert.Reference4Ideal.Value.run (F := Ideal) m ρ)

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0]
    ∧ t.val < 16 :=
  (by decide +kernel : ∀ t : Fin grid0.N, _)

set_option maxHeartbeats 1900000 in
/-- The result array of window 4 is the reference's result. -/
theorem final4 (c : Dev nD) : (dats m 0 c).arrAt 4 (cfgs 0).N
    = Cert.Reference4Ideal.Oproj.main_v2_of (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold Cert.Reference4Ideal.Oproj.main_v2_of
  pointwise [k0_pay1, k0_pay2]
  blk_point [iblk, V, idx t]

set_option maxHeartbeats 1900000 in
/-- The result array of window 5 is the reference's result. -/
theorem final5 (c : Dev nD) : (dats m 0 c).arrAt 5 (cfgs 0).N
    = Cert.Reference4Ideal.Oproj.main_v17_of (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  unfold Cert.Reference4Ideal.Oproj.main_v17_of
  pointwise [k0_pay1, k0_pay2]
  blk_point [iblk, V, idx t]

/-- Over the reals the kernel and the reference end with the same results. -/
theorem algebraic : Cert.algebraic_Kernel4Ideal_Reference4Ideal := by
  pair_intro
  · run_from Cert.Kernel4Ideal.Value.run_blocks m g
  · run_from Cert.Reference4Ideal.Value.run m' g'
    · exact (final4 m c).symm
    · exact (final5 m c).symm

end Cert.Kernel4Ideal.Oproj
end
-- ==== Proof.FfnUpFrames.lean ====
/-
  The convolved feed-forward part: the frames.
-/
module

public import proofs.«01_k».proof.Defs
public import proofs.«01_k».proof.Proof.Gen.Kernel5
public import proofs.«01_k».proof.Proof.Gen.Kernel5Ideal.Value
public import proofs.«01_k».proof.Proof.Gen.Reference5Ideal.Run
public import Idealize.ShloMosaic.Lib.Pipeline.ValueKit
public import proofs.«01_k».proof.Proof.SameRun
public import Idealize.ShloMosaic.Lib.Claim
public import Idealize.ShloMosaic.Lib.Quiescent

@[expose] public section

set_option maxRecDepth 16384

noncomputable section

namespace Cert.Kernel5Ideal.FfnUpFrames

open Cert.Kernel5Ideal Cert.Kernel5Ideal.Gen
open Idealize.ShloMosaic Idealize.ShloMosaic.TcCoe Idealize.ShloMosaic.Tactic Idealize.SL.Sem
open Idealize.ShloMosaic.Pipeline (Dat)

/-- The idealized kernel's frame. -/
theorem frame_ideal : Cert.quiescent_Kernel5Ideal := fun m ρ _ => Cert.Kernel5Ideal.Gen.frame m ρ

/-- The two programs' labels run the same body. -/
theorem labels_eq : Cert.Kernel5.defs₀ (F := Bits) = Cert.Kernel5Ideal.defs₀ (F := Bits) := by
  unfold Cert.Kernel5.defs₀ Cert.Kernel5Ideal.defs₀
  refine congrArg Defs.onTc (funext fun ℓ => ?_)
  match ℓ with
  | 0 => exact funext fun ⟨t, s⟩ => rfl

/-- So the two tables are the same. -/
theorem defs_eq : Cert.Kernel5.defs (F := Bits) = Cert.Kernel5Ideal.defs (F := Bits) :=
  congrArg (Pipeline.defs Cert.Kernel5Ideal.pcfgs) labels_eq

/-- The kernel's frame: the same run, over words. -/
theorem frame_kernel : Cert.quiescent_Kernel5 := fun m ρ _ =>
  Cert.SameRun.of_eq defs_eq _ (Cert.Kernel5Ideal.Gen.frame (F := Bits) m ρ)

/-- The reference's frame. -/
theorem frame_reference : Cert.quiescent_Reference5Ideal := fun m ρ _ =>
  (θ_run Cert.Reference5Ideal.defs _ _).mono (fun r h => ⟨fun c => (h c).2.2, sem_eq_zero_of_no_sems rfl r.2⟩)
    (Cert.Reference5Ideal.Value.run (F := Ideal) m ρ)

end Cert.Kernel5Ideal.FfnUpFrames
end
-- ==== Proof.FfnScratch.lean ====
/-
  The convolved up projection: what the scratch holds at each load.
-/
module

public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

namespace Cert.Kernel5Ideal.FfnScratch

open Cert.Kernel5Ideal Cert.Kernel5Ideal.Gen
open Idealize.ShloMosaic Idealize.ShloMosaic.TcCoe Idealize.ShloMosaic.Tactic Idealize.SL.Sem

/-- A scratch of projected rows: eight rows `Z` carried in, then the rows of `X` times `W`. -/
def H (X : Vec Ideal S2048x2048 .bf16) (W : Vec Ideal S2048x512 .bf16) (Z : Vec Ideal S8x512 .f32) : Vec Ideal S2056x512 .f32 :=
  fun i => if h : (i 0).val < 8 then Z (ix2 ⟨(i 0).val, h⟩ (i 1))
    else ∑ k : Fin 2048, X (ix2 ⟨(i 0).val - 8, by have : (i 0).val < 2056 := (i 0).isLt; omega⟩ k) * W (ix2 k (i 1))

variable (X : Vec Ideal S2048x2048 .bf16) (W : Vec Ideal S2048x512 .bf16) (Z : Vec Ideal S8x512 .f32)

/-- Past the first eight rows the scratch holds the product's rows. -/
theorem H_row (i : S2056x512.Idx) (r : Fin 2048) (q : Fin 512) (hr : (i 0).val = r.val + 8) (hq : (i 1).val = q.val) :
    H X W Z i = ∑ k : Fin 2048, X (ix2 r k) * W (ix2 k q) := by
  unfold H
  rw [dif_neg (by omega)]
  refine Finset.sum_congr rfl fun k _ => ?_
  have e1 : (⟨(i 0).val - 8, by have : (i 0).val < 2056 := (i 0).isLt; omega⟩ : Fin 2048) = r := Fin.ext (by show (i 0).val - 8 = r.val; omega)
  have e2 : i 1 = q := Fin.ext hq
  rw [e1, e2]

/-- The first eight rows are the carried ones. -/
theorem H_halo (i : S2056x512.Idx) (r : Fin 8) (q : Fin 512) (hr : (i 0).val = r.val) (hq : (i 1).val = q.val) : H X W Z i = Z (ix2 r q) := by
  unfold H
  rw [dif_pos (by omega)]
  have e1 : (⟨(i 0).val, by omega⟩ : Fin 8) = r := Fin.ext hr
  have e2 : i 1 = q := Fin.ext hq
  rw [e1, e2]

/-- A row piece's index is in its rectangle. -/
theorem mem_rows {o n : ℕ} (inb : ∀ a, (![o, 0] : Fin 2 → ℕ) a + (![n, 512] : Fin 2 → ℕ) a ≤ S2056x512.size a) (y : S2056x512.Idx)
    (h : o ≤ (y 0).val) (h' : (y 0).val < o + n) : y ∈ (Rect.unit (s := S2056x512) ![o, 0] ![n, 512] inb).set := by
  have y1 : (y 1).val < 512 := (y 1).isLt
  rw [Rect.mem_set_unit]
  intro a
  match a with
  | ⟨0, _⟩ => exact ⟨h, h'⟩
  | ⟨1, _⟩ => exact ⟨Nat.zero_le _, by show (y 1).val < 0 + 512; omega⟩

set_option maxHeartbeats 1900000 in
/-- The carried rows. -/
theorem pieceZ (x : S8x512.Idx) : Z x = H X W Z ((Rect.unit (s := S2056x512) ![0, 0] ![8, 512] inb_S2056x512_S8x512_0_0).emb x) := by
  rw [H_halo X W Z _ (x 0) (x 1) (by show 0 + 1 * (x 0).val = _; omega) (by show 0 + 1 * (x 1).val = _; omega)]
  exact congrArg Z (funext fun a => match a with | ⟨0, _⟩ => rfl | ⟨1, _⟩ => rfl)

set_option maxHeartbeats 1900000 in
/-- Chunk 0 of the gate rows. -/
theorem pieceG0 (x : S256x512.Idx) : (⟨Rect.unit ![8, 0] ![256, 512] inb_S2056x512_S256x512_8_0, k0_pay10 (View.ld X (Rect.unit ![0, 0] ![256, 2048] inb_S2048x2048_S256x2048_0_0)) W⟩ : View.Piece (Elt Ideal) S2056x512 .f32).2 x
    = H X W Z ((Rect.unit (s := S2056x512) ![8, 0] ![256, 512] inb_S2056x512_S256x512_8_0).emb x) := by
  have x0 : (x 0).val < 256 := (x 0).isLt
  rw [H_row X W Z _ ⟨0 + (x 0).val, by omega⟩ (x 1) (by show 8 + 1 * (x 0).val = 0 + (x 0).val + 8; omega) (by show 0 + 1 * (x 1).val = _; omega)]
  dsimp only
  pointwise [k0_pay9, k0_pay10]

set_option maxHeartbeats 1900000 in
/-- Chunk 1 of the gate rows. -/
theorem pieceG1 (x : S256x512.Idx) : (⟨Rect.unit ![264, 0] ![256, 512] inb_S2056x512_S256x512_264_0, k0_pay18 (View.ld X (Rect.unit ![256, 0] ![256, 2048] inb_S2048x2048_S256x2048_256_0)) W⟩ : View.Piece (Elt Ideal) S2056x512 .f32).2 x
    = H X W Z ((Rect.unit (s := S2056x512) ![264, 0] ![256, 512] inb_S2056x512_S256x512_264_0).emb x) := by
  have x0 : (x 0).val < 256 := (x 0).isLt
  rw [H_row X W Z _ ⟨256 + (x 0).val, by omega⟩ (x 1) (by show 264 + 1 * (x 0).val = 256 + (x 0).val + 8; omega) (by show 0 + 1 * (x 1).val = _; omega)]
  dsimp only
  pointwise [k0_pay17, k0_pay18]

set_option maxHeartbeats 1900000 in
/-- Chunk 2 of the gate rows. -/
theorem pieceG2 (x : S256x512.Idx) : (⟨Rect.unit ![520, 0] ![256, 512] inb_S2056x512_S256x512_520_0, k0_pay24 (View.ld X (Rect.unit ![512, 0] ![256, 2048] inb_S2048x2048_S256x2048_512_0)) W⟩ : View.Piece (Elt Ideal) S2056x512 .f32).2 x
    = H X W Z ((Rect.unit (s := S2056x512) ![520, 0] ![256, 512] inb_S2056x512_S256x512_520_0).emb x) := by
  have x0 : (x 0).val < 256 := (x 0).isLt
  rw [H_row X W Z _ ⟨512 + (x 0).val, by omega⟩ (x 1) (by show 520 + 1 * (x 0).val = 512 + (x 0).val + 8; omega) (by show 0 + 1 * (x 1).val = _; omega)]
  dsimp only
  pointwise [k0_pay23, k0_pay24]

set_option maxHeartbeats 1900000 in
/-- Chunk 3 of the gate rows. -/
theorem pieceG3 (x : S256x512.Idx) : (⟨Rect.unit ![776, 0] ![256, 512] inb_S2056x512_S256x512_776_0, k0_pay29 (View.ld X (Rect.unit ![768, 0] ![256, 2048] inb_S2048x2048_S256x2048_768_0)) W⟩ : View.Piece (Elt Ideal) S2056x512 .f32).2 x
    = H X W Z ((Rect.unit (s := S2056x512) ![776, 0] ![256, 512] inb_S2056x512_S256x512_776_0).emb x) := by
  have x0 : (x 0).val < 256 := (x 0).isLt
  rw [H_row X W Z _ ⟨768 + (x 0).val, by omega⟩ (x 1) (by show 776 + 1 * (x 0).val = 768 + (x 0).val + 8; omega) (by show 0 + 1 * (x 1).val = _; omega)]
  dsimp only
  pointwise [k0_pay28, k0_pay29]

set_option maxHeartbeats 1900000 in
/-- Chunk 4 of the gate rows. -/
theorem pieceG4 (x : S256x512.Idx) : (⟨Rect.unit ![1032, 0] ![256, 512] inb_S2056x512_S256x512_1032_0, k0_pay36 (k0_pay35 (View.ld X (Rect.unit ![1024, 0] ![256, 2048] inb_S2048x2048_S256x2048_1024_0)) W)⟩ : View.Piece (Elt Ideal) S2056x512 .f32).2 x
    = H X W Z ((Rect.unit (s := S2056x512) ![1032, 0] ![256, 512] inb_S2056x512_S256x512_1032_0).emb x) := by
  have x0 : (x 0).val < 256 := (x 0).isLt
  rw [H_row X W Z _ ⟨1024 + (x 0).val, by omega⟩ (x 1) (by show 1032 + 1 * (x 0).val = 1024 + (x 0).val + 8; omega) (by show 0 + 1 * (x 1).val = _; omega)]
  dsimp only
  pointwise [k0_pay35, k0_pay34, k0_pay36]

set_option maxHeartbeats 1900000 in
/-- Chunk 5 of the gate rows. -/
theorem pieceG5 (x : S256x512.Idx) : (⟨Rect.unit ![1288, 0] ![256, 512] inb_S2056x512_S256x512_1288_0, k0_pay42 (View.ld X (Rect.unit ![1280, 0] ![256, 2048] inb_S2048x2048_S256x2048_1280_0)) W⟩ : View.Piece (Elt Ideal) S2056x512 .f32).2 x
    = H X W Z ((Rect.unit (s := S2056x512) ![1288, 0] ![256, 512] inb_S2056x512_S256x512_1288_0).emb x) := by
  have x0 : (x 0).val < 256 := (x 0).isLt
  rw [H_row X W Z _ ⟨1280 + (x 0).val, by omega⟩ (x 1) (by show 1288 + 1 * (x 0).val = 1280 + (x 0).val + 8; omega) (by show 0 + 1 * (x 1).val = _; omega)]
  dsimp only
  pointwise [k0_pay41, k0_pay42]

set_option maxHeartbeats 1900000 in
/-- Chunk 6 of the gate rows. -/
theorem pieceG6 (x : S256x512.Idx) : (⟨Rect.unit ![1544, 0] ![256, 512] inb_S2056x512_S256x512_1544_0, k0_pay50 (View.ld X (Rect.unit ![1536, 0] ![256, 2048] inb_S2048x2048_S256x2048_1536_0)) W⟩ : View.Piece (Elt Ideal) S2056x512 .f32).2 x
    = H X W Z ((Rect.unit (s := S2056x512) ![1544, 0] ![256, 512] inb_S2056x512_S256x512_1544_0).emb x) := by
  have x0 : (x 0).val < 256 := (x 0).isLt
  rw [H_row X W Z _ ⟨1536 + (x 0).val, by omega⟩ (x 1) (by show 1544 + 1 * (x 0).val = 1536 + (x 0).val + 8; omega) (by show 0 + 1 * (x 1).val = _; omega)]
  dsimp only
  pointwise [k0_pay49, k0_pay50]

set_option maxHeartbeats 1900000 in
/-- Chunk 7 of the gate rows. -/
theorem pieceG7 (x : S256x512.Idx) : (⟨Rect.unit ![1800, 0] ![256, 512] inb_S2056x512_S256x512_1800_0, k0_pay60 (View.ld X (Rect.unit ![1792, 0] ![256, 2048] inb_S2048x2048_S256x2048_1792_0)) W⟩ : View.Piece (Elt Ideal) S2056x512 .f32).2 x
    = H X W Z ((Rect.unit (s := S2056x512) ![1800, 0] ![256, 512] inb_S2056x512_S256x512_1800_0).emb x) := by
  have x0 : (x 0).val < 256 := (x 0).isLt
  rw [H_row X W Z _ ⟨1792 + (x 0).val, by omega⟩ (x 1) (by show 1800 + 1 * (x 0).val = 1792 + (x 0).val + 8; omega) (by show 0 + 1 * (x 1).val = _; omega)]
  dsimp only
  pointwise [k0_pay59, k0_pay60]

/-- The gate pieces are pieces of one scratch. -/
theorem allG : View.PiecesOf (H X W Z) [⟨Rect.unit ![1800, 0] ![256, 512] inb_S2056x512_S256x512_1800_0, k0_pay60 (View.ld X (Rect.unit ![1792, 0] ![256, 2048] inb_S2048x2048_S256x2048_1792_0)) W⟩,
      ⟨Rect.unit ![1544, 0] ![256, 512] inb_S2056x512_S256x512_1544_0, k0_pay50 (View.ld X (Rect.unit ![1536, 0] ![256, 2048] inb_S2048x2048_S256x2048_1536_0)) W⟩,
      ⟨Rect.unit ![1288, 0] ![256, 512] inb_S2056x512_S256x512_1288_0, k0_pay42 (View.ld X (Rect.unit ![1280, 0] ![256, 2048] inb_S2048x2048_S256x2048_1280_0)) W⟩,
      ⟨Rect.unit ![1032, 0] ![256, 512] inb_S2056x512_S256x512_1032_0, k0_pay36 (k0_pay35 (View.ld X (Rect.unit ![1024, 0] ![256, 2048] inb_S2048x2048_S256x2048_1024_0)) W)⟩,
      ⟨Rect.unit ![776, 0] ![256, 512] inb_S2056x512_S256x512_776_0, k0_pay29 (View.ld X (Rect.unit ![768, 0] ![256, 2048] inb_S2048x2048_S256x2048_768_0)) W⟩,
      ⟨Rect.unit ![520, 0] ![256, 512] inb_S2056x512_S256x512_520_0, k0_pay24 (View.ld X (Rect.unit ![512, 0] ![256, 2048] inb_S2048x2048_S256x2048_512_0)) W⟩,
      ⟨Rect.unit ![264, 0] ![256, 512] inb_S2056x512_S256x512_264_0, k0_pay18 (View.ld X (Rect.unit ![256, 0] ![256, 2048] inb_S2048x2048_S256x2048_256_0)) W⟩,
      ⟨Rect.unit ![8, 0] ![256, 512] inb_S2056x512_S256x512_8_0, k0_pay10 (View.ld X (Rect.unit ![0, 0] ![256, 2048] inb_S2048x2048_S256x2048_0_0)) W⟩,
      ⟨Rect.unit ![0, 0] ![8, 512] inb_S2056x512_S8x512_0_0, Z⟩] :=
  ⟨pieceG7 X W Z, pieceG6 X W Z, pieceG5 X W Z, pieceG4 X W Z, pieceG3 X W Z, pieceG2 X W Z, pieceG1 X W Z, pieceG0 X W Z, pieceZ X W Z, trivial⟩

set_option maxHeartbeats 1900000 in
/-- The load of chunk 0's gate rows. -/
theorem readG0 : (View.whole cc0_scratch0).readCov [⟨Rect.unit ![8, 0] ![256, 512] inb_S2056x512_S256x512_8_0, k0_pay10 (View.ld X (Rect.unit ![0, 0] ![256, 2048] inb_S2048x2048_S256x2048_0_0)) W⟩,
      ⟨Rect.unit ![0, 0] ![8, 512] inb_S2056x512_S8x512_0_0, Z⟩]
      (Rect.unit ![0, 0] ![264, 512] inb_S2056x512_S264x512_0_0).toLoadRect
    = View.ld (H X W Z) (Rect.unit ![0, 0] ![264, 512] inb_S2056x512_S264x512_0_0) := by
  rw [View.readCov_eq_canon']
  funext y
  have y0 : (y 0).val < 264 := (y 0).isLt
  refine View.canon_apply_of_pieces (H X W Z) _ (View.PiecesOf.mem (allG X W Z).2.2.2.2.2.2.2) _ ?_
  by_cases h : (y 0).val < 8
  · refine ⟨_, List.mem_cons_of_mem _ List.mem_cons_self, mem_rows inb_S2056x512_S8x512_0_0 _ ?_ ?_⟩
    · show 0 ≤ 0 + 1 * (y 0).val; omega
    · show 0 + 1 * (y 0).val < 0 + 8; omega
  · refine ⟨_, List.mem_cons_self, mem_rows inb_S2056x512_S256x512_8_0 _ ?_ ?_⟩
    · show 8 ≤ 0 + 1 * (y 0).val; omega
    · show 0 + 1 * (y 0).val < 8 + 256; omega

set_option maxHeartbeats 1900000 in
/-- The load of chunk 1's gate rows. -/
theorem readG1 : (View.whole cc0_scratch0).readCov [⟨Rect.unit ![264, 0] ![256, 512] inb_S2056x512_S256x512_264_0, k0_pay18 (View.ld X (Rect.unit ![256, 0] ![256, 2048] inb_S2048x2048_S256x2048_256_0)) W⟩,
      ⟨Rect.unit ![8, 0] ![256, 512] inb_S2056x512_S256x512_8_0, k0_pay10 (View.ld X (Rect.unit ![0, 0] ![256, 2048] inb_S2048x2048_S256x2048_0_0)) W⟩,
      ⟨Rect.unit ![0, 0] ![8, 512] inb_S2056x512_S8x512_0_0, Z⟩]
      (Rect.unit ![256, 0] ![264, 512] inb_S2056x512_S264x512_256_0).toLoadRect
    = View.ld (H X W Z) (Rect.unit ![256, 0] ![264, 512] inb_S2056x512_S264x512_256_0) := by
  rw [View.readCov_eq_canon']
  funext y
  have y0 : (y 0).val < 264 := (y 0).isLt
  refine View.canon_apply_of_pieces (H X W Z) _ (View.PiecesOf.mem (allG X W Z).2.2.2.2.2.2) _ ?_
  by_cases h : (y 0).val < 8
  · refine ⟨_, List.mem_cons_of_mem _ List.mem_cons_self, mem_rows inb_S2056x512_S256x512_8_0 _ ?_ ?_⟩
    · show 8 ≤ 256 + 1 * (y 0).val; omega
    · show 256 + 1 * (y 0).val < 8 + 256; omega
  · refine ⟨_, List.mem_cons_self, mem_rows inb_S2056x512_S256x512_264_0 _ ?_ ?_⟩
    · show 264 ≤ 256 + 1 * (y 0).val; omega
    · show 256 + 1 * (y 0).val < 264 + 256; omega

set_option maxHeartbeats 1900000 in
/-- The load of chunk 2's gate rows. -/
theorem readG2 : (View.whole cc0_scratch0).readCov [⟨Rect.unit ![520, 0] ![256, 512] inb_S2056x512_S256x512_520_0, k0_pay24 (View.ld X (Rect.unit ![512, 0] ![256, 2048] inb_S2048x2048_S256x2048_512_0)) W⟩,
      ⟨Rect.unit ![264, 0] ![256, 512] inb_S2056x512_S256x512_264_0, k0_pay18 (View.ld X (Rect.unit ![256, 0] ![256, 2048] inb_S2048x2048_S256x2048_256_0)) W⟩,
      ⟨Rect.unit ![8, 0] ![256, 512] inb_S2056x512_S256x512_8_0, k0_pay10 (View.ld X (Rect.unit ![0, 0] ![256, 2048] inb_S2048x2048_S256x2048_0_0)) W⟩,
      ⟨Rect.unit ![0, 0] ![8, 512] inb_S2056x512_S8x512_0_0, Z⟩]
      (Rect.unit ![512, 0] ![264, 512] inb_S2056x512_S264x512_512_0).toLoadRect
    = View.ld (H X W Z) (Rect.unit ![512, 0] ![264, 512] inb_S2056x512_S264x512_512_0) := by
  rw [View.readCov_eq_canon']
  funext y
  have y0 : (y 0).val < 264 := (y 0).isLt
  refine View.canon_apply_of_pieces (H X W Z) _ (View.PiecesOf.mem (allG X W Z).2.2.2.2.2) _ ?_
  by_cases h : (y 0).val < 8
  · refine ⟨_, List.mem_cons_of_mem _ List.mem_cons_self, mem_rows inb_S2056x512_S256x512_264_0 _ ?_ ?_⟩
    · show 264 ≤ 512 + 1 * (y 0).val; omega
    · show 512 + 1 * (y 0).val < 264 + 256; omega
  · refine ⟨_, List.mem_cons_self, mem_rows inb_S2056x512_S256x512_520_0 _ ?_ ?_⟩
    · show 520 ≤ 512 + 1 * (y 0).val; omega
    · show 512 + 1 * (y 0).val < 520 + 256; omega

set_option maxHeartbeats 1900000 in
/-- The load of chunk 3's gate rows. -/
theorem readG3 : (View.whole cc0_scratch0).readCov [⟨Rect.unit ![776, 0] ![256, 512] inb_S2056x512_S256x512_776_0, k0_pay29 (View.ld X (Rect.unit ![768, 0] ![256, 2048] inb_S2048x2048_S256x2048_768_0)) W⟩,
      ⟨Rect.unit ![520, 0] ![256, 512] inb_S2056x512_S256x512_520_0, k0_pay24 (View.ld X (Rect.unit ![512, 0] ![256, 2048] inb_S2048x2048_S256x2048_512_0)) W⟩,
      ⟨Rect.unit ![264, 0] ![256, 512] inb_S2056x512_S256x512_264_0, k0_pay18 (View.ld X (Rect.unit ![256, 0] ![256, 2048] inb_S2048x2048_S256x2048_256_0)) W⟩,
      ⟨Rect.unit ![8, 0] ![256, 512] inb_S2056x512_S256x512_8_0, k0_pay10 (View.ld X (Rect.unit ![0, 0] ![256, 2048] inb_S2048x2048_S256x2048_0_0)) W⟩,
      ⟨Rect.unit ![0, 0] ![8, 512] inb_S2056x512_S8x512_0_0, Z⟩]
      (Rect.unit ![768, 0] ![264, 512] inb_S2056x512_S264x512_768_0).toLoadRect
    = View.ld (H X W Z) (Rect.unit ![768, 0] ![264, 512] inb_S2056x512_S264x512_768_0) := by
  rw [View.readCov_eq_canon']
  funext y
  have y0 : (y 0).val < 264 := (y 0).isLt
  refine View.canon_apply_of_pieces (H X W Z) _ (View.PiecesOf.mem (allG X W Z).2.2.2.2) _ ?_
  by_cases h : (y 0).val < 8
  · refine ⟨_, List.mem_cons_of_mem _ List.mem_cons_self, mem_rows inb_S2056x512_S256x512_520_0 _ ?_ ?_⟩
    · show 520 ≤ 768 + 1 * (y 0).val; omega
    · show 768 + 1 * (y 0).val < 520 + 256; omega
  · refine ⟨_, List.mem_cons_self, mem_rows inb_S2056x512_S256x512_776_0 _ ?_ ?_⟩
    · show 776 ≤ 768 + 1 * (y 0).val; omega
    · show 768 + 1 * (y 0).val < 776 + 256; omega

set_option maxHeartbeats 1900000 in
/-- The load of chunk 4's gate rows. -/
theorem readG4 : (View.whole cc0_scratch0).readCov [⟨Rect.unit ![1032, 0] ![256, 512] inb_S2056x512_S256x512_1032_0, k0_pay36 (k0_pay35 (View.ld X (Rect.unit ![1024, 0] ![256, 2048] inb_S2048x2048_S256x2048_1024_0)) W)⟩,
      ⟨Rect.unit ![776, 0] ![256, 512] inb_S2056x512_S256x512_776_0, k0_pay29 (View.ld X (Rect.unit ![768, 0] ![256, 2048] inb_S2048x2048_S256x2048_768_0)) W⟩,
      ⟨Rect.unit ![520, 0] ![256, 512] inb_S2056x512_S256x512_520_0, k0_pay24 (View.ld X (Rect.unit ![512, 0] ![256, 2048] inb_S2048x2048_S256x2048_512_0)) W⟩,
      ⟨Rect.unit ![264, 0] ![256, 512] inb_S2056x512_S256x512_264_0, k0_pay18 (View.ld X (Rect.unit ![256, 0] ![256, 2048] inb_S2048x2048_S256x2048_256_0)) W⟩,
      ⟨Rect.unit ![8, 0] ![256, 512] inb_S2056x512_S256x512_8_0, k0_pay10 (View.ld X (Rect.unit ![0, 0] ![256, 2048] inb_S2048x2048_S256x2048_0_0)) W⟩,
      ⟨Rect.unit ![0, 0] ![8, 512] inb_S2056x512_S8x512_0_0, Z⟩]
      (Rect.unit ![1024, 0] ![264, 512] inb_S2056x512_S264x512_1024_0).toLoadRect
    = View.ld (H X W Z) (Rect.unit ![1024, 0] ![264, 512] inb_S2056x512_S264x512_1024_0) := by
  rw [View.readCov_eq_canon']
  funext y
  have y0 : (y 0).val < 264 := (y 0).isLt
  refine View.canon_apply_of_pieces (H X W Z) _ (View.PiecesOf.mem (allG X W Z).2.2.2) _ ?_
  by_cases h : (y 0).val < 8
  · refine ⟨_, List.mem_cons_of_mem _ List.mem_cons_self, mem_rows inb_S2056x512_S256x512_776_0 _ ?_ ?_⟩
    · show 776 ≤ 1024 + 1 * (y 0).val; omega
    · show 1024 + 1 * (y 0).val < 776 + 256; omega
  · refine ⟨_, List.mem_cons_self, mem_rows inb_S2056x512_S256x512_1032_0 _ ?_ ?_⟩
    · show 1032 ≤ 1024 + 1 * (y 0).val; omega
    · show 1024 + 1 * (y 0).val < 1032 + 256; omega

set_option maxHeartbeats 1900000 in
/-- The load of chunk 5's gate rows. -/
theorem readG5 : (View.whole cc0_scratch0).readCov [⟨Rect.unit ![1288, 0] ![256, 512] inb_S2056x512_S256x512_1288_0, k0_pay42 (View.ld X (Rect.unit ![1280, 0] ![256, 2048] inb_S2048x2048_S256x2048_1280_0)) W⟩,
      ⟨Rect.unit ![1032, 0] ![256, 512] inb_S2056x512_S256x512_1032_0, k0_pay36 (k0_pay35 (View.ld X (Rect.unit ![1024, 0] ![256, 2048] inb_S2048x2048_S256x2048_1024_0)) W)⟩,
      ⟨Rect.unit ![776, 0] ![256, 512] inb_S2056x512_S256x512_776_0, k0_pay29 (View.ld X (Rect.unit ![768, 0] ![256, 2048] inb_S2048x2048_S256x2048_768_0)) W⟩,
      ⟨Rect.unit ![520, 0] ![256, 512] inb_S2056x512_S256x512_520_0, k0_pay24 (View.ld X (Rect.unit ![512, 0] ![256, 2048] inb_S2048x2048_S256x2048_512_0)) W⟩,
      ⟨Rect.unit ![264, 0] ![256, 512] inb_S2056x512_S256x512_264_0, k0_pay18 (View.ld X (Rect.unit ![256, 0] ![256, 2048] inb_S2048x2048_S256x2048_256_0)) W⟩,
      ⟨Rect.unit ![8, 0] ![256, 512] inb_S2056x512_S256x512_8_0, k0_pay10 (View.ld X (Rect.unit ![0, 0] ![256, 2048] inb_S2048x2048_S256x2048_0_0)) W⟩,
      ⟨Rect.unit ![0, 0] ![8, 512] inb_S2056x512_S8x512_0_0, Z⟩]
      (Rect.unit ![1280, 0] ![264, 512] inb_S2056x512_S264x512_1280_0).toLoadRect
    = View.ld (H X W Z) (Rect.unit ![1280, 0] ![264, 512] inb_S2056x512_S264x512_1280_0) := by
  rw [View.readCov_eq_canon']
  funext y
  have y0 : (y 0).val < 264 := (y 0).isLt
  refine View.canon_apply_of_pieces (H X W Z) _ (View.PiecesOf.mem (allG X W Z).2.2) _ ?_
  by_cases h : (y 0).val < 8
  · refine ⟨_, List.mem_cons_of_mem _ List.mem_cons_self, mem_rows inb_S2056x512_S256x512_1032_0 _ ?_ ?_⟩
    · show 1032 ≤ 1280 + 1 * (y 0).val; omega
    · show 1280 + 1 * (y 0).val < 1032 + 256; omega
  · refine ⟨_, List.mem_cons_self, mem_rows inb_S2056x512_S256x512_1288_0 _ ?_ ?_⟩
    · show 1288 ≤ 1280 + 1 * (y 0).val; omega
    · show 1280 + 1 * (y 0).val < 1288 + 256; omega

set_option maxHeartbeats 1900000 in
/-- The load of chunk 6's gate rows. -/
theorem readG6 : (View.whole cc0_scratch0).readCov [⟨Rect.unit ![1544, 0] ![256, 512] inb_S2056x512_S256x512_1544_0, k0_pay50 (View.ld X (Rect.unit ![1536, 0] ![256, 2048] inb_S2048x2048_S256x2048_1536_0)) W⟩,
      ⟨Rect.unit ![1288, 0] ![256, 512] inb_S2056x512_S256x512_1288_0, k0_pay42 (View.ld X (Rect.unit ![1280, 0] ![256, 2048] inb_S2048x2048_S256x2048_1280_0)) W⟩,
      ⟨Rect.unit ![1032, 0] ![256, 512] inb_S2056x512_S256x512_1032_0, k0_pay36 (k0_pay35 (View.ld X (Rect.unit ![1024, 0] ![256, 2048] inb_S2048x2048_S256x2048_1024_0)) W)⟩,
      ⟨Rect.unit ![776, 0] ![256, 512] inb_S2056x512_S256x512_776_0, k0_pay29 (View.ld X (Rect.unit ![768, 0] ![256, 2048] inb_S2048x2048_S256x2048_768_0)) W⟩,
      ⟨Rect.unit ![520, 0] ![256, 512] inb_S2056x512_S256x512_520_0, k0_pay24 (View.ld X (Rect.unit ![512, 0] ![256, 2048] inb_S2048x2048_S256x2048_512_0)) W⟩,
      ⟨Rect.unit ![264, 0] ![256, 512] inb_S2056x512_S256x512_264_0, k0_pay18 (View.ld X (Rect.unit ![256, 0] ![256, 2048] inb_S2048x2048_S256x2048_256_0)) W⟩,
      ⟨Rect.unit ![8, 0] ![256, 512] inb_S2056x512_S256x512_8_0, k0_pay10 (View.ld X (Rect.unit ![0, 0] ![256, 2048] inb_S2048x2048_S256x2048_0_0)) W⟩,
      ⟨Rect.unit ![0, 0] ![8, 512] inb_S2056x512_S8x512_0_0, Z⟩]
      (Rect.unit ![1536, 0] ![264, 512] inb_S2056x512_S264x512_1536_0).toLoadRect
    = View.ld (H X W Z) (Rect.unit ![1536, 0] ![264, 512] inb_S2056x512_S264x512_1536_0) := by
  rw [View.readCov_eq_canon']
  funext y
  have y0 : (y 0).val < 264 := (y 0).isLt
  refine View.canon_apply_of_pieces (H X W Z) _ (View.PiecesOf.mem (allG X W Z).2) _ ?_
  by_cases h : (y 0).val < 8
  · refine ⟨_, List.mem_cons_of_mem _ List.mem_cons_self, mem_rows inb_S2056x512_S256x512_1288_0 _ ?_ ?_⟩
    · show 1288 ≤ 1536 + 1 * (y 0).val; omega
    · show 1536 + 1 * (y 0).val < 1288 + 256; omega
  · refine ⟨_, List.mem_cons_self, mem_rows inb_S2056x512_S256x512_1544_0 _ ?_ ?_⟩
    · show 1544 ≤ 1536 + 1 * (y 0).val; omega
    · show 1536 + 1 * (y 0).val < 1544 + 256; omega

set_option maxHeartbeats 1900000 in
/-- The load of chunk 7's gate rows. -/
theorem readG7 : (View.whole cc0_scratch0).readCov [⟨Rect.unit ![1800, 0] ![256, 512] inb_S2056x512_S256x512_1800_0, k0_pay60 (View.ld X (Rect.unit ![1792, 0] ![256, 2048] inb_S2048x2048_S256x2048_1792_0)) W⟩,
      ⟨Rect.unit ![1544, 0] ![256, 512] inb_S2056x512_S256x512_1544_0, k0_pay50 (View.ld X (Rect.unit ![1536, 0] ![256, 2048] inb_S2048x2048_S256x2048_1536_0)) W⟩,
      ⟨Rect.unit ![1288, 0] ![256, 512] inb_S2056x512_S256x512_1288_0, k0_pay42 (View.ld X (Rect.unit ![1280, 0] ![256, 2048] inb_S2048x2048_S256x2048_1280_0)) W⟩,
      ⟨Rect.unit ![1032, 0] ![256, 512] inb_S2056x512_S256x512_1032_0, k0_pay36 (k0_pay35 (View.ld X (Rect.unit ![1024, 0] ![256, 2048] inb_S2048x2048_S256x2048_1024_0)) W)⟩,
      ⟨Rect.unit ![776, 0] ![256, 512] inb_S2056x512_S256x512_776_0, k0_pay29 (View.ld X (Rect.unit ![768, 0] ![256, 2048] inb_S2048x2048_S256x2048_768_0)) W⟩,
      ⟨Rect.unit ![520, 0] ![256, 512] inb_S2056x512_S256x512_520_0, k0_pay24 (View.ld X (Rect.unit ![512, 0] ![256, 2048] inb_S2048x2048_S256x2048_512_0)) W⟩,
      ⟨Rect.unit ![264, 0] ![256, 512] inb_S2056x512_S256x512_264_0, k0_pay18 (View.ld X (Rect.unit ![256, 0] ![256, 2048] inb_S2048x2048_S256x2048_256_0)) W⟩,
      ⟨Rect.unit ![8, 0] ![256, 512] inb_S2056x512_S256x512_8_0, k0_pay10 (View.ld X (Rect.unit ![0, 0] ![256, 2048] inb_S2048x2048_S256x2048_0_0)) W⟩,
      ⟨Rect.unit ![0, 0] ![8, 512] inb_S2056x512_S8x512_0_0, Z⟩]
      (Rect.unit ![1792, 0] ![264, 512] inb_S2056x512_S264x512_1792_0).toLoadRect
    = View.ld (H X W Z) (Rect.unit ![1792, 0] ![264, 512] inb_S2056x512_S264x512_1792_0) := by
  rw [View.readCov_eq_canon']
  funext y
  have y0 : (y 0).val < 264 := (y 0).isLt
  refine View.canon_apply_of_pieces (H X W Z) _ (View.PiecesOf.mem (allG X W Z)) _ ?_
  by_cases h : (y 0).val < 8
  · refine ⟨_, List.mem_cons_of_mem _ List.mem_cons_self, mem_rows inb_S2056x512_S256x512_1544_0 _ ?_ ?_⟩
    · show 1544 ≤ 1792 + 1 * (y 0).val; omega
    · show 1792 + 1 * (y 0).val < 1544 + 256; omega
  · refine ⟨_, List.mem_cons_self, mem_rows inb_S2056x512_S256x512_1800_0 _ ?_ ?_⟩
    · show 1800 ≤ 1792 + 1 * (y 0).val; omega
    · show 1792 + 1 * (y 0).val < 1800 + 256; omega

set_option maxHeartbeats 1900000 in
/-- The whole gate scratch after a point. -/
theorem wholeG : View.canon (Val := Elt Ideal) [⟨Rect.unit ![1800, 0] ![256, 512] inb_S2056x512_S256x512_1800_0, k0_pay60 (View.ld X (Rect.unit ![1792, 0] ![256, 2048] inb_S2048x2048_S256x2048_1792_0)) W⟩,
      ⟨Rect.unit ![1544, 0] ![256, 512] inb_S2056x512_S256x512_1544_0, k0_pay50 (View.ld X (Rect.unit ![1536, 0] ![256, 2048] inb_S2048x2048_S256x2048_1536_0)) W⟩,
      ⟨Rect.unit ![1288, 0] ![256, 512] inb_S2056x512_S256x512_1288_0, k0_pay42 (View.ld X (Rect.unit ![1280, 0] ![256, 2048] inb_S2048x2048_S256x2048_1280_0)) W⟩,
      ⟨Rect.unit ![1032, 0] ![256, 512] inb_S2056x512_S256x512_1032_0, k0_pay36 (k0_pay35 (View.ld X (Rect.unit ![1024, 0] ![256, 2048] inb_S2048x2048_S256x2048_1024_0)) W)⟩,
      ⟨Rect.unit ![776, 0] ![256, 512] inb_S2056x512_S256x512_776_0, k0_pay29 (View.ld X (Rect.unit ![768, 0] ![256, 2048] inb_S2048x2048_S256x2048_768_0)) W⟩,
      ⟨Rect.unit ![520, 0] ![256, 512] inb_S2056x512_S256x512_520_0, k0_pay24 (View.ld X (Rect.unit ![512, 0] ![256, 2048] inb_S2048x2048_S256x2048_512_0)) W⟩,
      ⟨Rect.unit ![264, 0] ![256, 512] inb_S2056x512_S256x512_264_0, k0_pay18 (View.ld X (Rect.unit ![256, 0] ![256, 2048] inb_S2048x2048_S256x2048_256_0)) W⟩,
      ⟨Rect.unit ![8, 0] ![256, 512] inb_S2056x512_S256x512_8_0, k0_pay10 (View.ld X (Rect.unit ![0, 0] ![256, 2048] inb_S2048x2048_S256x2048_0_0)) W⟩,
      ⟨Rect.unit ![0, 0] ![8, 512] inb_S2056x512_S8x512_0_0, Z⟩] = H X W Z := by
  funext y
  have y0 : (y 0).val < 2056 := (y 0).isLt
  refine View.canon_apply_of_pieces (H X W Z) _ (View.PiecesOf.mem (allG X W Z)) _ ?_
  by_cases h7 : 1800 ≤ (y 0).val
  · exact ⟨_, List.mem_cons_self, mem_rows inb_S2056x512_S256x512_1800_0 _ h7 (by omega)⟩
  by_cases h6 : 1544 ≤ (y 0).val
  · exact ⟨_, List.mem_cons_of_mem _ (List.mem_cons_self), mem_rows inb_S2056x512_S256x512_1544_0 _ h6 (by omega)⟩
  by_cases h5 : 1288 ≤ (y 0).val
  · exact ⟨_, List.mem_cons_of_mem _ (List.mem_cons_of_mem _ (List.mem_cons_self)), mem_rows inb_S2056x512_S256x512_1288_0 _ h5 (by omega)⟩
  by_cases h4 : 1032 ≤ (y 0).val
  · exact ⟨_, List.mem_cons_of_mem _ (List.mem_cons_of_mem _ (List.mem_cons_of_mem _ (List.mem_cons_self))), mem_rows inb_S2056x512_S256x512_1032_0 _ h4 (by omega)⟩
  by_cases h3 : 776 ≤ (y 0).val
  · exact ⟨_, List.mem_cons_of_mem _ (List.mem_cons_of_mem _ (List.mem_cons_of_mem _ (List.mem_cons_of_mem _ (List.mem_cons_self)))), mem_rows inb_S2056x512_S256x512_776_0 _ h3 (by omega)⟩
  by_cases h2 : 520 ≤ (y 0).val
  · exact ⟨_, List.mem_cons_of_mem _ (List.mem_cons_of_mem _ (List.mem_cons_of_mem _ (List.mem_cons_of_mem _ (List.mem_cons_of_mem _ (List.mem_cons_self))))), mem_rows inb_S2056x512_S256x512_520_0 _ h2 (by omega)⟩
  by_cases h1 : 264 ≤ (y 0).val
  · exact ⟨_, List.mem_cons_of_mem _ (List.mem_cons_of_mem _ (List.mem_cons_of_mem _ (List.mem_cons_of_mem _ (List.mem_cons_of_mem _ (List.mem_cons_of_mem _ (List.mem_cons_self)))))), mem_rows inb_S2056x512_S256x512_264_0 _ h1 (by omega)⟩
  by_cases h0 : 8 ≤ (y 0).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_rows inb_S2056x512_S256x512_8_0 _ h0 (by omega)⟩
  exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_rows inb_S2056x512_S8x512_0_0 _ (Nat.zero_le _) (by omega)⟩

set_option maxHeartbeats 1900000 in
/-- Chunk 0 of the up rows. -/
theorem pieceU0 (x : S256x512.Idx) : (⟨Rect.unit ![8, 0] ![256, 512] inb_S2056x512_S256x512_8_0, k0_pay11 (k0_pay9 (View.ld X (Rect.unit ![0, 0] ![256, 2048] inb_S2048x2048_S256x2048_0_0))) W⟩ : View.Piece (Elt Ideal) S2056x512 .f32).2 x
    = H X W Z ((Rect.unit (s := S2056x512) ![8, 0] ![256, 512] inb_S2056x512_S256x512_8_0).emb x) := by
  have x0 : (x 0).val < 256 := (x 0).isLt
  rw [H_row X W Z _ ⟨0 + (x 0).val, by omega⟩ (x 1) (by show 8 + 1 * (x 0).val = 0 + (x 0).val + 8; omega) (by show 0 + 1 * (x 1).val = _; omega)]
  dsimp only
  pointwise [k0_pay9, k0_pay11]

set_option maxHeartbeats 1900000 in
/-- Chunk 1 of the up rows. -/
theorem pieceU1 (x : S256x512.Idx) : (⟨Rect.unit ![264, 0] ![256, 512] inb_S2056x512_S256x512_264_0, k0_pay19 (View.ld X (Rect.unit ![256, 0] ![256, 2048] inb_S2048x2048_S256x2048_256_0)) W⟩ : View.Piece (Elt Ideal) S2056x512 .f32).2 x
    = H X W Z ((Rect.unit (s := S2056x512) ![264, 0] ![256, 512] inb_S2056x512_S256x512_264_0).emb x) := by
  have x0 : (x 0).val < 256 := (x 0).isLt
  rw [H_row X W Z _ ⟨256 + (x 0).val, by omega⟩ (x 1) (by show 264 + 1 * (x 0).val = 256 + (x 0).val + 8; omega) (by show 0 + 1 * (x 1).val = _; omega)]
  dsimp only
  pointwise [k0_pay17, k0_pay19]

set_option maxHeartbeats 1900000 in
/-- Chunk 2 of the up rows. -/
theorem pieceU2 (x : S256x512.Idx) : (⟨Rect.unit ![520, 0] ![256, 512] inb_S2056x512_S256x512_520_0, k0_pay25 (View.ld X (Rect.unit ![512, 0] ![256, 2048] inb_S2048x2048_S256x2048_512_0)) W⟩ : View.Piece (Elt Ideal) S2056x512 .f32).2 x
    = H X W Z ((Rect.unit (s := S2056x512) ![520, 0] ![256, 512] inb_S2056x512_S256x512_520_0).emb x) := by
  have x0 : (x 0).val < 256 := (x 0).isLt
  rw [H_row X W Z _ ⟨512 + (x 0).val, by omega⟩ (x 1) (by show 520 + 1 * (x 0).val = 512 + (x 0).val + 8; omega) (by show 0 + 1 * (x 1).val = _; omega)]
  dsimp only
  pointwise [k0_pay23, k0_pay25]

set_option maxHeartbeats 1900000 in
/-- Chunk 3 of the up rows. -/
theorem pieceU3 (x : S256x512.Idx) : (⟨Rect.unit ![776, 0] ![256, 512] inb_S2056x512_S256x512_776_0, k0_pay30 (View.ld X (Rect.unit ![768, 0] ![256, 2048] inb_S2048x2048_S256x2048_768_0)) W⟩ : View.Piece (Elt Ideal) S2056x512 .f32).2 x
    = H X W Z ((Rect.unit (s := S2056x512) ![776, 0] ![256, 512] inb_S2056x512_S256x512_776_0).emb x) := by
  have x0 : (x 0).val < 256 := (x 0).isLt
  rw [H_row X W Z _ ⟨768 + (x 0).val, by omega⟩ (x 1) (by show 776 + 1 * (x 0).val = 768 + (x 0).val + 8; omega) (by show 0 + 1 * (x 1).val = _; omega)]
  dsimp only
  pointwise [k0_pay28, k0_pay30]

set_option maxHeartbeats 1900000 in
/-- Chunk 4 of the up rows. -/
theorem pieceU4 (x : S256x512.Idx) : (⟨Rect.unit ![1032, 0] ![256, 512] inb_S2056x512_S256x512_1032_0, k0_pay37 (k0_pay34 (View.ld X (Rect.unit ![1024, 0] ![256, 2048] inb_S2048x2048_S256x2048_1024_0))) W⟩ : View.Piece (Elt Ideal) S2056x512 .f32).2 x
    = H X W Z ((Rect.unit (s := S2056x512) ![1032, 0] ![256, 512] inb_S2056x512_S256x512_1032_0).emb x) := by
  have x0 : (x 0).val < 256 := (x 0).isLt
  rw [H_row X W Z _ ⟨1024 + (x 0).val, by omega⟩ (x 1) (by show 1032 + 1 * (x 0).val = 1024 + (x 0).val + 8; omega) (by show 0 + 1 * (x 1).val = _; omega)]
  dsimp only
  pointwise [k0_pay34, k0_pay37]

set_option maxHeartbeats 1900000 in
/-- Chunk 5 of the up rows. -/
theorem pieceU5 (x : S256x512.Idx) : (⟨Rect.unit ![1288, 0] ![256, 512] inb_S2056x512_S256x512_1288_0, k0_pay43 (View.ld X (Rect.unit ![1280, 0] ![256, 2048] inb_S2048x2048_S256x2048_1280_0)) W⟩ : View.Piece (Elt Ideal) S2056x512 .f32).2 x
    = H X W Z ((Rect.unit (s := S2056x512) ![1288, 0] ![256, 512] inb_S2056x512_S256x512_1288_0).emb x) := by
  have x0 : (x 0).val < 256 := (x 0).isLt
  rw [H_row X W Z _ ⟨1280 + (x 0).val, by omega⟩ (x 1) (by show 1288 + 1 * (x 0).val = 1280 + (x 0).val + 8; omega) (by show 0 + 1 * (x 1).val = _; omega)]
  dsimp only
  pointwise [k0_pay41, k0_pay43]

set_option maxHeartbeats 1900000 in
/-- Chunk 6 of the up rows. -/
theorem pieceU6 (x : S256x512.Idx) : (⟨Rect.unit ![1544, 0] ![256, 512] inb_S2056x512_S256x512_1544_0, k0_pay51 (View.ld X (Rect.unit ![1536, 0] ![256, 2048] inb_S2048x2048_S256x2048_1536_0)) W⟩ : View.Piece (Elt Ideal) S2056x512 .f32).2 x
    = H X W Z ((Rect.unit (s := S2056x512) ![1544, 0] ![256, 512] inb_S2056x512_S256x512_1544_0).emb x) := by
  have x0 : (x 0).val < 256 := (x 0).isLt
  rw [H_row X W Z _ ⟨1536 + (x 0).val, by omega⟩ (x 1) (by show 1544 + 1 * (x 0).val = 1536 + (x 0).val + 8; omega) (by show 0 + 1 * (x 1).val = _; omega)]
  dsimp only
  pointwise [k0_pay49, k0_pay51]

set_option maxHeartbeats 1900000 in
/-- Chunk 7 of the up rows. -/
theorem pieceU7 (x : S256x512.Idx) : (⟨Rect.unit ![1800, 0] ![256, 512] inb_S2056x512_S256x512_1800_0, k0_pay61 (View.ld X (Rect.unit ![1792, 0] ![256, 2048] inb_S2048x2048_S256x2048_1792_0)) W⟩ : View.Piece (Elt Ideal) S2056x512 .f32).2 x
    = H X W Z ((Rect.unit (s := S2056x512) ![1800, 0] ![256, 512] inb_S2056x512_S256x512_1800_0).emb x) := by
  have x0 : (x 0).val < 256 := (x 0).isLt
  rw [H_row X W Z _ ⟨1792 + (x 0).val, by omega⟩ (x 1) (by show 1800 + 1 * (x 0).val = 1792 + (x 0).val + 8; omega) (by show 0 + 1 * (x 1).val = _; omega)]
  dsimp only
  pointwise [k0_pay59, k0_pay61]

/-- The up pieces are pieces of one scratch. -/
theorem allU : View.PiecesOf (H X W Z) [⟨Rect.unit ![1800, 0] ![256, 512] inb_S2056x512_S256x512_1800_0, k0_pay61 (View.ld X (Rect.unit ![1792, 0] ![256, 2048] inb_S2048x2048_S256x2048_1792_0)) W⟩,
      ⟨Rect.unit ![1544, 0] ![256, 512] inb_S2056x512_S256x512_1544_0, k0_pay51 (View.ld X (Rect.unit ![1536, 0] ![256, 2048] inb_S2048x2048_S256x2048_1536_0)) W⟩,
      ⟨Rect.unit ![1288, 0] ![256, 512] inb_S2056x512_S256x512_1288_0, k0_pay43 (View.ld X (Rect.unit ![1280, 0] ![256, 2048] inb_S2048x2048_S256x2048_1280_0)) W⟩,
      ⟨Rect.unit ![1032, 0] ![256, 512] inb_S2056x512_S256x512_1032_0, k0_pay37 (k0_pay34 (View.ld X (Rect.unit ![1024, 0] ![256, 2048] inb_S2048x2048_S256x2048_1024_0))) W⟩,
      ⟨Rect.unit ![776, 0] ![256, 512] inb_S2056x512_S256x512_776_0, k0_pay30 (View.ld X (Rect.unit ![768, 0] ![256, 2048] inb_S2048x2048_S256x2048_768_0)) W⟩,
      ⟨Rect.unit ![520, 0] ![256, 512] inb_S2056x512_S256x512_520_0, k0_pay25 (View.ld X (Rect.unit ![512, 0] ![256, 2048] inb_S2048x2048_S256x2048_512_0)) W⟩,
      ⟨Rect.unit ![264, 0] ![256, 512] inb_S2056x512_S256x512_264_0, k0_pay19 (View.ld X (Rect.unit ![256, 0] ![256, 2048] inb_S2048x2048_S256x2048_256_0)) W⟩,
      ⟨Rect.unit ![8, 0] ![256, 512] inb_S2056x512_S256x512_8_0, k0_pay11 (k0_pay9 (View.ld X (Rect.unit ![0, 0] ![256, 2048] inb_S2048x2048_S256x2048_0_0))) W⟩,
      ⟨Rect.unit ![0, 0] ![8, 512] inb_S2056x512_S8x512_0_0, Z⟩] :=
  ⟨pieceU7 X W Z, pieceU6 X W Z, pieceU5 X W Z, pieceU4 X W Z, pieceU3 X W Z, pieceU2 X W Z, pieceU1 X W Z, pieceU0 X W Z, pieceZ X W Z, trivial⟩

set_option maxHeartbeats 1900000 in
/-- The load of chunk 0's up rows. -/
theorem readU0 : (View.whole cc0_scratch1).readCov [⟨Rect.unit ![8, 0] ![256, 512] inb_S2056x512_S256x512_8_0, k0_pay11 (k0_pay9 (View.ld X (Rect.unit ![0, 0] ![256, 2048] inb_S2048x2048_S256x2048_0_0))) W⟩,
      ⟨Rect.unit ![0, 0] ![8, 512] inb_S2056x512_S8x512_0_0, Z⟩]
      (Rect.unit ![0, 0] ![264, 512] inb_S2056x512_S264x512_0_0).toLoadRect
    = View.ld (H X W Z) (Rect.unit ![0, 0] ![264, 512] inb_S2056x512_S264x512_0_0) := by
  rw [View.readCov_eq_canon']
  funext y
  have y0 : (y 0).val < 264 := (y 0).isLt
  refine View.canon_apply_of_pieces (H X W Z) _ (View.PiecesOf.mem (allU X W Z).2.2.2.2.2.2.2) _ ?_
  by_cases h : (y 0).val < 8
  · refine ⟨_, List.mem_cons_of_mem _ List.mem_cons_self, mem_rows inb_S2056x512_S8x512_0_0 _ ?_ ?_⟩
    · show 0 ≤ 0 + 1 * (y 0).val; omega
    · show 0 + 1 * (y 0).val < 0 + 8; omega
  · refine ⟨_, List.mem_cons_self, mem_rows inb_S2056x512_S256x512_8_0 _ ?_ ?_⟩
    · show 8 ≤ 0 + 1 * (y 0).val; omega
    · show 0 + 1 * (y 0).val < 8 + 256; omega

set_option maxHeartbeats 1900000 in
/-- The load of chunk 1's up rows. -/
theorem readU1 : (View.whole cc0_scratch1).readCov [⟨Rect.unit ![264, 0] ![256, 512] inb_S2056x512_S256x512_264_0, k0_pay19 (View.ld X (Rect.unit ![256, 0] ![256, 2048] inb_S2048x2048_S256x2048_256_0)) W⟩,
      ⟨Rect.unit ![8, 0] ![256, 512] inb_S2056x512_S256x512_8_0, k0_pay11 (k0_pay9 (View.ld X (Rect.unit ![0, 0] ![256, 2048] inb_S2048x2048_S256x2048_0_0))) W⟩,
      ⟨Rect.unit ![0, 0] ![8, 512] inb_S2056x512_S8x512_0_0, Z⟩]
      (Rect.unit ![256, 0] ![264, 512] inb_S2056x512_S264x512_256_0).toLoadRect
    = View.ld (H X W Z) (Rect.unit ![256, 0] ![264, 512] inb_S2056x512_S264x512_256_0) := by
  rw [View.readCov_eq_canon']
  funext y
  have y0 : (y 0).val < 264 := (y 0).isLt
  refine View.canon_apply_of_pieces (H X W Z) _ (View.PiecesOf.mem (allU X W Z).2.2.2.2.2.2) _ ?_
  by_cases h : (y 0).val < 8
  · refine ⟨_, List.mem_cons_of_mem _ List.mem_cons_self, mem_rows inb_S2056x512_S256x512_8_0 _ ?_ ?_⟩
    · show 8 ≤ 256 + 1 * (y 0).val; omega
    · show 256 + 1 * (y 0).val < 8 + 256; omega
  · refine ⟨_, List.mem_cons_self, mem_rows inb_S2056x512_S256x512_264_0 _ ?_ ?_⟩
    · show 264 ≤ 256 + 1 * (y 0).val; omega
    · show 256 + 1 * (y 0).val < 264 + 256; omega

set_option maxHeartbeats 1900000 in
/-- The load of chunk 2's up rows. -/
theorem readU2 : (View.whole cc0_scratch1).readCov [⟨Rect.unit ![520, 0] ![256, 512] inb_S2056x512_S256x512_520_0, k0_pay25 (View.ld X (Rect.unit ![512, 0] ![256, 2048] inb_S2048x2048_S256x2048_512_0)) W⟩,
      ⟨Rect.unit ![264, 0] ![256, 512] inb_S2056x512_S256x512_264_0, k0_pay19 (View.ld X (Rect.unit ![256, 0] ![256, 2048] inb_S2048x2048_S256x2048_256_0)) W⟩,
      ⟨Rect.unit ![8, 0] ![256, 512] inb_S2056x512_S256x512_8_0, k0_pay11 (k0_pay9 (View.ld X (Rect.unit ![0, 0] ![256, 2048] inb_S2048x2048_S256x2048_0_0))) W⟩,
      ⟨Rect.unit ![0, 0] ![8, 512] inb_S2056x512_S8x512_0_0, Z⟩]
      (Rect.unit ![512, 0] ![264, 512] inb_S2056x512_S264x512_512_0).toLoadRect
    = View.ld (H X W Z) (Rect.unit ![512, 0] ![264, 512] inb_S2056x512_S264x512_512_0) := by
  rw [View.readCov_eq_canon']
  funext y
  have y0 : (y 0).val < 264 := (y 0).isLt
  refine View.canon_apply_of_pieces (H X W Z) _ (View.PiecesOf.mem (allU X W Z).2.2.2.2.2) _ ?_
  by_cases h : (y 0).val < 8
  · refine ⟨_, List.mem_cons_of_mem _ List.mem_cons_self, mem_rows inb_S2056x512_S256x512_264_0 _ ?_ ?_⟩
    · show 264 ≤ 512 + 1 * (y 0).val; omega
    · show 512 + 1 * (y 0).val < 264 + 256; omega
  · refine ⟨_, List.mem_cons_self, mem_rows inb_S2056x512_S256x512_520_0 _ ?_ ?_⟩
    · show 520 ≤ 512 + 1 * (y 0).val; omega
    · show 512 + 1 * (y 0).val < 520 + 256; omega

set_option maxHeartbeats 1900000 in
/-- The load of chunk 3's up rows. -/
theorem readU3 : (View.whole cc0_scratch1).readCov [⟨Rect.unit ![776, 0] ![256, 512] inb_S2056x512_S256x512_776_0, k0_pay30 (View.ld X (Rect.unit ![768, 0] ![256, 2048] inb_S2048x2048_S256x2048_768_0)) W⟩,
      ⟨Rect.unit ![520, 0] ![256, 512] inb_S2056x512_S256x512_520_0, k0_pay25 (View.ld X (Rect.unit ![512, 0] ![256, 2048] inb_S2048x2048_S256x2048_512_0)) W⟩,
      ⟨Rect.unit ![264, 0] ![256, 512] inb_S2056x512_S256x512_264_0, k0_pay19 (View.ld X (Rect.unit ![256, 0] ![256, 2048] inb_S2048x2048_S256x2048_256_0)) W⟩,
      ⟨Rect.unit ![8, 0] ![256, 512] inb_S2056x512_S256x512_8_0, k0_pay11 (k0_pay9 (View.ld X (Rect.unit ![0, 0] ![256, 2048] inb_S2048x2048_S256x2048_0_0))) W⟩,
      ⟨Rect.unit ![0, 0] ![8, 512] inb_S2056x512_S8x512_0_0, Z⟩]
      (Rect.unit ![768, 0] ![264, 512] inb_S2056x512_S264x512_768_0).toLoadRect
    = View.ld (H X W Z) (Rect.unit ![768, 0] ![264, 512] inb_S2056x512_S264x512_768_0) := by
  rw [View.readCov_eq_canon']
  funext y
  have y0 : (y 0).val < 264 := (y 0).isLt
  refine View.canon_apply_of_pieces (H X W Z) _ (View.PiecesOf.mem (allU X W Z).2.2.2.2) _ ?_
  by_cases h : (y 0).val < 8
  · refine ⟨_, List.mem_cons_of_mem _ List.mem_cons_self, mem_rows inb_S2056x512_S256x512_520_0 _ ?_ ?_⟩
    · show 520 ≤ 768 + 1 * (y 0).val; omega
    · show 768 + 1 * (y 0).val < 520 + 256; omega
  · refine ⟨_, List.mem_cons_self, mem_rows inb_S2056x512_S256x512_776_0 _ ?_ ?_⟩
    · show 776 ≤ 768 + 1 * (y 0).val; omega
    · show 768 + 1 * (y 0).val < 776 + 256; omega

set_option maxHeartbeats 1900000 in
/-- The load of chunk 4's up rows. -/
theorem readU4 : (View.whole cc0_scratch1).readCov [⟨Rect.unit ![1032, 0] ![256, 512] inb_S2056x512_S256x512_1032_0, k0_pay37 (k0_pay34 (View.ld X (Rect.unit ![1024, 0] ![256, 2048] inb_S2048x2048_S256x2048_1024_0))) W⟩,
      ⟨Rect.unit ![776, 0] ![256, 512] inb_S2056x512_S256x512_776_0, k0_pay30 (View.ld X (Rect.unit ![768, 0] ![256, 2048] inb_S2048x2048_S256x2048_768_0)) W⟩,
      ⟨Rect.unit ![520, 0] ![256, 512] inb_S2056x512_S256x512_520_0, k0_pay25 (View.ld X (Rect.unit ![512, 0] ![256, 2048] inb_S2048x2048_S256x2048_512_0)) W⟩,
      ⟨Rect.unit ![264, 0] ![256, 512] inb_S2056x512_S256x512_264_0, k0_pay19 (View.ld X (Rect.unit ![256, 0] ![256, 2048] inb_S2048x2048_S256x2048_256_0)) W⟩,
      ⟨Rect.unit ![8, 0] ![256, 512] inb_S2056x512_S256x512_8_0, k0_pay11 (k0_pay9 (View.ld X (Rect.unit ![0, 0] ![256, 2048] inb_S2048x2048_S256x2048_0_0))) W⟩,
      ⟨Rect.unit ![0, 0] ![8, 512] inb_S2056x512_S8x512_0_0, Z⟩]
      (Rect.unit ![1024, 0] ![264, 512] inb_S2056x512_S264x512_1024_0).toLoadRect
    = View.ld (H X W Z) (Rect.unit ![1024, 0] ![264, 512] inb_S2056x512_S264x512_1024_0) := by
  rw [View.readCov_eq_canon']
  funext y
  have y0 : (y 0).val < 264 := (y 0).isLt
  refine View.canon_apply_of_pieces (H X W Z) _ (View.PiecesOf.mem (allU X W Z).2.2.2) _ ?_
  by_cases h : (y 0).val < 8
  · refine ⟨_, List.mem_cons_of_mem _ List.mem_cons_self, mem_rows inb_S2056x512_S256x512_776_0 _ ?_ ?_⟩
    · show 776 ≤ 1024 + 1 * (y 0).val; omega
    · show 1024 + 1 * (y 0).val < 776 + 256; omega
  · refine ⟨_, List.mem_cons_self, mem_rows inb_S2056x512_S256x512_1032_0 _ ?_ ?_⟩
    · show 1032 ≤ 1024 + 1 * (y 0).val; omega
    · show 1024 + 1 * (y 0).val < 1032 + 256; omega

set_option maxHeartbeats 1900000 in
/-- The load of chunk 5's up rows. -/
theorem readU5 : (View.whole cc0_scratch1).readCov [⟨Rect.unit ![1288, 0] ![256, 512] inb_S2056x512_S256x512_1288_0, k0_pay43 (View.ld X (Rect.unit ![1280, 0] ![256, 2048] inb_S2048x2048_S256x2048_1280_0)) W⟩,
      ⟨Rect.unit ![1032, 0] ![256, 512] inb_S2056x512_S256x512_1032_0, k0_pay37 (k0_pay34 (View.ld X (Rect.unit ![1024, 0] ![256, 2048] inb_S2048x2048_S256x2048_1024_0))) W⟩,
      ⟨Rect.unit ![776, 0] ![256, 512] inb_S2056x512_S256x512_776_0, k0_pay30 (View.ld X (Rect.unit ![768, 0] ![256, 2048] inb_S2048x2048_S256x2048_768_0)) W⟩,
      ⟨Rect.unit ![520, 0] ![256, 512] inb_S2056x512_S256x512_520_0, k0_pay25 (View.ld X (Rect.unit ![512, 0] ![256, 2048] inb_S2048x2048_S256x2048_512_0)) W⟩,
      ⟨Rect.unit ![264, 0] ![256, 512] inb_S2056x512_S256x512_264_0, k0_pay19 (View.ld X (Rect.unit ![256, 0] ![256, 2048] inb_S2048x2048_S256x2048_256_0)) W⟩,
      ⟨Rect.unit ![8, 0] ![256, 512] inb_S2056x512_S256x512_8_0, k0_pay11 (k0_pay9 (View.ld X (Rect.unit ![0, 0] ![256, 2048] inb_S2048x2048_S256x2048_0_0))) W⟩,
      ⟨Rect.unit ![0, 0] ![8, 512] inb_S2056x512_S8x512_0_0, Z⟩]
      (Rect.unit ![1280, 0] ![264, 512] inb_S2056x512_S264x512_1280_0).toLoadRect
    = View.ld (H X W Z) (Rect.unit ![1280, 0] ![264, 512] inb_S2056x512_S264x512_1280_0) := by
  rw [View.readCov_eq_canon']
  funext y
  have y0 : (y 0).val < 264 := (y 0).isLt
  refine View.canon_apply_of_pieces (H X W Z) _ (View.PiecesOf.mem (allU X W Z).2.2) _ ?_
  by_cases h : (y 0).val < 8
  · refine ⟨_, List.mem_cons_of_mem _ List.mem_cons_self, mem_rows inb_S2056x512_S256x512_1032_0 _ ?_ ?_⟩
    · show 1032 ≤ 1280 + 1 * (y 0).val; omega
    · show 1280 + 1 * (y 0).val < 1032 + 256; omega
  · refine ⟨_, List.mem_cons_self, mem_rows inb_S2056x512_S256x512_1288_0 _ ?_ ?_⟩
    · show 1288 ≤ 1280 + 1 * (y 0).val; omega
    · show 1280 + 1 * (y 0).val < 1288 + 256; omega

set_option maxHeartbeats 1900000 in
/-- The load of chunk 6's up rows. -/
theorem readU6 : (View.whole cc0_scratch1).readCov [⟨Rect.unit ![1544, 0] ![256, 512] inb_S2056x512_S256x512_1544_0, k0_pay51 (View.ld X (Rect.unit ![1536, 0] ![256, 2048] inb_S2048x2048_S256x2048_1536_0)) W⟩,
      ⟨Rect.unit ![1288, 0] ![256, 512] inb_S2056x512_S256x512_1288_0, k0_pay43 (View.ld X (Rect.unit ![1280, 0] ![256, 2048] inb_S2048x2048_S256x2048_1280_0)) W⟩,
      ⟨Rect.unit ![1032, 0] ![256, 512] inb_S2056x512_S256x512_1032_0, k0_pay37 (k0_pay34 (View.ld X (Rect.unit ![1024, 0] ![256, 2048] inb_S2048x2048_S256x2048_1024_0))) W⟩,
      ⟨Rect.unit ![776, 0] ![256, 512] inb_S2056x512_S256x512_776_0, k0_pay30 (View.ld X (Rect.unit ![768, 0] ![256, 2048] inb_S2048x2048_S256x2048_768_0)) W⟩,
      ⟨Rect.unit ![520, 0] ![256, 512] inb_S2056x512_S256x512_520_0, k0_pay25 (View.ld X (Rect.unit ![512, 0] ![256, 2048] inb_S2048x2048_S256x2048_512_0)) W⟩,
      ⟨Rect.unit ![264, 0] ![256, 512] inb_S2056x512_S256x512_264_0, k0_pay19 (View.ld X (Rect.unit ![256, 0] ![256, 2048] inb_S2048x2048_S256x2048_256_0)) W⟩,
      ⟨Rect.unit ![8, 0] ![256, 512] inb_S2056x512_S256x512_8_0, k0_pay11 (k0_pay9 (View.ld X (Rect.unit ![0, 0] ![256, 2048] inb_S2048x2048_S256x2048_0_0))) W⟩,
      ⟨Rect.unit ![0, 0] ![8, 512] inb_S2056x512_S8x512_0_0, Z⟩]
      (Rect.unit ![1536, 0] ![264, 512] inb_S2056x512_S264x512_1536_0).toLoadRect
    = View.ld (H X W Z) (Rect.unit ![1536, 0] ![264, 512] inb_S2056x512_S264x512_1536_0) := by
  rw [View.readCov_eq_canon']
  funext y
  have y0 : (y 0).val < 264 := (y 0).isLt
  refine View.canon_apply_of_pieces (H X W Z) _ (View.PiecesOf.mem (allU X W Z).2) _ ?_
  by_cases h : (y 0).val < 8
  · refine ⟨_, List.mem_cons_of_mem _ List.mem_cons_self, mem_rows inb_S2056x512_S256x512_1288_0 _ ?_ ?_⟩
    · show 1288 ≤ 1536 + 1 * (y 0).val; omega
    · show 1536 + 1 * (y 0).val < 1288 + 256; omega
  · refine ⟨_, List.mem_cons_self, mem_rows inb_S2056x512_S256x512_1544_0 _ ?_ ?_⟩
    · show 1544 ≤ 1536 + 1 * (y 0).val; omega
    · show 1536 + 1 * (y 0).val < 1544 + 256; omega

set_option maxHeartbeats 1900000 in
/-- The load of chunk 7's up rows. -/
theorem readU7 : (View.whole cc0_scratch1).readCov [⟨Rect.unit ![1800, 0] ![256, 512] inb_S2056x512_S256x512_1800_0, k0_pay61 (View.ld X (Rect.unit ![1792, 0] ![256, 2048] inb_S2048x2048_S256x2048_1792_0)) W⟩,
      ⟨Rect.unit ![1544, 0] ![256, 512] inb_S2056x512_S256x512_1544_0, k0_pay51 (View.ld X (Rect.unit ![1536, 0] ![256, 2048] inb_S2048x2048_S256x2048_1536_0)) W⟩,
      ⟨Rect.unit ![1288, 0] ![256, 512] inb_S2056x512_S256x512_1288_0, k0_pay43 (View.ld X (Rect.unit ![1280, 0] ![256, 2048] inb_S2048x2048_S256x2048_1280_0)) W⟩,
      ⟨Rect.unit ![1032, 0] ![256, 512] inb_S2056x512_S256x512_1032_0, k0_pay37 (k0_pay34 (View.ld X (Rect.unit ![1024, 0] ![256, 2048] inb_S2048x2048_S256x2048_1024_0))) W⟩,
      ⟨Rect.unit ![776, 0] ![256, 512] inb_S2056x512_S256x512_776_0, k0_pay30 (View.ld X (Rect.unit ![768, 0] ![256, 2048] inb_S2048x2048_S256x2048_768_0)) W⟩,
      ⟨Rect.unit ![520, 0] ![256, 512] inb_S2056x512_S256x512_520_0, k0_pay25 (View.ld X (Rect.unit ![512, 0] ![256, 2048] inb_S2048x2048_S256x2048_512_0)) W⟩,
      ⟨Rect.unit ![264, 0] ![256, 512] inb_S2056x512_S256x512_264_0, k0_pay19 (View.ld X (Rect.unit ![256, 0] ![256, 2048] inb_S2048x2048_S256x2048_256_0)) W⟩,
      ⟨Rect.unit ![8, 0] ![256, 512] inb_S2056x512_S256x512_8_0, k0_pay11 (k0_pay9 (View.ld X (Rect.unit ![0, 0] ![256, 2048] inb_S2048x2048_S256x2048_0_0))) W⟩,
      ⟨Rect.unit ![0, 0] ![8, 512] inb_S2056x512_S8x512_0_0, Z⟩]
      (Rect.unit ![1792, 0] ![264, 512] inb_S2056x512_S264x512_1792_0).toLoadRect
    = View.ld (H X W Z) (Rect.unit ![1792, 0] ![264, 512] inb_S2056x512_S264x512_1792_0) := by
  rw [View.readCov_eq_canon']
  funext y
  have y0 : (y 0).val < 264 := (y 0).isLt
  refine View.canon_apply_of_pieces (H X W Z) _ (View.PiecesOf.mem (allU X W Z)) _ ?_
  by_cases h : (y 0).val < 8
  · refine ⟨_, List.mem_cons_of_mem _ List.mem_cons_self, mem_rows inb_S2056x512_S256x512_1544_0 _ ?_ ?_⟩
    · show 1544 ≤ 1792 + 1 * (y 0).val; omega
    · show 1792 + 1 * (y 0).val < 1544 + 256; omega
  · refine ⟨_, List.mem_cons_self, mem_rows inb_S2056x512_S256x512_1800_0 _ ?_ ?_⟩
    · show 1800 ≤ 1792 + 1 * (y 0).val; omega
    · show 1792 + 1 * (y 0).val < 1800 + 256; omega

set_option maxHeartbeats 1900000 in
/-- The whole up scratch after a point. -/
theorem wholeU : View.canon (Val := Elt Ideal) [⟨Rect.unit ![1800, 0] ![256, 512] inb_S2056x512_S256x512_1800_0, k0_pay61 (View.ld X (Rect.unit ![1792, 0] ![256, 2048] inb_S2048x2048_S256x2048_1792_0)) W⟩,
      ⟨Rect.unit ![1544, 0] ![256, 512] inb_S2056x512_S256x512_1544_0, k0_pay51 (View.ld X (Rect.unit ![1536, 0] ![256, 2048] inb_S2048x2048_S256x2048_1536_0)) W⟩,
      ⟨Rect.unit ![1288, 0] ![256, 512] inb_S2056x512_S256x512_1288_0, k0_pay43 (View.ld X (Rect.unit ![1280, 0] ![256, 2048] inb_S2048x2048_S256x2048_1280_0)) W⟩,
      ⟨Rect.unit ![1032, 0] ![256, 512] inb_S2056x512_S256x512_1032_0, k0_pay37 (k0_pay34 (View.ld X (Rect.unit ![1024, 0] ![256, 2048] inb_S2048x2048_S256x2048_1024_0))) W⟩,
      ⟨Rect.unit ![776, 0] ![256, 512] inb_S2056x512_S256x512_776_0, k0_pay30 (View.ld X (Rect.unit ![768, 0] ![256, 2048] inb_S2048x2048_S256x2048_768_0)) W⟩,
      ⟨Rect.unit ![520, 0] ![256, 512] inb_S2056x512_S256x512_520_0, k0_pay25 (View.ld X (Rect.unit ![512, 0] ![256, 2048] inb_S2048x2048_S256x2048_512_0)) W⟩,
      ⟨Rect.unit ![264, 0] ![256, 512] inb_S2056x512_S256x512_264_0, k0_pay19 (View.ld X (Rect.unit ![256, 0] ![256, 2048] inb_S2048x2048_S256x2048_256_0)) W⟩,
      ⟨Rect.unit ![8, 0] ![256, 512] inb_S2056x512_S256x512_8_0, k0_pay11 (k0_pay9 (View.ld X (Rect.unit ![0, 0] ![256, 2048] inb_S2048x2048_S256x2048_0_0))) W⟩,
      ⟨Rect.unit ![0, 0] ![8, 512] inb_S2056x512_S8x512_0_0, Z⟩] = H X W Z := by
  funext y
  have y0 : (y 0).val < 2056 := (y 0).isLt
  refine View.canon_apply_of_pieces (H X W Z) _ (View.PiecesOf.mem (allU X W Z)) _ ?_
  by_cases h7 : 1800 ≤ (y 0).val
  · exact ⟨_, List.mem_cons_self, mem_rows inb_S2056x512_S256x512_1800_0 _ h7 (by omega)⟩
  by_cases h6 : 1544 ≤ (y 0).val
  · exact ⟨_, List.mem_cons_of_mem _ (List.mem_cons_self), mem_rows inb_S2056x512_S256x512_1544_0 _ h6 (by omega)⟩
  by_cases h5 : 1288 ≤ (y 0).val
  · exact ⟨_, List.mem_cons_of_mem _ (List.mem_cons_of_mem _ (List.mem_cons_self)), mem_rows inb_S2056x512_S256x512_1288_0 _ h5 (by omega)⟩
  by_cases h4 : 1032 ≤ (y 0).val
  · exact ⟨_, List.mem_cons_of_mem _ (List.mem_cons_of_mem _ (List.mem_cons_of_mem _ (List.mem_cons_self))), mem_rows inb_S2056x512_S256x512_1032_0 _ h4 (by omega)⟩
  by_cases h3 : 776 ≤ (y 0).val
  · exact ⟨_, List.mem_cons_of_mem _ (List.mem_cons_of_mem _ (List.mem_cons_of_mem _ (List.mem_cons_of_mem _ (List.mem_cons_self)))), mem_rows inb_S2056x512_S256x512_776_0 _ h3 (by omega)⟩
  by_cases h2 : 520 ≤ (y 0).val
  · exact ⟨_, List.mem_cons_of_mem _ (List.mem_cons_of_mem _ (List.mem_cons_of_mem _ (List.mem_cons_of_mem _ (List.mem_cons_of_mem _ (List.mem_cons_self))))), mem_rows inb_S2056x512_S256x512_520_0 _ h2 (by omega)⟩
  by_cases h1 : 264 ≤ (y 0).val
  · exact ⟨_, List.mem_cons_of_mem _ (List.mem_cons_of_mem _ (List.mem_cons_of_mem _ (List.mem_cons_of_mem _ (List.mem_cons_of_mem _ (List.mem_cons_of_mem _ (List.mem_cons_self)))))), mem_rows inb_S2056x512_S256x512_264_0 _ h1 (by omega)⟩
  by_cases h0 : 8 ≤ (y 0).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_rows inb_S2056x512_S256x512_8_0 _ h0 (by omega)⟩
  exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_rows inb_S2056x512_S8x512_0_0 _ (Nat.zero_le _) (by omega)⟩

end Cert.Kernel5Ideal.FfnScratch
end
-- ==== Proof.FfnPiece.lean ====
/-
  The convolved up projection: the activation of a block, piece by piece.
-/
module

public import proofs.«01_k».proof.Proof.FfnScratch
public import Idealize.ShloMosaic.Lib.Claim

@[expose] public section

set_option maxRecDepth 16384

noncomputable section

namespace Cert.Kernel5Ideal.FfnPiece

open Cert.Kernel5Ideal Cert.Kernel5Ideal.Gen Cert.Kernel5Ideal.FfnScratch
open Idealize.ShloMosaic Idealize.ShloMosaic.TcCoe Idealize.ShloMosaic.Tactic Idealize.SL.Sem

/-- The causal convolution of width three at a row and a column, read from the scratch eight rows down. -/
def conv (h : Vec Ideal S2056x512 .f32) (w : Vec Ideal S3x512 .f32) (b : Vec Ideal S1x512 .f32) (r : Fin 2048) (q : Fin 512) : EReal :=
  b (ix2 0 q) + w (ix2 2 q) * h (ix2 ⟨r.val + 8, by omega⟩ q) + w (ix2 1 q) * h (ix2 ⟨r.val + 7, by omega⟩ q)
    + w (ix2 0 q) * h (ix2 ⟨r.val + 6, by omega⟩ q)

/-- The gated activation. -/
def act (g u : EReal) : EReal := g * Ideal.logistic g * u

/-- Two rows and columns with equal coordinates. -/
theorem ix2_ext {a b : ℕ} {i i' : Fin a} {j j' : Fin b} (h : i.val = i'.val) (hj : j = j') : ix2 i j = ix2 i' j' := by
  rw [Fin.ext h, hj]

set_option maxHeartbeats 1000000 in
/-- The convolution of 264 rows read at a row offset, at a point. -/
theorem conv_at (h : Vec Ideal S2056x512 .f32) (w : Vec Ideal S3x512 .f32) (b : Vec Ideal S1x512 .f32) (o : ℕ)
    (ib : ∀ a, (![o, 0] : Fin 2 → ℕ) a + (![264, 512] : Fin 2 → ℕ) a ≤ S2056x512.size a) (ho : o + 264 ≤ 2056) (x : S256x512.Idx) (r : Fin 2048) (hr : r.val = o + (x 0).val) (q : Fin 512) (hq : q.val = (x 1).val) :
    k0_pay64 (View.ld h (Rect.unit ![o, 0] ![264, 512] ib)) b (View.ld w (Rect.unit ![2, 0] ![1, 512] inb_S3x512_S1x512_2_0)) (View.ld w (Rect.unit ![1, 0] ![1, 512] inb_S3x512_S1x512_1_0)) (View.ld w (Rect.unit ![0, 0] ![1, 512] inb_S3x512_S1x512_0_0)) x
      = conv h w b r q := by
  have x0 : (x 0).val < 256 := (x 0).isLt
  have x1 : (x 1).val < 512 := (x 1).isLt
  have e : q = x 1 := Fin.ext hq
  subst e
  unfold conv
  open_payloads
  pointwise [View.ld]
  have e1 : (8 + (x 0).val + 264 - 1) % 264 = (x 0).val + 7 := by omega
  have e2 : (8 + (x 0).val + 264 - 2) % 264 = (x 0).val + 6 := by omega
  refine congrArg₂ (· + ·) (congrArg₂ (· + ·) (congrArg₂ (· + ·) rfl (congrArg₂ (· * ·) rfl (congrArg h (ix2_ext ?_ rfl)))) (congrArg₂ (· * ·) rfl (congrArg h (ix2_ext ?_ rfl)))) (congrArg₂ (· * ·) rfl (congrArg h (ix2_ext ?_ rfl)))
  all_goals (try simp only [e1, e2, hr]); omega

set_option maxHeartbeats 1000000 in
/-- A stored piece at a point. -/
theorem act_at (g u : FVec Ideal S256x512 .f32) (x : S256x512.Idx) (G U : EReal) (hg : g x = G) (hu : u x = U) :
    k0_pay1 g u x = act G U := by
  subst hg hu
  unfold act
  open_payloads
  pointwise []

/-- The 1th stored piece from the end: one convolution gated by the other. -/
theorem piece7 (HG HU : Vec Ideal S2056x512 .f32) (cg cu : Vec Ideal S3x512 .f32) (bg bu : Vec Ideal S1x512 .f32) :
    k0_pay1 (k0_pay63 (View.ld HG (Rect.unit ![1792, 0] ![264, 512] inb_S2056x512_S264x512_1792_0)) (k0_pay62 (View.ld HG (Rect.unit ![1792, 0] ![264, 512] inb_S2056x512_S264x512_1792_0)) bg (View.ld cg (Rect.unit ![2, 0] ![1, 512] inb_S3x512_S1x512_2_0)) (View.ld cg (Rect.unit ![1, 0] ![1, 512] inb_S3x512_S1x512_1_0))) (2#32) (View.ld cg (Rect.unit ![0, 0] ![1, 512] inb_S3x512_S1x512_0_0))) (k0_pay64 (View.ld HU (Rect.unit ![1792, 0] ![264, 512] inb_S2056x512_S264x512_1792_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0)))
      = k0_pay1 (k0_pay64 (View.ld HG (Rect.unit ![1792, 0] ![264, 512] inb_S2056x512_S264x512_1792_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (k0_pay64 (View.ld HU (Rect.unit ![1792, 0] ![264, 512] inb_S2056x512_S264x512_1792_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))) := rfl

/-- The 2th stored piece from the end: one convolution gated by the other. -/
theorem piece6 (HG HU : Vec Ideal S2056x512 .f32) (cg cu : Vec Ideal S3x512 .f32) (bg bu : Vec Ideal S1x512 .f32) :
    k0_pay58 (k0_pay55 (View.ld HG (Rect.unit ![1536, 0] ![264, 512] inb_S2056x512_S264x512_1536_0)) (k0_pay52 bg) (k0_pay53 (View.ld HG (Rect.unit ![1536, 0] ![264, 512] inb_S2056x512_S264x512_1536_0))) (k0_pay54 (View.ld cg (Rect.unit ![2, 0] ![1, 512] inb_S3x512_S1x512_2_0))) (View.ld cg (Rect.unit ![1, 0] ![1, 512] inb_S3x512_S1x512_1_0)) (View.ld cg (Rect.unit ![0, 0] ![1, 512] inb_S3x512_S1x512_0_0))) (k0_pay56 (View.ld HU (Rect.unit ![1536, 0] ![264, 512] inb_S2056x512_S264x512_1536_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))) (k0_pay57 (View.ld HG (Rect.unit ![1536, 0] ![264, 512] inb_S2056x512_S264x512_1536_0)) (k0_pay52 bg) (k0_pay53 (View.ld HG (Rect.unit ![1536, 0] ![264, 512] inb_S2056x512_S264x512_1536_0))) (k0_pay54 (View.ld cg (Rect.unit ![2, 0] ![1, 512] inb_S3x512_S1x512_2_0))) (View.ld cg (Rect.unit ![1, 0] ![1, 512] inb_S3x512_S1x512_1_0)) (View.ld cg (Rect.unit ![0, 0] ![1, 512] inb_S3x512_S1x512_0_0)))
      = k0_pay1 (k0_pay64 (View.ld HG (Rect.unit ![1536, 0] ![264, 512] inb_S2056x512_S264x512_1536_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (k0_pay64 (View.ld HU (Rect.unit ![1536, 0] ![264, 512] inb_S2056x512_S264x512_1536_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))) := rfl

/-- The 3th stored piece from the end: one convolution gated by the other. -/
theorem piece5 (HG HU : Vec Ideal S2056x512 .f32) (cg cu : Vec Ideal S3x512 .f32) (bg bu : Vec Ideal S1x512 .f32) :
    k0_pay48 (k0_pay44 (View.ld HG (Rect.unit ![1280, 0] ![264, 512] inb_S2056x512_S264x512_1280_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (View.ld HU (Rect.unit ![1280, 0] ![264, 512] inb_S2056x512_S264x512_1280_0)) (k0_pay45 (View.ld HU (Rect.unit ![1280, 0] ![264, 512] inb_S2056x512_S264x512_1280_0)) bu (View.ld cu (Rect.unit ![2, 0] ![1, 512] inb_S3x512_S1x512_2_0))) (k0_pay46 (View.ld HU (Rect.unit ![1280, 0] ![264, 512] inb_S2056x512_S264x512_1280_0))) (k0_pay47 (View.ld cu (Rect.unit ![1, 0] ![1, 512] inb_S3x512_S1x512_1_0))) (View.ld cu (Rect.unit ![0, 0] ![1, 512] inb_S3x512_S1x512_0_0))
      = k0_pay1 (k0_pay64 (View.ld HG (Rect.unit ![1280, 0] ![264, 512] inb_S2056x512_S264x512_1280_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (k0_pay64 (View.ld HU (Rect.unit ![1280, 0] ![264, 512] inb_S2056x512_S264x512_1280_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))) := rfl

/-- The 4th stored piece from the end: one convolution gated by the other. -/
theorem piece4 (HG HU : Vec Ideal S2056x512 .f32) (cg cu : Vec Ideal S3x512 .f32) (bg bu : Vec Ideal S1x512 .f32) :
    k0_pay40 (k0_pay38 (View.ld HG (Rect.unit ![1024, 0] ![264, 512] inb_S2056x512_S264x512_1024_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (View.ld HU (Rect.unit ![1024, 0] ![264, 512] inb_S2056x512_S264x512_1024_0)) (k0_pay39 bu) (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))
      = k0_pay1 (k0_pay64 (View.ld HG (Rect.unit ![1024, 0] ![264, 512] inb_S2056x512_S264x512_1024_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (k0_pay64 (View.ld HU (Rect.unit ![1024, 0] ![264, 512] inb_S2056x512_S264x512_1024_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))) := rfl

/-- The 5th stored piece from the end: one convolution gated by the other. -/
theorem piece3 (HG HU : Vec Ideal S2056x512 .f32) (cg cu : Vec Ideal S3x512 .f32) (bg bu : Vec Ideal S1x512 .f32) :
    k0_pay33 (k0_pay31 (View.ld HG (Rect.unit ![768, 0] ![264, 512] inb_S2056x512_S264x512_768_0)) bg (View.ld cg (Rect.unit ![2, 0] ![1, 512] inb_S3x512_S1x512_2_0)) (View.ld cg (Rect.unit ![1, 0] ![1, 512] inb_S3x512_S1x512_1_0))) (k0_pay32 (View.ld HG (Rect.unit ![768, 0] ![264, 512] inb_S2056x512_S264x512_768_0))) (View.ld cg (Rect.unit ![0, 0] ![1, 512] inb_S3x512_S1x512_0_0)) (View.ld HU (Rect.unit ![768, 0] ![264, 512] inb_S2056x512_S264x512_768_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))
      = k0_pay1 (k0_pay64 (View.ld HG (Rect.unit ![768, 0] ![264, 512] inb_S2056x512_S264x512_768_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (k0_pay64 (View.ld HU (Rect.unit ![768, 0] ![264, 512] inb_S2056x512_S264x512_768_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))) := rfl

/-- The 6th stored piece from the end: one convolution gated by the other. -/
theorem piece2 (HG HU : Vec Ideal S2056x512 .f32) (cg cu : Vec Ideal S3x512 .f32) (bg bu : Vec Ideal S1x512 .f32) :
    k0_pay27 (View.ld HG (Rect.unit ![512, 0] ![264, 512] inb_S2056x512_S264x512_512_0)) (k0_pay26 (View.ld HG (Rect.unit ![512, 0] ![264, 512] inb_S2056x512_S264x512_512_0)) bg (View.ld cg (Rect.unit ![2, 0] ![1, 512] inb_S3x512_S1x512_2_0))) (1#32) (View.ld cg (Rect.unit ![1, 0] ![1, 512] inb_S3x512_S1x512_1_0)) (View.ld cg (Rect.unit ![0, 0] ![1, 512] inb_S3x512_S1x512_0_0)) (View.ld HU (Rect.unit ![512, 0] ![264, 512] inb_S2056x512_S264x512_512_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))
      = k0_pay1 (k0_pay64 (View.ld HG (Rect.unit ![512, 0] ![264, 512] inb_S2056x512_S264x512_512_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (k0_pay64 (View.ld HU (Rect.unit ![512, 0] ![264, 512] inb_S2056x512_S264x512_512_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))) := rfl

/-- The 7th stored piece from the end: one convolution gated by the other. -/
theorem piece1 (HG HU : Vec Ideal S2056x512 .f32) (cg cu : Vec Ideal S3x512 .f32) (bg bu : Vec Ideal S1x512 .f32) :
    k0_pay22 (k0_pay20 (View.ld HG (Rect.unit ![256, 0] ![264, 512] inb_S2056x512_S264x512_256_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (View.ld HU (Rect.unit ![256, 0] ![264, 512] inb_S2056x512_S264x512_256_0)) (k0_pay21 (View.ld HU (Rect.unit ![256, 0] ![264, 512] inb_S2056x512_S264x512_256_0)) bu (View.ld cu (Rect.unit ![2, 0] ![1, 512] inb_S3x512_S1x512_2_0)) (View.ld cu (Rect.unit ![1, 0] ![1, 512] inb_S3x512_S1x512_1_0))) (2#32) (View.ld cu (Rect.unit ![0, 0] ![1, 512] inb_S3x512_S1x512_0_0))
      = k0_pay1 (k0_pay64 (View.ld HG (Rect.unit ![256, 0] ![264, 512] inb_S2056x512_S264x512_256_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (k0_pay64 (View.ld HU (Rect.unit ![256, 0] ![264, 512] inb_S2056x512_S264x512_256_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))) := rfl

/-- The 8th stored piece from the end: one convolution gated by the other. -/
theorem piece0 (HG HU : Vec Ideal S2056x512 .f32) (cg cu : Vec Ideal S3x512 .f32) (bg bu : Vec Ideal S1x512 .f32) :
    k0_pay16 (k0_pay12 (View.ld HG (Rect.unit ![0, 0] ![264, 512] inb_S2056x512_S264x512_0_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (View.ld HU (Rect.unit ![0, 0] ![264, 512] inb_S2056x512_S264x512_0_0)) (k0_pay13 bu) (k0_pay14 (View.ld HU (Rect.unit ![0, 0] ![264, 512] inb_S2056x512_S264x512_0_0))) (k0_pay15 (View.ld cu (Rect.unit ![2, 0] ![1, 512] inb_S3x512_S1x512_2_0))) (View.ld cu (Rect.unit ![1, 0] ![1, 512] inb_S3x512_S1x512_1_0)) (View.ld cu (Rect.unit ![0, 0] ![1, 512] inb_S3x512_S1x512_0_0))
      = k0_pay1 (k0_pay64 (View.ld HG (Rect.unit ![0, 0] ![264, 512] inb_S2056x512_S264x512_0_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (k0_pay64 (View.ld HU (Rect.unit ![0, 0] ![264, 512] inb_S2056x512_S264x512_0_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))) := rfl

set_option maxHeartbeats 1000000 in
/-- The eight pieces together. -/
theorem pieces (HG HU : Vec Ideal S2056x512 .f32) (cg cu : Vec Ideal S3x512 .f32) (bg bu : Vec Ideal S1x512 .f32) (y : S2048x512.Idx) :
    View.canon (Val := Elt Ideal) (e := .bf16) [⟨Rect.unit ![1792, 0] ![256, 512] inb_S2048x512_S256x512_1792_0, k0_pay1 (k0_pay63 (View.ld HG (Rect.unit ![1792, 0] ![264, 512] inb_S2056x512_S264x512_1792_0)) (k0_pay62 (View.ld HG (Rect.unit ![1792, 0] ![264, 512] inb_S2056x512_S264x512_1792_0)) bg (View.ld cg (Rect.unit ![2, 0] ![1, 512] inb_S3x512_S1x512_2_0)) (View.ld cg (Rect.unit ![1, 0] ![1, 512] inb_S3x512_S1x512_1_0))) (2#32) (View.ld cg (Rect.unit ![0, 0] ![1, 512] inb_S3x512_S1x512_0_0))) (k0_pay64 (View.ld HU (Rect.unit ![1792, 0] ![264, 512] inb_S2056x512_S264x512_1792_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0)))⟩, ⟨Rect.unit ![1536, 0] ![256, 512] inb_S2048x512_S256x512_1536_0, k0_pay58 (k0_pay55 (View.ld HG (Rect.unit ![1536, 0] ![264, 512] inb_S2056x512_S264x512_1536_0)) (k0_pay52 bg) (k0_pay53 (View.ld HG (Rect.unit ![1536, 0] ![264, 512] inb_S2056x512_S264x512_1536_0))) (k0_pay54 (View.ld cg (Rect.unit ![2, 0] ![1, 512] inb_S3x512_S1x512_2_0))) (View.ld cg (Rect.unit ![1, 0] ![1, 512] inb_S3x512_S1x512_1_0)) (View.ld cg (Rect.unit ![0, 0] ![1, 512] inb_S3x512_S1x512_0_0))) (k0_pay56 (View.ld HU (Rect.unit ![1536, 0] ![264, 512] inb_S2056x512_S264x512_1536_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))) (k0_pay57 (View.ld HG (Rect.unit ![1536, 0] ![264, 512] inb_S2056x512_S264x512_1536_0)) (k0_pay52 bg) (k0_pay53 (View.ld HG (Rect.unit ![1536, 0] ![264, 512] inb_S2056x512_S264x512_1536_0))) (k0_pay54 (View.ld cg (Rect.unit ![2, 0] ![1, 512] inb_S3x512_S1x512_2_0))) (View.ld cg (Rect.unit ![1, 0] ![1, 512] inb_S3x512_S1x512_1_0)) (View.ld cg (Rect.unit ![0, 0] ![1, 512] inb_S3x512_S1x512_0_0)))⟩, ⟨Rect.unit ![1280, 0] ![256, 512] inb_S2048x512_S256x512_1280_0, k0_pay48 (k0_pay44 (View.ld HG (Rect.unit ![1280, 0] ![264, 512] inb_S2056x512_S264x512_1280_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (View.ld HU (Rect.unit ![1280, 0] ![264, 512] inb_S2056x512_S264x512_1280_0)) (k0_pay45 (View.ld HU (Rect.unit ![1280, 0] ![264, 512] inb_S2056x512_S264x512_1280_0)) bu (View.ld cu (Rect.unit ![2, 0] ![1, 512] inb_S3x512_S1x512_2_0))) (k0_pay46 (View.ld HU (Rect.unit ![1280, 0] ![264, 512] inb_S2056x512_S264x512_1280_0))) (k0_pay47 (View.ld cu (Rect.unit ![1, 0] ![1, 512] inb_S3x512_S1x512_1_0))) (View.ld cu (Rect.unit ![0, 0] ![1, 512] inb_S3x512_S1x512_0_0))⟩, ⟨Rect.unit ![1024, 0] ![256, 512] inb_S2048x512_S256x512_1024_0, k0_pay40 (k0_pay38 (View.ld HG (Rect.unit ![1024, 0] ![264, 512] inb_S2056x512_S264x512_1024_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (View.ld HU (Rect.unit ![1024, 0] ![264, 512] inb_S2056x512_S264x512_1024_0)) (k0_pay39 bu) (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))⟩, ⟨Rect.unit ![768, 0] ![256, 512] inb_S2048x512_S256x512_768_0, k0_pay33 (k0_pay31 (View.ld HG (Rect.unit ![768, 0] ![264, 512] inb_S2056x512_S264x512_768_0)) bg (View.ld cg (Rect.unit ![2, 0] ![1, 512] inb_S3x512_S1x512_2_0)) (View.ld cg (Rect.unit ![1, 0] ![1, 512] inb_S3x512_S1x512_1_0))) (k0_pay32 (View.ld HG (Rect.unit ![768, 0] ![264, 512] inb_S2056x512_S264x512_768_0))) (View.ld cg (Rect.unit ![0, 0] ![1, 512] inb_S3x512_S1x512_0_0)) (View.ld HU (Rect.unit ![768, 0] ![264, 512] inb_S2056x512_S264x512_768_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))⟩, ⟨Rect.unit ![512, 0] ![256, 512] inb_S2048x512_S256x512_512_0, k0_pay27 (View.ld HG (Rect.unit ![512, 0] ![264, 512] inb_S2056x512_S264x512_512_0)) (k0_pay26 (View.ld HG (Rect.unit ![512, 0] ![264, 512] inb_S2056x512_S264x512_512_0)) bg (View.ld cg (Rect.unit ![2, 0] ![1, 512] inb_S3x512_S1x512_2_0))) (1#32) (View.ld cg (Rect.unit ![1, 0] ![1, 512] inb_S3x512_S1x512_1_0)) (View.ld cg (Rect.unit ![0, 0] ![1, 512] inb_S3x512_S1x512_0_0)) (View.ld HU (Rect.unit ![512, 0] ![264, 512] inb_S2056x512_S264x512_512_0)) bu (View.ld cu (Rect.unit ![2, 0] ![1, 512] inb_S3x512_S1x512_2_0)) (View.ld cu (Rect.unit ![1, 0] ![1, 512] inb_S3x512_S1x512_1_0)) (View.ld cu (Rect.unit ![0, 0] ![1, 512] inb_S3x512_S1x512_0_0))⟩, ⟨Rect.unit ![256, 0] ![256, 512] inb_S2048x512_S256x512_256_0, k0_pay22 (k0_pay20 (View.ld HG (Rect.unit ![256, 0] ![264, 512] inb_S2056x512_S264x512_256_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (View.ld HU (Rect.unit ![256, 0] ![264, 512] inb_S2056x512_S264x512_256_0)) (k0_pay21 (View.ld HU (Rect.unit ![256, 0] ![264, 512] inb_S2056x512_S264x512_256_0)) bu (View.ld cu (Rect.unit ![2, 0] ![1, 512] inb_S3x512_S1x512_2_0)) (View.ld cu (Rect.unit ![1, 0] ![1, 512] inb_S3x512_S1x512_1_0))) (2#32) (View.ld cu (Rect.unit ![0, 0] ![1, 512] inb_S3x512_S1x512_0_0))⟩, ⟨Rect.unit ![0, 0] ![256, 512] inb_S2048x512_S256x512_0_0, k0_pay16 (k0_pay12 (View.ld HG (Rect.unit ![0, 0] ![264, 512] inb_S2056x512_S264x512_0_0)) bg (View.ld cg (Rect.unit ![2, 0] ![1, 512] inb_S3x512_S1x512_2_0)) (View.ld cg (Rect.unit ![1, 0] ![1, 512] inb_S3x512_S1x512_1_0)) (View.ld cg (Rect.unit ![0, 0] ![1, 512] inb_S3x512_S1x512_0_0))) (View.ld HU (Rect.unit ![0, 0] ![264, 512] inb_S2056x512_S264x512_0_0)) (k0_pay13 bu) (k0_pay14 (View.ld HU (Rect.unit ![0, 0] ![264, 512] inb_S2056x512_S264x512_0_0))) (k0_pay15 (View.ld cu (Rect.unit ![2, 0] ![1, 512] inb_S3x512_S1x512_2_0))) (View.ld cu (Rect.unit ![1, 0] ![1, 512] inb_S3x512_S1x512_1_0)) (View.ld cu (Rect.unit ![0, 0] ![1, 512] inb_S3x512_S1x512_0_0))⟩] y = act (conv HG cg bg (y 0) (y 1)) (conv HU cu bu (y 0) (y 1)) := by
  canon_tiles x h
  · refine (congrFun (piece7 HG HU cg cu bg bu) x).trans (act_at _ _ x _ _ (conv_at HG cg bg 1792 _ (by omega) x _ h0 _ h1) (conv_at HU cu bu 1792 _ (by omega) x _ h0 _ h1))
  · refine (congrFun (piece6 HG HU cg cu bg bu) x).trans (act_at _ _ x _ _ (conv_at HG cg bg 1536 _ (by omega) x _ h0 _ h1) (conv_at HU cu bu 1536 _ (by omega) x _ h0 _ h1))
  · refine (congrFun (piece5 HG HU cg cu bg bu) x).trans (act_at _ _ x _ _ (conv_at HG cg bg 1280 _ (by omega) x _ h0 _ h1) (conv_at HU cu bu 1280 _ (by omega) x _ h0 _ h1))
  · refine (congrFun (piece4 HG HU cg cu bg bu) x).trans (act_at _ _ x _ _ (conv_at HG cg bg 1024 _ (by omega) x _ h0 _ h1) (conv_at HU cu bu 1024 _ (by omega) x _ h0 _ h1))
  · refine (congrFun (piece3 HG HU cg cu bg bu) x).trans (act_at _ _ x _ _ (conv_at HG cg bg 768 _ (by omega) x _ h0 _ h1) (conv_at HU cu bu 768 _ (by omega) x _ h0 _ h1))
  · refine (congrFun (piece2 HG HU cg cu bg bu) x).trans (act_at _ _ x _ _ (conv_at HG cg bg 512 _ (by omega) x _ h0 _ h1) (conv_at HU cu bu 512 _ (by omega) x _ h0 _ h1))
  · refine (congrFun (piece1 HG HU cg cu bg bu) x).trans (act_at _ _ x _ _ (conv_at HG cg bg 256 _ (by omega) x _ h0 _ h1) (conv_at HU cu bu 256 _ (by omega) x _ h0 _ h1))
  · refine (congrFun (piece0 HG HU cg cu bg bu) x).trans (act_at _ _ x _ _ (conv_at HG cg bg 0 _ (by omega) x _ (by omega) _ h1) (conv_at HU cu bu 0 _ (by omega) x _ (by omega) _ h1))
end Cert.Kernel5Ideal.FfnPiece
end
-- ==== Proof.FfnPoint.lean ====
/-
  The convolved up projection: what a grid point leaves in its result block.
-/
module

public import proofs.«01_k».proof.Proof.FfnPiece
public import Idealize.ShloMosaic.Lib.Claim

@[expose] public section

set_option maxRecDepth 16384

noncomputable section

namespace Cert.Kernel5Ideal.FfnPoint

open Cert.Kernel5Ideal Cert.Kernel5Ideal.Gen Cert.Kernel5Ideal.FfnScratch Cert.Kernel5Ideal.FfnPiece
open Idealize.ShloMosaic Idealize.ShloMosaic.TcCoe Idealize.ShloMosaic.Tactic Idealize.SL.Sem

variable (m : (ℓ : Loc nD τ sig) → Buf (Elt Ideal) ℓ)

set_option maxHeartbeats 2000000 in
/-- The result block after the first row tile of a column block. -/
theorem outA (c : Dev nD) (t : Fin cfg0.N) (h0 : t.val % 2 = 0) (h1 : ¬t.val % 2 = 1) (h2 : t.val % 2 = 0) (h3 : ¬t.val % 2 = 1) (h4 : t.val % 4 = 0) (y : S2048x512.Idx) :
    (outsAt0 m c t.val t.isLt).1 y = act (conv (H (iblk m c 0 t) (k0_pay7 (iblk m c 1 t)) (k0_pay3 (F := Ideal))) (iblk m c 3 t) (iblk m c 5 t) (y 0) (y 1))
      (conv (H (iblk m c 0 t) (k0_pay8 (iblk m c 2 t)) (k0_pay5 (F := Ideal))) (iblk m c 4 t) (iblk m c 6 t) (y 0) (y 1)) := by
  rw [outsAt0_A m c t h0 h1 h2 h3 h4]
  dsimp only
  frame_out
  rw [readG0 (iblk m c 0 t) (k0_pay7 (iblk m c 1 t)) (k0_pay3 (F := Ideal)), readG1 (iblk m c 0 t) (k0_pay7 (iblk m c 1 t)) (k0_pay3 (F := Ideal)), readG2 (iblk m c 0 t) (k0_pay7 (iblk m c 1 t)) (k0_pay3 (F := Ideal)), readG3 (iblk m c 0 t) (k0_pay7 (iblk m c 1 t)) (k0_pay3 (F := Ideal)), readG4 (iblk m c 0 t) (k0_pay7 (iblk m c 1 t)) (k0_pay3 (F := Ideal)), readG5 (iblk m c 0 t) (k0_pay7 (iblk m c 1 t)) (k0_pay3 (F := Ideal)), readG6 (iblk m c 0 t) (k0_pay7 (iblk m c 1 t)) (k0_pay3 (F := Ideal)), readG7 (iblk m c 0 t) (k0_pay7 (iblk m c 1 t)) (k0_pay3 (F := Ideal)), readU0 (iblk m c 0 t) (k0_pay8 (iblk m c 2 t)) (k0_pay5 (F := Ideal)), readU1 (iblk m c 0 t) (k0_pay8 (iblk m c 2 t)) (k0_pay5 (F := Ideal)), readU2 (iblk m c 0 t) (k0_pay8 (iblk m c 2 t)) (k0_pay5 (F := Ideal)), readU3 (iblk m c 0 t) (k0_pay8 (iblk m c 2 t)) (k0_pay5 (F := Ideal)), readU4 (iblk m c 0 t) (k0_pay8 (iblk m c 2 t)) (k0_pay5 (F := Ideal)), readU5 (iblk m c 0 t) (k0_pay8 (iblk m c 2 t)) (k0_pay5 (F := Ideal)), readU6 (iblk m c 0 t) (k0_pay8 (iblk m c 2 t)) (k0_pay5 (F := Ideal)), readU7 (iblk m c 0 t) (k0_pay8 (iblk m c 2 t)) (k0_pay5 (F := Ideal))]
  exact pieces _ _ _ _ _ _ y

set_option maxHeartbeats 2000000 in
/-- The result block after an odd row tile of a column block. -/
theorem outB (c : Dev nD) (t : Fin cfg0.N) (h0 : ¬t.val % 2 = 0) (h1 : t.val % 2 = 1) (h2 : ¬t.val % 2 = 0) (h3 : t.val % 2 = 1) (h4 : ¬t.val % 4 = 0) (y : S2048x512.Idx) :
    (outsAt0 m c t.val t.isLt).1 y = act (conv (H (iblk m c 0 t) (outsAt0 m c (t.val - 1) (Nat.lt_of_le_of_lt (Nat.sub_le _ _) t.isLt)).2.2.2.2.1 (k0_pay4 (View.ld (outsAt0 m c (t.val - 1) (Nat.lt_of_le_of_lt (Nat.sub_le _ _) t.isLt)).2.2.1 (Rect.unit ![2048, 0] ![8, 512] inb_S2056x512_S8x512_2048_0)))) (iblk m c 3 t) (iblk m c 5 t) (y 0) (y 1))
      (conv (H (iblk m c 0 t) (outsAt0 m c (t.val - 1) (Nat.lt_of_le_of_lt (Nat.sub_le _ _) t.isLt)).2.2.2.2.2 (k0_pay6 (View.ld (outsAt0 m c (t.val - 1) (Nat.lt_of_le_of_lt (Nat.sub_le _ _) t.isLt)).2.2.2.1 (Rect.unit ![2048, 0] ![8, 512] inb_S2056x512_S8x512_2048_0)))) (iblk m c 4 t) (iblk m c 6 t) (y 0) (y 1)) := by
  rw [outsAt0_B m c t h0 h1 h2 h3 h4]
  dsimp only
  frame_out
  simp only [read_unread_whole]
  rw [readG0 (iblk m c 0 t) (outsAt0 m c (t.val - 1) (Nat.lt_of_le_of_lt (Nat.sub_le _ _) t.isLt)).2.2.2.2.1 (k0_pay4 (View.ld (outsAt0 m c (t.val - 1) (Nat.lt_of_le_of_lt (Nat.sub_le _ _) t.isLt)).2.2.1 (Rect.unit ![2048, 0] ![8, 512] inb_S2056x512_S8x512_2048_0))), readG1 (iblk m c 0 t) (outsAt0 m c (t.val - 1) (Nat.lt_of_le_of_lt (Nat.sub_le _ _) t.isLt)).2.2.2.2.1 (k0_pay4 (View.ld (outsAt0 m c (t.val - 1) (Nat.lt_of_le_of_lt (Nat.sub_le _ _) t.isLt)).2.2.1 (Rect.unit ![2048, 0] ![8, 512] inb_S2056x512_S8x512_2048_0))), readG2 (iblk m c 0 t) (outsAt0 m c (t.val - 1) (Nat.lt_of_le_of_lt (Nat.sub_le _ _) t.isLt)).2.2.2.2.1 (k0_pay4 (View.ld (outsAt0 m c (t.val - 1) (Nat.lt_of_le_of_lt (Nat.sub_le _ _) t.isLt)).2.2.1 (Rect.unit ![2048, 0] ![8, 512] inb_S2056x512_S8x512_2048_0))), readG3 (iblk m c 0 t) (outsAt0 m c (t.val - 1) (Nat.lt_of_le_of_lt (Nat.sub_le _ _) t.isLt)).2.2.2.2.1 (k0_pay4 (View.ld (outsAt0 m c (t.val - 1) (Nat.lt_of_le_of_lt (Nat.sub_le _ _) t.isLt)).2.2.1 (Rect.unit ![2048, 0] ![8, 512] inb_S2056x512_S8x512_2048_0))), readG4 (iblk m c 0 t) (outsAt0 m c (t.val - 1) (Nat.lt_of_le_of_lt (Nat.sub_le _ _) t.isLt)).2.2.2.2.1 (k0_pay4 (View.ld (outsAt0 m c (t.val - 1) (Nat.lt_of_le_of_lt (Nat.sub_le _ _) t.isLt)).2.2.1 (Rect.unit ![2048, 0] ![8, 512] inb_S2056x512_S8x512_2048_0))), readG5 (iblk m c 0 t) (outsAt0 m c (t.val - 1) (Nat.lt_of_le_of_lt (Nat.sub_le _ _) t.isLt)).2.2.2.2.1 (k0_pay4 (View.ld (outsAt0 m c (t.val - 1) (Nat.lt_of_le_of_lt (Nat.sub_le _ _) t.isLt)).2.2.1 (Rect.unit ![2048, 0] ![8, 512] inb_S2056x512_S8x512_2048_0))), readG6 (iblk m c 0 t) (outsAt0 m c (t.val - 1) (Nat.lt_of_le_of_lt (Nat.sub_le _ _) t.isLt)).2.2.2.2.1 (k0_pay4 (View.ld (outsAt0 m c (t.val - 1) (Nat.lt_of_le_of_lt (Nat.sub_le _ _) t.isLt)).2.2.1 (Rect.unit ![2048, 0] ![8, 512] inb_S2056x512_S8x512_2048_0))), readG7 (iblk m c 0 t) (outsAt0 m c (t.val - 1) (Nat.lt_of_le_of_lt (Nat.sub_le _ _) t.isLt)).2.2.2.2.1 (k0_pay4 (View.ld (outsAt0 m c (t.val - 1) (Nat.lt_of_le_of_lt (Nat.sub_le _ _) t.isLt)).2.2.1 (Rect.unit ![2048, 0] ![8, 512] inb_S2056x512_S8x512_2048_0))), readU0 (iblk m c 0 t) (outsAt0 m c (t.val - 1) (Nat.lt_of_le_of_lt (Nat.sub_le _ _) t.isLt)).2.2.2.2.2 (k0_pay6 (View.ld (outsAt0 m c (t.val - 1) (Nat.lt_of_le_of_lt (Nat.sub_le _ _) t.isLt)).2.2.2.1 (Rect.unit ![2048, 0] ![8, 512] inb_S2056x512_S8x512_2048_0))), readU1 (iblk m c 0 t) (outsAt0 m c (t.val - 1) (Nat.lt_of_le_of_lt (Nat.sub_le _ _) t.isLt)).2.2.2.2.2 (k0_pay6 (View.ld (outsAt0 m c (t.val - 1) (Nat.lt_of_le_of_lt (Nat.sub_le _ _) t.isLt)).2.2.2.1 (Rect.unit ![2048, 0] ![8, 512] inb_S2056x512_S8x512_2048_0))), readU2 (iblk m c 0 t) (outsAt0 m c (t.val - 1) (Nat.lt_of_le_of_lt (Nat.sub_le _ _) t.isLt)).2.2.2.2.2 (k0_pay6 (View.ld (outsAt0 m c (t.val - 1) (Nat.lt_of_le_of_lt (Nat.sub_le _ _) t.isLt)).2.2.2.1 (Rect.unit ![2048, 0] ![8, 512] inb_S2056x512_S8x512_2048_0))), readU3 (iblk m c 0 t) (outsAt0 m c (t.val - 1) (Nat.lt_of_le_of_lt (Nat.sub_le _ _) t.isLt)).2.2.2.2.2 (k0_pay6 (View.ld (outsAt0 m c (t.val - 1) (Nat.lt_of_le_of_lt (Nat.sub_le _ _) t.isLt)).2.2.2.1 (Rect.unit ![2048, 0] ![8, 512] inb_S2056x512_S8x512_2048_0))), readU4 (iblk m c 0 t) (outsAt0 m c (t.val - 1) (Nat.lt_of_le_of_lt (Nat.sub_le _ _) t.isLt)).2.2.2.2.2 (k0_pay6 (View.ld (outsAt0 m c (t.val - 1) (Nat.lt_of_le_of_lt (Nat.sub_le _ _) t.isLt)).2.2.2.1 (Rect.unit ![2048, 0] ![8, 512] inb_S2056x512_S8x512_2048_0))), readU5 (iblk m c 0 t) (outsAt0 m c (t.val - 1) (Nat.lt_of_le_of_lt (Nat.sub_le _ _) t.isLt)).2.2.2.2.2 (k0_pay6 (View.ld (outsAt0 m c (t.val - 1) (Nat.lt_of_le_of_lt (Nat.sub_le _ _) t.isLt)).2.2.2.1 (Rect.unit ![2048, 0] ![8, 512] inb_S2056x512_S8x512_2048_0))), readU6 (iblk m c 0 t) (outsAt0 m c (t.val - 1) (Nat.lt_of_le_of_lt (Nat.sub_le _ _) t.isLt)).2.2.2.2.2 (k0_pay6 (View.ld (outsAt0 m c (t.val - 1) (Nat.lt_of_le_of_lt (Nat.sub_le _ _) t.isLt)).2.2.2.1 (Rect.unit ![2048, 0] ![8, 512] inb_S2056x512_S8x512_2048_0))), readU7 (iblk m c 0 t) (outsAt0 m c (t.val - 1) (Nat.lt_of_le_of_lt (Nat.sub_le _ _) t.isLt)).2.2.2.2.2 (k0_pay6 (View.ld (outsAt0 m c (t.val - 1) (Nat.lt_of_le_of_lt (Nat.sub_le _ _) t.isLt)).2.2.2.1 (Rect.unit ![2048, 0] ![8, 512] inb_S2056x512_S8x512_2048_0)))]
  exact pieces _ _ _ _ _ _ y

set_option maxHeartbeats 2000000 in
/-- The result block after the third row tile of a column block. -/
theorem outC (c : Dev nD) (t : Fin cfg0.N) (h0 : t.val % 2 = 0) (h1 : ¬t.val % 2 = 1) (h2 : t.val % 2 = 0) (h3 : ¬t.val % 2 = 1) (h4 : ¬t.val % 4 = 0) (y : S2048x512.Idx) :
    (outsAt0 m c t.val t.isLt).1 y = act (conv (H (iblk m c 0 t) (outsAt0 m c (t.val - 1) (Nat.lt_of_le_of_lt (Nat.sub_le _ _) t.isLt)).2.2.2.2.1 (k0_pay3 (F := Ideal))) (iblk m c 3 t) (iblk m c 5 t) (y 0) (y 1))
      (conv (H (iblk m c 0 t) (outsAt0 m c (t.val - 1) (Nat.lt_of_le_of_lt (Nat.sub_le _ _) t.isLt)).2.2.2.2.2 (k0_pay5 (F := Ideal))) (iblk m c 4 t) (iblk m c 6 t) (y 0) (y 1)) := by
  rw [outsAt0_C m c t h0 h1 h2 h3 h4]
  dsimp only
  frame_out
  simp only [read_unread_whole]
  rw [readG0 (iblk m c 0 t) (outsAt0 m c (t.val - 1) (Nat.lt_of_le_of_lt (Nat.sub_le _ _) t.isLt)).2.2.2.2.1 (k0_pay3 (F := Ideal)), readG1 (iblk m c 0 t) (outsAt0 m c (t.val - 1) (Nat.lt_of_le_of_lt (Nat.sub_le _ _) t.isLt)).2.2.2.2.1 (k0_pay3 (F := Ideal)), readG2 (iblk m c 0 t) (outsAt0 m c (t.val - 1) (Nat.lt_of_le_of_lt (Nat.sub_le _ _) t.isLt)).2.2.2.2.1 (k0_pay3 (F := Ideal)), readG3 (iblk m c 0 t) (outsAt0 m c (t.val - 1) (Nat.lt_of_le_of_lt (Nat.sub_le _ _) t.isLt)).2.2.2.2.1 (k0_pay3 (F := Ideal)), readG4 (iblk m c 0 t) (outsAt0 m c (t.val - 1) (Nat.lt_of_le_of_lt (Nat.sub_le _ _) t.isLt)).2.2.2.2.1 (k0_pay3 (F := Ideal)), readG5 (iblk m c 0 t) (outsAt0 m c (t.val - 1) (Nat.lt_of_le_of_lt (Nat.sub_le _ _) t.isLt)).2.2.2.2.1 (k0_pay3 (F := Ideal)), readG6 (iblk m c 0 t) (outsAt0 m c (t.val - 1) (Nat.lt_of_le_of_lt (Nat.sub_le _ _) t.isLt)).2.2.2.2.1 (k0_pay3 (F := Ideal)), readG7 (iblk m c 0 t) (outsAt0 m c (t.val - 1) (Nat.lt_of_le_of_lt (Nat.sub_le _ _) t.isLt)).2.2.2.2.1 (k0_pay3 (F := Ideal)), readU0 (iblk m c 0 t) (outsAt0 m c (t.val - 1) (Nat.lt_of_le_of_lt (Nat.sub_le _ _) t.isLt)).2.2.2.2.2 (k0_pay5 (F := Ideal)), readU1 (iblk m c 0 t) (outsAt0 m c (t.val - 1) (Nat.lt_of_le_of_lt (Nat.sub_le _ _) t.isLt)).2.2.2.2.2 (k0_pay5 (F := Ideal)), readU2 (iblk m c 0 t) (outsAt0 m c (t.val - 1) (Nat.lt_of_le_of_lt (Nat.sub_le _ _) t.isLt)).2.2.2.2.2 (k0_pay5 (F := Ideal)), readU3 (iblk m c 0 t) (outsAt0 m c (t.val - 1) (Nat.lt_of_le_of_lt (Nat.sub_le _ _) t.isLt)).2.2.2.2.2 (k0_pay5 (F := Ideal)), readU4 (iblk m c 0 t) (outsAt0 m c (t.val - 1) (Nat.lt_of_le_of_lt (Nat.sub_le _ _) t.isLt)).2.2.2.2.2 (k0_pay5 (F := Ideal)), readU5 (iblk m c 0 t) (outsAt0 m c (t.val - 1) (Nat.lt_of_le_of_lt (Nat.sub_le _ _) t.isLt)).2.2.2.2.2 (k0_pay5 (F := Ideal)), readU6 (iblk m c 0 t) (outsAt0 m c (t.val - 1) (Nat.lt_of_le_of_lt (Nat.sub_le _ _) t.isLt)).2.2.2.2.2 (k0_pay5 (F := Ideal)), readU7 (iblk m c 0 t) (outsAt0 m c (t.val - 1) (Nat.lt_of_le_of_lt (Nat.sub_le _ _) t.isLt)).2.2.2.2.2 (k0_pay5 (F := Ideal))]
  exact pieces _ _ _ _ _ _ y

set_option maxHeartbeats 2000000 in
/-- The gate scratch after such a tile. -/
theorem scGA (c : Dev nD) (t : Fin cfg0.N) (h0 : t.val % 2 = 0) (h1 : ¬t.val % 2 = 1) (h2 : t.val % 2 = 0) (h3 : ¬t.val % 2 = 1) (h4 : t.val % 4 = 0) :
    (outsAt0 m c t.val t.isLt).2.2.1 = (H (iblk m c 0 t) (k0_pay7 (iblk m c 1 t)) (k0_pay3 (F := Ideal))) := by
  rw [outsAt0_A m c t h0 h1 h2 h3 h4]
  dsimp only
  frame_out
  exact wholeG _ _ _

/-- Its weights. -/
theorem wtGA (c : Dev nD) (t : Fin cfg0.N) (h0 : t.val % 2 = 0) (h1 : ¬t.val % 2 = 1) (h2 : t.val % 2 = 0) (h3 : ¬t.val % 2 = 1) (h4 : t.val % 4 = 0) :
    (outsAt0 m c t.val t.isLt).2.2.2.2.1 = k0_pay7 (iblk m c 1 t) := by
  rw [outsAt0_A m c t h0 h1 h2 h3 h4]
  dsimp only
  frame_out

set_option maxHeartbeats 2000000 in
/-- The up scratch after such a tile. -/
theorem scUA (c : Dev nD) (t : Fin cfg0.N) (h0 : t.val % 2 = 0) (h1 : ¬t.val % 2 = 1) (h2 : t.val % 2 = 0) (h3 : ¬t.val % 2 = 1) (h4 : t.val % 4 = 0) :
    (outsAt0 m c t.val t.isLt).2.2.2.1 = (H (iblk m c 0 t) (k0_pay8 (iblk m c 2 t)) (k0_pay5 (F := Ideal))) := by
  rw [outsAt0_A m c t h0 h1 h2 h3 h4]
  dsimp only
  frame_out
  exact wholeU _ _ _

/-- Its weights. -/
theorem wtUA (c : Dev nD) (t : Fin cfg0.N) (h0 : t.val % 2 = 0) (h1 : ¬t.val % 2 = 1) (h2 : t.val % 2 = 0) (h3 : ¬t.val % 2 = 1) (h4 : t.val % 4 = 0) :
    (outsAt0 m c t.val t.isLt).2.2.2.2.2 = k0_pay8 (iblk m c 2 t) := by
  rw [outsAt0_A m c t h0 h1 h2 h3 h4]
  dsimp only
  frame_out

set_option maxHeartbeats 2000000 in
/-- The gate scratch after such a tile. -/
theorem scGB (c : Dev nD) (t : Fin cfg0.N) (h0 : ¬t.val % 2 = 0) (h1 : t.val % 2 = 1) (h2 : ¬t.val % 2 = 0) (h3 : t.val % 2 = 1) (h4 : ¬t.val % 4 = 0) :
    (outsAt0 m c t.val t.isLt).2.2.1 = (H (iblk m c 0 t) (outsAt0 m c (t.val - 1) (Nat.lt_of_le_of_lt (Nat.sub_le _ _) t.isLt)).2.2.2.2.1 (k0_pay4 (View.ld (outsAt0 m c (t.val - 1) (Nat.lt_of_le_of_lt (Nat.sub_le _ _) t.isLt)).2.2.1 (Rect.unit ![2048, 0] ![8, 512] inb_S2056x512_S8x512_2048_0)))) := by
  rw [outsAt0_B m c t h0 h1 h2 h3 h4]
  dsimp only
  frame_out
  simp only [read_unread_whole]
  exact wholeG _ _ _

/-- Its weights. -/
theorem wtGB (c : Dev nD) (t : Fin cfg0.N) (h0 : ¬t.val % 2 = 0) (h1 : t.val % 2 = 1) (h2 : ¬t.val % 2 = 0) (h3 : t.val % 2 = 1) (h4 : ¬t.val % 4 = 0) :
    (outsAt0 m c t.val t.isLt).2.2.2.2.1 = (outsAt0 m c (t.val - 1) (Nat.lt_of_le_of_lt (Nat.sub_le _ _) t.isLt)).2.2.2.2.1 := by
  rw [outsAt0_B m c t h0 h1 h2 h3 h4]
  rfl

set_option maxHeartbeats 2000000 in
/-- The up scratch after such a tile. -/
theorem scUB (c : Dev nD) (t : Fin cfg0.N) (h0 : ¬t.val % 2 = 0) (h1 : t.val % 2 = 1) (h2 : ¬t.val % 2 = 0) (h3 : t.val % 2 = 1) (h4 : ¬t.val % 4 = 0) :
    (outsAt0 m c t.val t.isLt).2.2.2.1 = (H (iblk m c 0 t) (outsAt0 m c (t.val - 1) (Nat.lt_of_le_of_lt (Nat.sub_le _ _) t.isLt)).2.2.2.2.2 (k0_pay6 (View.ld (outsAt0 m c (t.val - 1) (Nat.lt_of_le_of_lt (Nat.sub_le _ _) t.isLt)).2.2.2.1 (Rect.unit ![2048, 0] ![8, 512] inb_S2056x512_S8x512_2048_0)))) := by
  rw [outsAt0_B m c t h0 h1 h2 h3 h4]
  dsimp only
  frame_out
  simp only [read_unread_whole]
  exact wholeU _ _ _

/-- Its weights. -/
theorem wtUB (c : Dev nD) (t : Fin cfg0.N) (h0 : ¬t.val % 2 = 0) (h1 : t.val % 2 = 1) (h2 : ¬t.val % 2 = 0) (h3 : t.val % 2 = 1) (h4 : ¬t.val % 4 = 0) :
    (outsAt0 m c t.val t.isLt).2.2.2.2.2 = (outsAt0 m c (t.val - 1) (Nat.lt_of_le_of_lt (Nat.sub_le _ _) t.isLt)).2.2.2.2.2 := by
  rw [outsAt0_B m c t h0 h1 h2 h3 h4]
  rfl

set_option maxHeartbeats 2000000 in
/-- The gate scratch after such a tile. -/
theorem scGC (c : Dev nD) (t : Fin cfg0.N) (h0 : t.val % 2 = 0) (h1 : ¬t.val % 2 = 1) (h2 : t.val % 2 = 0) (h3 : ¬t.val % 2 = 1) (h4 : ¬t.val % 4 = 0) :
    (outsAt0 m c t.val t.isLt).2.2.1 = (H (iblk m c 0 t) (outsAt0 m c (t.val - 1) (Nat.lt_of_le_of_lt (Nat.sub_le _ _) t.isLt)).2.2.2.2.1 (k0_pay3 (F := Ideal))) := by
  rw [outsAt0_C m c t h0 h1 h2 h3 h4]
  dsimp only
  frame_out
  simp only [read_unread_whole]
  exact wholeG _ _ _

/-- Its weights. -/
theorem wtGC (c : Dev nD) (t : Fin cfg0.N) (h0 : t.val % 2 = 0) (h1 : ¬t.val % 2 = 1) (h2 : t.val % 2 = 0) (h3 : ¬t.val % 2 = 1) (h4 : ¬t.val % 4 = 0) :
    (outsAt0 m c t.val t.isLt).2.2.2.2.1 = (outsAt0 m c (t.val - 1) (Nat.lt_of_le_of_lt (Nat.sub_le _ _) t.isLt)).2.2.2.2.1 := by
  rw [outsAt0_C m c t h0 h1 h2 h3 h4]
  rfl

set_option maxHeartbeats 2000000 in
/-- The up scratch after such a tile. -/
theorem scUC (c : Dev nD) (t : Fin cfg0.N) (h0 : t.val % 2 = 0) (h1 : ¬t.val % 2 = 1) (h2 : t.val % 2 = 0) (h3 : ¬t.val % 2 = 1) (h4 : ¬t.val % 4 = 0) :
    (outsAt0 m c t.val t.isLt).2.2.2.1 = (H (iblk m c 0 t) (outsAt0 m c (t.val - 1) (Nat.lt_of_le_of_lt (Nat.sub_le _ _) t.isLt)).2.2.2.2.2 (k0_pay5 (F := Ideal))) := by
  rw [outsAt0_C m c t h0 h1 h2 h3 h4]
  dsimp only
  frame_out
  simp only [read_unread_whole]
  exact wholeU _ _ _

/-- Its weights. -/
theorem wtUC (c : Dev nD) (t : Fin cfg0.N) (h0 : t.val % 2 = 0) (h1 : ¬t.val % 2 = 1) (h2 : t.val % 2 = 0) (h3 : ¬t.val % 2 = 1) (h4 : ¬t.val % 4 = 0) :
    (outsAt0 m c t.val t.isLt).2.2.2.2.2 = (outsAt0 m c (t.val - 1) (Nat.lt_of_le_of_lt (Nat.sub_le _ _) t.isLt)).2.2.2.2.2 := by
  rw [outsAt0_C m c t h0 h1 h2 h3 h4]
  rfl

end Cert.Kernel5Ideal.FfnPoint
end
-- ==== Proof.FfnUpRef.lean ====
/-
  The reference's results as functions of its arguments, and the first of them at a point.
-/
module

public import proofs.«01_k».proof.Proof.Gen.Reference5Ideal.Run
public import Idealize.ShloMosaic.Lib.Pipeline.ValueKit

@[expose] public section

set_option maxRecDepth 16384

noncomputable section

namespace Cert.Reference5Ideal.FfnUp

open Cert.Reference5Ideal Cert.Reference5Ideal.Gen
open Idealize.ShloMosaic Idealize.ShloMosaic.TcCoe Idealize.ShloMosaic.Tactic Idealize.SL.Sem

/-- The projection, its rows split by sequence. -/
def proj (x : FVec Ideal S8192x2048 .f32) (w : FVec Ideal S1x2048x11264 .f32) : FVec Ideal S2x4096x11264 .f32 :=
  (shapeCast _ (Host.dotGeneral dot_S8192x2048_S2048x11264_S8192x11264_1_0_0_1_n_n none x (shapeCast _ w shapeCasts_S1x2048x11264_S2048x11264)) shapeCasts_S8192x11264_S2x4096x11264)

/-- It, with two zero rows put before each sequence. -/
def padded (x : FVec Ideal S8192x2048 .f32) (w : FVec Ideal S1x2048x11264 .f32) : FVec Ideal S2x4098x11264 .f32 :=
  (pad S2x4098x11264 ![0, 2, 0] ![0, 0, 0] ![0, 0, 0] (proj x w) (sitofp .f32 (constantI S_ 32 0#32)) pads_S2x4096x11264_S2x4098x11264_000_200_000 h_S_)

/-- The causal convolution of width three along each sequence. -/
def convolved (x : FVec Ideal S8192x2048 .f32) (w : FVec Ideal S1x2048x11264 .f32) (cw : FVec Ideal S1x3x11264 .f32) (cb : FVec Ideal S1x11264 .f32) : FVec Ideal S2x4096x11264 .f32 :=
  (addf (broadcastInDim S2x4096x11264 ![0, 1, 2] bcast_S1x1x11264_S2x4096x11264_0_1_2 (broadcastInDim S1x1x11264 ![2] bcast_S11264_S1x1x11264_2 (shapeCast _ cb shapeCasts_S1x11264_S11264))) (addf (addf (addf (broadcastInDim S2x4096x11264 ![] bcast_S_S2x4096x11264 (constant S_ .f32 0x00000000#32)) (mulf (broadcastInDim S2x4096x11264 ![0, 1, 2] bcast_S1x1x11264_S2x4096x11264_0_1_2 (broadcastInDim S1x1x11264 ![2] bcast_S11264_S1x1x11264_2 (shapeCast _ (extractStridedSlice S1x11264 ![0, 0] (shapeCast _ cw shapeCasts_S1x3x11264_S3x11264) slices_S3x11264_S1x11264_0_0) shapeCasts_S1x11264_S11264))) (extractStridedSlice S2x4096x11264 ![0, 0, 0] (padded x w) slices_S2x4098x11264_S2x4096x11264_0_0_0))) (mulf (broadcastInDim S2x4096x11264 ![0, 1, 2] bcast_S1x1x11264_S2x4096x11264_0_1_2 (broadcastInDim S1x1x11264 ![2] bcast_S11264_S1x1x11264_2 (shapeCast _ (extractStridedSlice S1x11264 ![1, 0] (shapeCast _ cw shapeCasts_S1x3x11264_S3x11264) slices_S3x11264_S1x11264_1_0) shapeCasts_S1x11264_S11264))) (extractStridedSlice S2x4096x11264 ![0, 1, 0] (padded x w) slices_S2x4098x11264_S2x4096x11264_0_1_0))) (mulf (broadcastInDim S2x4096x11264 ![0, 1, 2] bcast_S1x1x11264_S2x4096x11264_0_1_2 (broadcastInDim S1x1x11264 ![2] bcast_S11264_S1x1x11264_2 (shapeCast _ (extractStridedSlice S1x11264 ![2, 0] (shapeCast _ cw shapeCasts_S1x3x11264_S3x11264) slices_S3x11264_S1x11264_2_0) shapeCasts_S1x11264_S11264))) (extractStridedSlice S2x4096x11264 ![0, 2, 0] (padded x w) slices_S2x4098x11264_S2x4096x11264_0_2_0))))

/-- The gated activation, the first result. -/
def main_v44_of (x : FVec Ideal S8192x2048 .f32) (w : FVec Ideal S1x2048x11264 .f32) (cw : FVec Ideal S1x3x11264 .f32) (cb : FVec Ideal S1x11264 .f32) : FVec Ideal S8192x5632 .bf16 :=
  truncf .bf16 (shapeCast _ (mulf (mulf (extractStridedSlice S2x4096x5632 ![0, 0, 0] (convolved x w cw cb) slices_S2x4096x11264_S2x4096x5632_0_0_0) (Host.divf (broadcastInDim S2x4096x5632 ![] bcast_S_S2x4096x5632 (constant S_ .f32 0x3F800000#32)) (addf (broadcastInDim S2x4096x5632 ![] bcast_S_S2x4096x5632 (constant S_ .f32 0x3F800000#32)) (Host.exp (Host.negf (extractStridedSlice S2x4096x5632 ![0, 0, 0] (convolved x w cw cb) slices_S2x4096x11264_S2x4096x5632_0_0_0)))))) (extractStridedSlice S2x4096x5632 ![0, 0, 5632] (convolved x w cw cb) slices_S2x4096x11264_S2x4096x5632_0_0_5632)) shapeCasts_S2x4096x5632_S8192x5632) bitsLt_bf16_f32

/-- The last weights rounded, the second result. -/
def main_v46_of (wd : FVec Ideal S1x5632x2048 .f32) : FVec Ideal S5632x2048 .bf16 :=
  truncf .bf16 (shapeCast _ wd shapeCasts_S1x5632x2048_S5632x2048) bitsLt_bf16_f32

/-- The first result is that function of the arguments. -/
theorem res_eq (m : (ℓ : Loc nD τ sig) → Buf (Elt Ideal) ℓ) (c : Dev nD) : Value.res_main_v44 m c
    = main_v44_of (m ((c.tc : Thread nD τ).loc main_arg0)) (m ((c.tc : Thread nD τ).loc main_arg1)) (m ((c.tc : Thread nD τ).loc main_arg2)) (m ((c.tc : Thread nD τ).loc main_arg3)) := rfl

/-- The reference's run ends with those functions of its arguments. -/
theorem run_of (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = main_v44_of (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v46) = main_v46_of (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run (F := Ideal) m ρ

/-- One entry of the projection. -/
def hrow (x : FVec Ideal S8192x2048 .f32) (w : FVec Ideal S1x2048x11264 .f32) (r : Fin 8192) (q : Fin 11264) : EReal := ∑ k : Fin 2048, x (ix2 r k) * w (ix3 0 k q)

/-- The entry `back` rows before, zero before the start of the sequence. -/
def hist (x : FVec Ideal S8192x2048 .f32) (w : FVec Ideal S1x2048x11264 .f32) (back : ℕ) (r : Fin 8192) (q : Fin 11264) : EReal :=
  if back ≤ r.val % 4096 then hrow x w ⟨r.val - back, by omega⟩ q else 0

/-- The convolution at a row and a column. -/
def convAt (x : FVec Ideal S8192x2048 .f32) (w : FVec Ideal S1x2048x11264 .f32) (cw : FVec Ideal S1x3x11264 .f32) (cb : FVec Ideal S1x11264 .f32) (r : Fin 8192) (q : Fin 11264) : EReal :=
  cb (ix2 0 q) + (cw (ix3 0 0 q) * hist x w 2 r q + cw (ix3 0 1 q) * hist x w 1 r q + cw (ix3 0 2 q) * hist x w 0 r q)

/-- An entry of the projection is the sum of products. -/
theorem proj_at (x : FVec Ideal S8192x2048 .f32) (w : FVec Ideal S1x2048x11264 .f32) (y : S2x4096x11264.Idx) (r : Fin 8192) (hr : r.val = (y 0).val * 4096 + (y 1).val) :
    proj x w y = hrow x w r (y 2) := by
  unfold proj hrow
  pointwise []
  refine Finset.sum_congr rfl fun k _ => ?_
  refine congrArg₂ (· * ·) (congrArg x (congrArg₂ ix2 (Fin.ext hr.symm) rfl)) rfl

/-- An entry of the padded projection is an earlier entry or zero. -/
theorem padded_at (x : FVec Ideal S8192x2048 .f32) (w : FVec Ideal S1x2048x11264 .f32) (a : Fin 2) (s : Fin 4098) (q : Fin 11264) (back : ℕ) (hb : back ≤ 2) (r : Fin 8192) (hr : r.val / 4096 = a.val)
    (hs : s.val + back = r.val % 4096 + 2) : padded x w (ix3 a s q) = hist x w back r q := by
  unfold padded hist
  pointwise []
  by_cases h : back ≤ r.val % 4096
  · rw [if_pos h, dif_pos (by omega)]
    exact proj_at x w _ _ (by show r.val - back = a.val * 4096 + (s.val - 2); omega)
  · rw [if_neg h, dif_neg (by omega)]
    simp [FloatOps.sitofp]

/-- An entry of the convolution. -/
theorem convolved_at (x : FVec Ideal S8192x2048 .f32) (w : FVec Ideal S1x2048x11264 .f32) (cw : FVec Ideal S1x3x11264 .f32) (cb : FVec Ideal S1x11264 .f32) (a : Fin 2) (s : Fin 4096) (q : Fin 11264) (r : Fin 8192) (hr : r.val / 4096 = a.val) (hs : r.val % 4096 = s.val) :
    convolved x w cw cb (ix3 a s q) = convAt x w cw cb r q := by
  unfold convolved convAt
  pointwise []
  rw [padded_at x w a _ q 2 (by omega) r hr (by show s.val + 2 = _; omega), padded_at x w a _ q 1 (by omega) r hr (by show 1 + s.val + 1 = _; omega),
    padded_at x w a _ q 0 (by omega) r hr (by show 2 + s.val + 0 = _; omega)]

/-- An entry of the first result: one half of the convolution gated by the other. -/
theorem out_at (x : FVec Ideal S8192x2048 .f32) (w : FVec Ideal S1x2048x11264 .f32) (cw : FVec Ideal S1x3x11264 .f32) (cb : FVec Ideal S1x11264 .f32) (y : S8192x5632.Idx) (g u : Fin 11264) (hg : g.val = (y 1).val) (hu : u.val = 5632 + (y 1).val) :
    main_v44_of x w cw cb y
      = convAt x w cw cb (y 0) g * Ideal.logistic (convAt x w cw cb (y 0) g) * convAt x w cw cb (y 0) u := by
  have y0 : (y 0).val < 8192 := (y 0).isLt
  have e1 := convolved_at x w cw cb ⟨(y 0).val / 4096, by omega⟩ ⟨(y 0).val % 4096, by omega⟩ g (y 0) rfl rfl
  have e2 := convolved_at x w cw cb ⟨(y 0).val / 4096, by omega⟩ ⟨(y 0).val % 4096, by omega⟩ u (y 0) rfl rfl
  unfold main_v44_of
  rw [← e1, ← e2]
  clear e1 e2
  generalize convolved x w cw cb = C
  unfold Ideal.logistic
  pointwise []
  have hg' : (⟨(y 1).val, by have := (y 1).isLt; have h5 : (y 1).val < 5632 := this; omega⟩ : Fin 11264) = g := Fin.ext hg.symm
  have hu' : (⟨5632 + (y 1).val, by have := (y 1).isLt; have h5 : (y 1).val < 5632 := this; omega⟩ : Fin 11264) = u := Fin.ext hu.symm
  rw [hg', hu']

end Cert.Reference5Ideal.FfnUp
end
-- ==== Proof.FfnUp.lean ====
/-
  The convolved up projection: the results over the reals.
-/
module

public import proofs.«01_k».proof.Defs
public import proofs.«01_k».proof.Proof.FfnPoint
public import proofs.«01_k».proof.Proof.FfnUpRef
public import proofs.«01_k».proof.Proof.Gen.Kernel5Ideal.Value
public import Idealize.ShloMosaic.Lib.Pipeline.ValueKit
public import Idealize.ShloMosaic.Lib.Claim

@[expose] public section

set_option maxRecDepth 16384

noncomputable section

namespace Cert.Kernel5Ideal.FfnUp

open Cert.Kernel5Ideal Cert.Kernel5Ideal.Gen Cert.Kernel5Ideal.FfnScratch Cert.Kernel5Ideal.FfnPiece Cert.Kernel5Ideal.FfnPoint
open Cert.Reference5Ideal.FfnUp (hrow hist convAt main_v44_of main_v46_of)
open Idealize.ShloMosaic Idealize.ShloMosaic.TcCoe Idealize.ShloMosaic.Tactic Idealize.SL.Sem
open Idealize.ShloMosaic.Pipeline (Dat)

/-- The rows a tile's scratch holds past the halo are rows of the projection. -/
theorem row_hist (x : FVec Ideal S8192x2048 .f32) (w : FVec Ideal S1x2048x11264 .f32)
    (X : Vec Ideal S2048x2048 .bf16) (W : Vec Ideal S2048x512 .bf16) (Z : Vec Ideal S8x512 .f32) (mt off : ℕ)
    (hX : ∀ (r k : Fin 2048) (R : Fin 8192), R.val = mt * 2048 + r.val → X (ix2 r k) = x (ix2 R k))
    (hW : ∀ (k : Fin 2048) (q : Fin 512) (Q : Fin 11264), Q.val = off + q.val → W (ix2 k q) = w (ix3 0 k Q))
    (i : S2056x512.Idx) (r : Fin 2048) (q : Fin 512) (hr : (i 0).val = r.val + 8) (hq : (i 1).val = q.val)
    (R : Fin 8192) (Q : Fin 11264) (hR : R.val = mt * 2048 + r.val) (hQ : Q.val = off + q.val) :
    H X W Z i = hrow x w R Q := by
  rw [H_row X W Z i r q hr hq]
  unfold hrow
  exact Finset.sum_congr rfl fun k _ => congrArg₂ (· * ·) (hX r k R hR) (hW k q Q hQ)

/-- A row of a tile's scratch, a few rows back, is the projection's row that many rows before, or zero before the
    start of the sequence. -/
theorem back_hist (x : FVec Ideal S8192x2048 .f32) (w : FVec Ideal S1x2048x11264 .f32)
    (X : Vec Ideal S2048x2048 .bf16) (W : Vec Ideal S2048x512 .bf16) (Z : Vec Ideal S8x512 .f32) (mt off : ℕ)
    (hX : ∀ (r k : Fin 2048) (R : Fin 8192), R.val = mt * 2048 + r.val → X (ix2 r k) = x (ix2 R k))
    (hW : ∀ (k : Fin 2048) (q : Fin 512) (Q : Fin 11264), Q.val = off + q.val → W (ix2 k q) = w (ix3 0 k Q))
    (hZ0 : mt % 2 = 0 → ∀ (r : Fin 8) (q : Fin 512), Z (ix2 r q) = 0)
    (hZ1 : mt % 2 = 1 → ∀ (r : Fin 8) (q : Fin 512) (R : Fin 8192) (Q : Fin 11264), R.val + 8 = mt * 2048 + r.val → Q.val = off + q.val → Z (ix2 r q) = hrow x w R Q)
    (back : ℕ) (hb : back ≤ 2) (r : Fin 2048) (q : Fin 512) (s : Fin 2056) (hs : s.val + back = r.val + 8)
    (R : Fin 8192) (Q : Fin 11264) (hR : R.val = mt * 2048 + r.val) (hQ : Q.val = off + q.val) :
    H X W Z (ix2 s q) = hist x w back R Q := by
  have hr := r.isLt
  have hR8 := R.isLt
  unfold hist
  by_cases h : back ≤ r.val
  · rw [if_pos (by omega)]
    exact row_hist x w X W Z mt off hX hW _ ⟨r.val - back, by omega⟩ q (by show s.val = r.val - back + 8; omega) rfl _ Q (by show R.val - back = mt * 2048 + (r.val - back); omega) hQ
  · rw [H_halo X W Z _ ⟨s.val, by omega⟩ q rfl rfl]
    rcases Nat.mod_two_eq_zero_or_one mt with e | e
    · rw [if_neg (by omega)]
      exact hZ0 e _ q
    · rw [if_pos (by omega)]
      exact hZ1 e _ q _ Q (by show R.val - back + 8 = mt * 2048 + s.val; omega) hQ

/-- So a tile's convolution is the reference's. -/
theorem conv_hist (x : FVec Ideal S8192x2048 .f32) (w : FVec Ideal S1x2048x11264 .f32) (cw : FVec Ideal S1x3x11264 .f32) (cb : FVec Ideal S1x11264 .f32)
    (X : Vec Ideal S2048x2048 .bf16) (W : Vec Ideal S2048x512 .bf16) (Z : Vec Ideal S8x512 .f32) (C : Vec Ideal S3x512 .f32) (B : Vec Ideal S1x512 .f32) (mt off : ℕ)
    (hX : ∀ (r k : Fin 2048) (R : Fin 8192), R.val = mt * 2048 + r.val → X (ix2 r k) = x (ix2 R k))
    (hW : ∀ (k : Fin 2048) (q : Fin 512) (Q : Fin 11264), Q.val = off + q.val → W (ix2 k q) = w (ix3 0 k Q))
    (hZ0 : mt % 2 = 0 → ∀ (r : Fin 8) (q : Fin 512), Z (ix2 r q) = 0)
    (hZ1 : mt % 2 = 1 → ∀ (r : Fin 8) (q : Fin 512) (R : Fin 8192) (Q : Fin 11264), R.val + 8 = mt * 2048 + r.val → Q.val = off + q.val → Z (ix2 r q) = hrow x w R Q)
    (hC : ∀ (s : Fin 3) (q : Fin 512) (Q : Fin 11264), Q.val = off + q.val → C (ix2 s q) = cw (ix3 0 s Q))
    (hB : ∀ (q : Fin 512) (Q : Fin 11264), Q.val = off + q.val → B (ix2 0 q) = cb (ix2 0 Q))
    (r : Fin 2048) (q : Fin 512) (R : Fin 8192) (Q : Fin 11264) (hR : R.val = mt * 2048 + r.val) (hQ : Q.val = off + q.val) :
    conv (H X W Z) C B r q = convAt x w cw cb R Q := by
  have key : ∀ (back : ℕ) (hb : back ≤ 2) (s : Fin 2056) (hs : s.val + back = r.val + 8), H X W Z (ix2 s q) = hist x w back R Q :=
    fun back hb s hs => back_hist x w X W Z mt off hX hW hZ0 hZ1 back hb r q s hs R Q hR hQ
  unfold conv convAt
  rw [key 0 (by omega) _ (by show r.val + 8 + 0 = _; omega), key 1 (by omega) _ (by show r.val + 7 + 1 = _; omega), key 2 (by omega) _ (by show r.val + 6 + 2 = _; omega),
    hC 0 q Q hQ, hC 1 q Q hQ, hC 2 q Q hQ, hB q Q hQ]
  rw [add_assoc, add_assoc]
  refine congrArg (fun z : EReal => cb (ix2 0 Q) + z) ?_
  rw [add_comm, add_comm (cw (ix3 0 1 Q) * _)]

variable (m : (ℓ : Loc nD τ sig) → Buf (Elt Ideal) ℓ)

/-- Which block each window takes at a grid point. -/
theorem idx : ∀ t : Fin cfg0.N, win0_0.index t = ![t.val % 4, 0] ∧ win0_1.index t = ![0, t.val / 4] ∧ win0_2.index t = ![0, 11 + t.val / 4] ∧ win0_3.index t = ![0, t.val / 4]
    ∧ win0_4.index t = ![0, 11 + t.val / 4] ∧ win0_5.index t = ![0, t.val / 4] ∧ win0_6.index t = ![0, 11 + t.val / 4] ∧ win0_7.index t = ![t.val, 0]
    ∧ win0_8.index t = ![t.val % 4, t.val / 4] ∧ win0_9.index t = ![t.val, 0] ∧ t.val < 44 :=
  (by decide +kernel : ∀ t : Fin grid0.N, _)

/-- The rows of the input block. -/
theorem x_at (c : Dev nD) (t : Fin cfg0.N) (r k : Fin 2048) (R : Fin 8192) (hR : R.val = t.val % 4 * 2048 + r.val) :
    iblk m c 0 t (ix2 r k) = m ((c : Thread nD τ).loc main_arg0) (ix2 R k) := by
  blk_ext [iblk, V, idx t]

/-- The columns of the gate's weights. -/
theorem wg_at (c : Dev nD) (t : Fin cfg0.N) (k : Fin 2048) (q : Fin 512) (Q : Fin 11264) (hQ : Q.val = t.val / 4 * 512 + q.val) :
    k0_pay7 (iblk m c 1 t) (ix2 k q) = m ((c : Thread nD τ).loc main_arg1) (ix3 0 k Q) := by
  pointwise [k0_pay7]
  blk_point [iblk, V, idx t]

/-- The columns of the other half's weights. -/
theorem wu_at (c : Dev nD) (t : Fin cfg0.N) (k : Fin 2048) (q : Fin 512) (Q : Fin 11264) (hQ : Q.val = 5632 + t.val / 4 * 512 + q.val) :
    k0_pay8 (iblk m c 2 t) (ix2 k q) = m ((c : Thread nD τ).loc main_arg1) (ix3 0 k Q) := by
  pointwise [k0_pay8]
  blk_point [iblk, V, idx t]

/-- The gate's convolution weights. -/
theorem cg_at (c : Dev nD) (t : Fin cfg0.N) (s : Fin 3) (q : Fin 512) (Q : Fin 11264) (hQ : Q.val = t.val / 4 * 512 + q.val) :
    iblk m c 3 t (ix2 s q) = m ((c : Thread nD τ).loc main_arg2) (ix3 0 s Q) := by
  blk_point [iblk, V, idx t]

/-- The other half's. -/
theorem cu_at (c : Dev nD) (t : Fin cfg0.N) (s : Fin 3) (q : Fin 512) (Q : Fin 11264) (hQ : Q.val = 5632 + t.val / 4 * 512 + q.val) :
    iblk m c 4 t (ix2 s q) = m ((c : Thread nD τ).loc main_arg2) (ix3 0 s Q) := by
  blk_point [iblk, V, idx t]

/-- The gate's bias. -/
theorem bg_at (c : Dev nD) (t : Fin cfg0.N) (q : Fin 512) (Q : Fin 11264) (hQ : Q.val = t.val / 4 * 512 + q.val) :
    iblk m c 5 t (ix2 0 q) = m ((c : Thread nD τ).loc main_arg3) (ix2 0 Q) := by
  blk_point [iblk, V, idx t]

/-- The other half's. -/
theorem bu_at (c : Dev nD) (t : Fin cfg0.N) (q : Fin 512) (Q : Fin 11264) (hQ : Q.val = 5632 + t.val / 4 * 512 + q.val) :
    iblk m c 6 t (ix2 0 q) = m ((c : Thread nD τ).loc main_arg3) (ix2 0 Q) := by
  blk_point [iblk, V, idx t]

/-- The zero halo. -/
theorem zg_at (i : S8x512.Idx) : k0_pay3 (F := Ideal) i = 0 := by
  unfold k0_pay3
  pointwise []

/-- The zero halo of the other half. -/
theorem zu_at (i : S8x512.Idx) : k0_pay5 (F := Ideal) i = 0 := by
  unfold k0_pay5
  pointwise []

/-- The carried halo: the last eight rows of the scratch. -/
theorem hg_at (S : Vec Ideal S2056x512 .f32) (r : Fin 8) (q : Fin 512) (s : Fin 2056) (hs : s.val = 2048 + r.val) :
    k0_pay4 (View.ld S (Rect.unit ![2048, 0] ![8, 512] inb_S2056x512_S8x512_2048_0)) (ix2 r q) = S (ix2 s q) := by
  pointwise [k0_pay4, View.ld]
  blk_ext

/-- The carried halo of the other half. -/
theorem hu_at (S : Vec Ideal S2056x512 .f32) (r : Fin 8) (q : Fin 512) (s : Fin 2056) (hs : s.val = 2048 + r.val) :
    k0_pay6 (View.ld S (Rect.unit ![2048, 0] ![8, 512] inb_S2056x512_S8x512_2048_0)) (ix2 r q) = S (ix2 s q) := by
  pointwise [k0_pay6, View.ld]
  blk_ext

/-- The rounded weights a grid point holds are its column block's, as read on the block's first row tile. -/
theorem wts (c : Dev nD) (n : ℕ) : ∀ hn : n < cfg0.N,
    (∀ (k : Fin 2048) (q : Fin 512) (Q : Fin 11264), Q.val = n / 4 * 512 + q.val → (outsAt0 m c n hn).2.2.2.2.1 (ix2 k q) = m ((c : Thread nD τ).loc main_arg1) (ix3 0 k Q))
    ∧ ∀ (k : Fin 2048) (q : Fin 512) (Q : Fin 11264), Q.val = 5632 + n / 4 * 512 + q.val → (outsAt0 m c n hn).2.2.2.2.2 (ix2 k q) = m ((c : Thread nD τ).loc main_arg1) (ix3 0 k Q) := by
  induction n using Nat.strong_induction_on with
  | _ n ih =>
    intro hn
    by_cases h4 : n % 4 = 0
    · exact ⟨fun k q Q hQ => (congrFun (wtGA m c ⟨n, hn⟩ (by show n % 2 = 0; omega) (by show ¬n % 2 = 1; omega) (by show n % 2 = 0; omega) (by show ¬n % 2 = 1; omega) h4) _).trans (wg_at m c ⟨n, hn⟩ k q Q hQ),
        fun k q Q hQ => (congrFun (wtUA m c ⟨n, hn⟩ (by show n % 2 = 0; omega) (by show ¬n % 2 = 1; omega) (by show n % 2 = 0; omega) (by show ¬n % 2 = 1; omega) h4) _).trans (wu_at m c ⟨n, hn⟩ k q Q hQ)⟩
    · have p := ih (n - 1) (by omega) (Nat.lt_of_le_of_lt (Nat.sub_le _ _) hn)
      by_cases h2 : n % 2 = 0
      · exact ⟨fun k q Q hQ => (congrFun (wtGC m c ⟨n, hn⟩ h2 (by show ¬n % 2 = 1; omega) h2 (by show ¬n % 2 = 1; omega) h4) _).trans (p.1 k q Q (by omega)),
          fun k q Q hQ => (congrFun (wtUC m c ⟨n, hn⟩ h2 (by show ¬n % 2 = 1; omega) h2 (by show ¬n % 2 = 1; omega) h4) _).trans (p.2 k q Q (by omega))⟩
      · exact ⟨fun k q Q hQ => (congrFun (wtGB m c ⟨n, hn⟩ h2 (by show n % 2 = 1; omega) h2 (by show n % 2 = 1; omega) h4) _).trans (p.1 k q Q (by omega)),
          fun k q Q hQ => (congrFun (wtUB m c ⟨n, hn⟩ h2 (by show n % 2 = 1; omega) h2 (by show n % 2 = 1; omega) h4) _).trans (p.2 k q Q (by omega))⟩

/-- The weights of the grid point before serve the same column block. -/
theorem wts_prev (c : Dev nD) (t : Fin cfg0.N) (h4 : ¬t.val % 4 = 0) :
    (∀ (k : Fin 2048) (q : Fin 512) (Q : Fin 11264), Q.val = t.val / 4 * 512 + q.val → (outsAt0 m c (t.val - 1) (Nat.lt_of_le_of_lt (Nat.sub_le _ _) t.isLt)).2.2.2.2.1 (ix2 k q) = m ((c : Thread nD τ).loc main_arg1) (ix3 0 k Q))
    ∧ ∀ (k : Fin 2048) (q : Fin 512) (Q : Fin 11264), Q.val = 5632 + t.val / 4 * 512 + q.val → (outsAt0 m c (t.val - 1) (Nat.lt_of_le_of_lt (Nat.sub_le _ _) t.isLt)).2.2.2.2.2 (ix2 k q) = m ((c : Thread nD τ).loc main_arg1) (ix3 0 k Q) :=
  ⟨fun k q Q hQ => (wts m c (t.val - 1) _).1 k q Q (by omega), fun k q Q hQ => (wts m c (t.val - 1) _).2 k q Q (by omega)⟩

/-- The gate's scratch after a grid point, past its halo. -/
theorem rowsG (c : Dev nD) (t : Fin cfg0.N) (i : S2056x512.Idx) (r : Fin 2048) (q : Fin 512) (hr : (i 0).val = r.val + 8) (hq : (i 1).val = q.val)
    (R : Fin 8192) (Q : Fin 11264) (hR : R.val = t.val % 4 * 2048 + r.val) (hQ : Q.val = t.val / 4 * 512 + q.val) :
    (outsAt0 m c t.val t.isLt).2.2.1 i = hrow (m ((c : Thread nD τ).loc main_arg0)) (m ((c : Thread nD τ).loc main_arg1)) R Q := by
  by_cases h4 : t.val % 4 = 0
  · exact (congrFun (scGA m c t (by omega) (by omega) (by omega) (by omega) h4) i).trans
      (row_hist _ _ _ _ _ (t.val % 4) (t.val / 4 * 512) (x_at m c t) (wg_at m c t) i r q hr hq R Q hR hQ)
  · have p := (wts_prev m c t h4).1
    by_cases h2 : t.val % 2 = 0
    · exact (congrFun (scGC m c t h2 (by omega) h2 (by omega) h4) i).trans
        (row_hist _ _ _ _ _ (t.val % 4) (t.val / 4 * 512) (x_at m c t) p i r q hr hq R Q hR hQ)
    · exact (congrFun (scGB m c t h2 (by omega) h2 (by omega) h4) i).trans
        (row_hist _ _ _ _ _ (t.val % 4) (t.val / 4 * 512) (x_at m c t) p i r q hr hq R Q hR hQ)

/-- The halo an odd row tile carries over from the tile before. -/
theorem haloG (c : Dev nD) (t : Fin cfg0.N) (h2 : ¬t.val % 2 = 0) (r : Fin 8) (q : Fin 512) (R : Fin 8192) (Q : Fin 11264)
    (hR : R.val + 8 = t.val % 4 * 2048 + r.val) (hQ : Q.val = t.val / 4 * 512 + q.val) :
    k0_pay4 (View.ld (outsAt0 m c (t.val - 1) (Nat.lt_of_le_of_lt (Nat.sub_le _ _) t.isLt)).2.2.1 (Rect.unit ![2048, 0] ![8, 512] inb_S2056x512_S8x512_2048_0)) (ix2 r q) = hrow (m ((c : Thread nD τ).loc main_arg0)) (m ((c : Thread nD τ).loc main_arg1)) R Q := by
  have hr := r.isLt
  refine (hg_at _ r q ⟨2048 + r.val, by omega⟩ rfl).trans ?_
  exact rowsG m c ⟨t.val - 1, Nat.lt_of_le_of_lt (Nat.sub_le _ _) t.isLt⟩ _ ⟨2040 + r.val, by omega⟩ q (by show 2048 + r.val = 2040 + r.val + 8; omega) rfl R Q
    (by show R.val = (t.val - 1) % 4 * 2048 + (2040 + r.val); omega) (by show Q.val = (t.val - 1) / 4 * 512 + q.val; omega)

/-- The other half's scratch after a grid point, past its halo. -/
theorem rowsU (c : Dev nD) (t : Fin cfg0.N) (i : S2056x512.Idx) (r : Fin 2048) (q : Fin 512) (hr : (i 0).val = r.val + 8) (hq : (i 1).val = q.val)
    (R : Fin 8192) (Q : Fin 11264) (hR : R.val = t.val % 4 * 2048 + r.val) (hQ : Q.val = 5632 + t.val / 4 * 512 + q.val) :
    (outsAt0 m c t.val t.isLt).2.2.2.1 i = hrow (m ((c : Thread nD τ).loc main_arg0)) (m ((c : Thread nD τ).loc main_arg1)) R Q := by
  by_cases h4 : t.val % 4 = 0
  · exact (congrFun (scUA m c t (by omega) (by omega) (by omega) (by omega) h4) i).trans
      (row_hist _ _ _ _ _ (t.val % 4) (5632 + t.val / 4 * 512) (x_at m c t) (wu_at m c t) i r q hr hq R Q hR hQ)
  · have p := (wts_prev m c t h4).2
    by_cases h2 : t.val % 2 = 0
    · exact (congrFun (scUC m c t h2 (by omega) h2 (by omega) h4) i).trans
        (row_hist _ _ _ _ _ (t.val % 4) (5632 + t.val / 4 * 512) (x_at m c t) p i r q hr hq R Q hR hQ)
    · exact (congrFun (scUB m c t h2 (by omega) h2 (by omega) h4) i).trans
        (row_hist _ _ _ _ _ (t.val % 4) (5632 + t.val / 4 * 512) (x_at m c t) p i r q hr hq R Q hR hQ)

/-- The halo an odd row tile carries over from the tile before. -/
theorem haloU (c : Dev nD) (t : Fin cfg0.N) (h2 : ¬t.val % 2 = 0) (r : Fin 8) (q : Fin 512) (R : Fin 8192) (Q : Fin 11264)
    (hR : R.val + 8 = t.val % 4 * 2048 + r.val) (hQ : Q.val = 5632 + t.val / 4 * 512 + q.val) :
    k0_pay6 (View.ld (outsAt0 m c (t.val - 1) (Nat.lt_of_le_of_lt (Nat.sub_le _ _) t.isLt)).2.2.2.1 (Rect.unit ![2048, 0] ![8, 512] inb_S2056x512_S8x512_2048_0)) (ix2 r q) = hrow (m ((c : Thread nD τ).loc main_arg0)) (m ((c : Thread nD τ).loc main_arg1)) R Q := by
  have hr := r.isLt
  refine (hu_at _ r q ⟨2048 + r.val, by omega⟩ rfl).trans ?_
  exact rowsU m c ⟨t.val - 1, Nat.lt_of_le_of_lt (Nat.sub_le _ _) t.isLt⟩ _ ⟨2040 + r.val, by omega⟩ q (by show 2048 + r.val = 2040 + r.val + 8; omega) rfl R Q
    (by show R.val = (t.val - 1) % 4 * 2048 + (2040 + r.val); omega) (by show Q.val = 5632 + (t.val - 1) / 4 * 512 + q.val; omega)

/-- A grid point's result block, at an element. -/
theorem out_at_point (c : Dev nD) (t : Fin cfg0.N) (y : S2048x512.Idx) (R : Fin 8192) (G U : Fin 11264) (hR : R.val = t.val % 4 * 2048 + (y 0).val)
    (hG : G.val = t.val / 4 * 512 + (y 1).val) (hU : U.val = 5632 + t.val / 4 * 512 + (y 1).val) :
    (outsAt0 m c t.val t.isLt).1 y = act (convAt (m ((c : Thread nD τ).loc main_arg0)) (m ((c : Thread nD τ).loc main_arg1)) (m ((c : Thread nD τ).loc main_arg2)) (m ((c : Thread nD τ).loc main_arg3)) R G) (convAt (m ((c : Thread nD τ).loc main_arg0)) (m ((c : Thread nD τ).loc main_arg1)) (m ((c : Thread nD τ).loc main_arg2)) (m ((c : Thread nD τ).loc main_arg3)) R U) := by
  by_cases h4 : t.val % 4 = 0
  · exact (outA m c t (by omega) (by omega) (by omega) (by omega) h4 y).trans (congrArg₂ act
      (conv_hist (m ((c : Thread nD τ).loc main_arg0)) (m ((c : Thread nD τ).loc main_arg1)) (m ((c : Thread nD τ).loc main_arg2)) (m ((c : Thread nD τ).loc main_arg3)) _ _ _ _ _ (t.val % 4) (t.val / 4 * 512) (x_at m c t) (wg_at m c t) (fun _ r q => zg_at _) (fun h => absurd h (by omega)) (cg_at m c t) (bg_at m c t) (y 0) (y 1) R G hR hG)
      (conv_hist (m ((c : Thread nD τ).loc main_arg0)) (m ((c : Thread nD τ).loc main_arg1)) (m ((c : Thread nD τ).loc main_arg2)) (m ((c : Thread nD τ).loc main_arg3)) _ _ _ _ _ (t.val % 4) (5632 + t.val / 4 * 512) (x_at m c t) (wu_at m c t) (fun _ r q => zu_at _) (fun h => absurd h (by omega)) (cu_at m c t) (bu_at m c t) (y 0) (y 1) R U hR hU))
  by_cases h2 : t.val % 2 = 0
  · exact (outC m c t h2 (by omega) h2 (by omega) h4 y).trans (congrArg₂ act
      (conv_hist (m ((c : Thread nD τ).loc main_arg0)) (m ((c : Thread nD τ).loc main_arg1)) (m ((c : Thread nD τ).loc main_arg2)) (m ((c : Thread nD τ).loc main_arg3)) _ _ _ _ _ (t.val % 4) (t.val / 4 * 512) (x_at m c t) (wts_prev m c t h4).1 (fun _ r q => zg_at _) (fun h => absurd h (by omega)) (cg_at m c t) (bg_at m c t) (y 0) (y 1) R G hR hG)
      (conv_hist (m ((c : Thread nD τ).loc main_arg0)) (m ((c : Thread nD τ).loc main_arg1)) (m ((c : Thread nD τ).loc main_arg2)) (m ((c : Thread nD τ).loc main_arg3)) _ _ _ _ _ (t.val % 4) (5632 + t.val / 4 * 512) (x_at m c t) (wts_prev m c t h4).2 (fun _ r q => zu_at _) (fun h => absurd h (by omega)) (cu_at m c t) (bu_at m c t) (y 0) (y 1) R U hR hU))
  · exact (outB m c t h2 (by omega) h2 (by omega) h4 y).trans (congrArg₂ act
      (conv_hist (m ((c : Thread nD τ).loc main_arg0)) (m ((c : Thread nD τ).loc main_arg1)) (m ((c : Thread nD τ).loc main_arg2)) (m ((c : Thread nD τ).loc main_arg3)) _ _ _ _ _ (t.val % 4) (t.val / 4 * 512) (x_at m c t) (wts_prev m c t h4).1 (fun h => absurd h (by omega)) (fun _ => haloG m c t h2) (cg_at m c t) (bg_at m c t) (y 0) (y 1) R G hR hG)
      (conv_hist (m ((c : Thread nD τ).loc main_arg0)) (m ((c : Thread nD τ).loc main_arg1)) (m ((c : Thread nD τ).loc main_arg2)) (m ((c : Thread nD τ).loc main_arg3)) _ _ _ _ _ (t.val % 4) (5632 + t.val / 4 * 512) (x_at m c t) (wts_prev m c t h4).2 (fun h => absurd h (by omega)) (fun _ => haloU m c t h2) (cu_at m c t) (bu_at m c t) (y 0) (y 1) R U hR hU))

set_option maxHeartbeats 1000000 in
/-- The result array of window 8 is the reference's first result. -/
theorem final8 (c : Dev nD) : (dats m 0 c).arrAt 8 (cfgs 0).N = main_v44_of (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  have ht : t.val < 44 := (idx t).2.2.2.2.2.2.2.2.2.2
  have y0 : (y 0).val < 2048 := (y 0).isLt
  have y1 : (y 1).val < 512 := (y 1).isLt
  have e0 : (((win0_8.blk t).view.emb y) 0).val = t.val % 4 * 2048 + (y 0).val := by blk_simp [idx t]
  have e1 : (((win0_8.blk t).view.emb y) 1).val = t.val / 4 * 512 + (y 1).val := by blk_simp [idx t]
  refine (out_at_point m c t y (((win0_8.blk t).view.emb y) 0) ⟨t.val / 4 * 512 + (y 1).val, by omega⟩ ⟨5632 + t.val / 4 * 512 + (y 1).val, by omega⟩ e0 rfl rfl).trans ?_
  exact (Cert.Reference5Ideal.FfnUp.out_at (m ((c : Thread nD τ).loc main_arg0)) (m ((c : Thread nD τ).loc main_arg1)) (m ((c : Thread nD τ).loc main_arg2)) (m ((c : Thread nD τ).loc main_arg3)) ((win0_8.blk t).view.emb y) _ _ e1.symm
    (by show 5632 + t.val / 4 * 512 + (y 1).val = 5632 + (((win0_8.blk t).view.emb y) 1).val; omega)).symm

/-- The rounded block of the last weights. -/
theorem wd_at (c : Dev nD) (t : Fin cfg0.N) : (outsAt0 m c t.val t.isLt).2.1 = k0_pay2 (iblk m c 7 t) := by
  by_cases h4 : t.val % 4 = 0
  · rw [outsAt0_A m c t (by omega) (by omega) (by omega) (by omega) h4]
    dsimp only
    frame_out
  by_cases h2 : t.val % 2 = 0
  · rw [outsAt0_C m c t h2 (by omega) h2 (by omega) h4]
    dsimp only
    frame_out
  · rw [outsAt0_B m c t h2 (by omega) h2 (by omega) h4]
    dsimp only
    frame_out

set_option maxHeartbeats 1000000 in
/-- The result array of window 9 is the reference's second result. -/
theorem final9 (c : Dev nD) : (dats m 0 c).arrAt 9 (cfgs 0).N = main_v46_of (m ((c : Thread nD τ).loc main_arg4)) := by
  refine (dats m 0 c).arrAt_eq_of_covers 9 _ (by decide +kernel) fun t hf y => ?_
  blk_simp
  rw [after0_9]
  rw [wd_at m c t]
  unfold main_v46_of
  pointwise [k0_pay2]
  blk_point [iblk, V, idx t]

/-- Over the reals the kernel and the reference end with the same results. -/
theorem algebraic : Cert.algebraic_Kernel5Ideal_Reference5Ideal := by
  pair_intro
  · run_from Cert.Kernel5Ideal.Value.run_blocks m g
  · run_from Cert.Reference5Ideal.FfnUp.run_of m' g'
    · exact (final8 m c).symm
    · exact (final9 m c).symm

end Cert.Kernel5Ideal.FfnUp
end
-- ==== Proof.InprojRef.lean ====
/-
  The reference's results as functions of its arguments.
-/
module

public import proofs.«01_k».proof.Proof.Gen.Reference6Ideal.Run
public import Idealize.ShloMosaic.Lib.Pipeline.ValueKit

@[expose] public section

noncomputable section

namespace Cert.Reference6Ideal.Inproj

open Cert.Reference6Ideal Cert.Reference6Ideal.Gen Idealize.ShloMosaic

/-- What the reference computes as its result `main_v19`, as a function of its arguments. -/
def main_v19_of (x : FVec Ideal S8192x2048 .f32) (g : FVec Ideal S1x2048 .f32) (w : FVec Ideal S1x2048x8448 .f32) : FVec Ideal S8192x2048 .bf16 :=
  truncf .bf16 (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 (shapeCast _ g shapeCasts_S1x2048_S2048)))) bitsLt_bf16_f32

/-- What the reference computes as its result `main_v20`, as a function of its arguments. -/
def main_v20_of (x : FVec Ideal S8192x2048 .f32) (g : FVec Ideal S1x2048 .f32) (w : FVec Ideal S1x2048x8448 .f32) : FVec Ideal S8192x4352 .bf16 :=
  truncf .bf16 (Host.dotGeneral dot_S8192x2048_S2048x4352_S8192x4352_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 (shapeCast _ g shapeCasts_S1x2048_S2048)))) (extractStridedSlice S2048x4352 ![0, 0] (shapeCast _ w shapeCasts_S1x2048x8448_S2048x8448) slices_S2048x8448_S2048x4352_0_0)) bitsLt_bf16_f32

/-- What the reference computes as its result `main_v22`, as a function of its arguments. -/
def main_v22_of (x : FVec Ideal S8192x2048 .f32) (g : FVec Ideal S1x2048 .f32) (w : FVec Ideal S1x2048x8448 .f32) : FVec Ideal S2x16x1024x256 .bf16 :=
  truncf .bf16 (transpose S2x16x1024x256 [0, 1, 3, 2] (shapeCast _ (extractStridedSlice S8192x1024 ![0, 2048] (Host.dotGeneral dot_S8192x2048_S2048x4352_S8192x4352_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 (shapeCast _ g shapeCasts_S1x2048_S2048)))) (extractStridedSlice S2048x4352 ![0, 0] (shapeCast _ w shapeCasts_S1x2048x8448_S2048x8448) slices_S2048x8448_S2048x4352_0_0)) slices_S8192x4352_S8192x1024_0_2048) shapeCasts_S8192x1024_S2x16x256x1024) transposes_S2x16x256x1024_S2x16x1024x256_0_1_3_2) bitsLt_bf16_f32

end Cert.Reference6Ideal.Inproj
end
-- ==== Proof.Inproj.lean ====
/-
  Inproj: the frames, and the results over the reals.
-/
module

public import proofs.«01_k».proof.Defs
public import proofs.«01_k».proof.Proof.Gen.Kernel6
public import proofs.«01_k».proof.Proof.Gen.Kernel6Ideal.Value
public import proofs.«01_k».proof.Proof.InprojRef
public import Idealize.ShloMosaic.Lib.Pipeline.ValueKit
public import proofs.«01_k».proof.Proof.SameRun
public import Idealize.ShloMosaic.Lib.Claim
public import Idealize.ShloMosaic.Lib.Quiescent

@[expose] public section

set_option maxRecDepth 16384

noncomputable section

namespace Cert.Kernel6Ideal.Inproj

open Cert.Kernel6Ideal Cert.Kernel6Ideal.Gen
open Idealize.ShloMosaic Idealize.ShloMosaic.TcCoe Idealize.ShloMosaic.Tactic Idealize.SL.Sem
open Idealize.ShloMosaic.Pipeline (Dat)

/-- The idealized kernel's frame. -/
theorem frame_ideal : Cert.quiescent_Kernel6Ideal := fun m ρ _ => Cert.Kernel6Ideal.Gen.frame m ρ

/-- The two programs' labels run the same body. -/
theorem labels_eq : Cert.Kernel6.defs₀ (F := Bits) = Cert.Kernel6Ideal.defs₀ (F := Bits) := by
  unfold Cert.Kernel6.defs₀ Cert.Kernel6Ideal.defs₀
  refine congrArg Defs.onTc (funext fun ℓ => ?_)
  match ℓ with
  | 0 => exact funext fun ⟨t, s⟩ => rfl

/-- So the two tables are the same. -/
theorem defs_eq : Cert.Kernel6.defs (F := Bits) = Cert.Kernel6Ideal.defs (F := Bits) :=
  congrArg (Pipeline.defs Cert.Kernel6Ideal.pcfgs) labels_eq

/-- The kernel's frame: the same run, over words. -/
theorem frame_kernel : Cert.quiescent_Kernel6 := fun m ρ _ =>
  Cert.SameRun.of_eq defs_eq _ (Cert.Kernel6Ideal.Gen.frame (F := Bits) m ρ)

/-- The reference's frame. -/
theorem frame_reference : Cert.quiescent_Reference6Ideal := fun m ρ _ =>
  (θ_run Cert.Reference6Ideal.defs _ _).mono (fun r h => ⟨fun c => (h c).2.2.2, sem_eq_zero_of_no_sems rfl r.2⟩)
    (Cert.Reference6Ideal.Value.run (F := Ideal) m ρ)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val / 8, t.val % 8, 0, 0]
    ∧ t.val < 16 :=
  (by decide +kernel : ∀ t : Fin grid0.N, _)

set_option maxHeartbeats 1900000 in
/-- The result array of window 3 is the reference's result. -/
theorem final3 (c : Dev nD) : (dats m 0 c).arrAt 3 (cfgs 0).N
    = Cert.Reference6Ideal.Inproj.main_v19_of (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  unfold Cert.Reference6Ideal.Inproj.main_v19_of
  pointwise [k0_pay1, k0_pay2, k0_pay3]
  blk_point [iblk, V, idx t]

set_option maxHeartbeats 1900000 in
/-- The result array of window 4 is the reference's result. -/
theorem final4 (c : Dev nD) : (dats m 0 c).arrAt 4 (cfgs 0).N
    = Cert.Reference6Ideal.Inproj.main_v20_of (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  unfold Cert.Reference6Ideal.Inproj.main_v20_of
  pointwise [k0_pay1, k0_pay2, k0_pay3]
  blk_point [iblk, V, idx t]

set_option maxHeartbeats 1900000 in
/-- One value of the projection, as the kernel computes it and as the reference lays it out. -/
theorem core (c : Dev nD) (t : Fin cfg0.N) (y : Shape.Idx S1x2x1024x256) (i : Shape.Idx S512x4352) (j : Shape.Idx S2x16x1024x256)
    (hi0 : (i 0).val = 256 * (y 1).val + (y 3).val) (hi1 : (i 1).val = 2048 + (y 2).val)
    (hj0 : (j 0).val = t.val / 8) (hj1 : (j 1).val = t.val % 8 * 2 + (y 1).val) (hj2 : (j 2).val = (y 2).val) (hj3 : (j 3).val = (y 3).val) :
    k0_pay2 (F := Ideal) (iblk m c 0 t) (iblk m c 1 t) (iblk m c 2 t) i
      = Cert.Reference6Ideal.Inproj.main_v22_of (m ((c : Thread nD τ).loc main_arg0)) (m ((c : Thread nD τ).loc main_arg1)) (m ((c : Thread nD τ).loc main_arg2)) j := by
  unfold Cert.Reference6Ideal.Inproj.main_v22_of
  pointwise [k0_pay1, k0_pay2]
  blk_point [iblk, V, idx t]

set_option maxHeartbeats 1900000 in
/-- The result array of window 5 is the reference's result. -/
theorem final5 (c : Dev nD) : (dats m 0 c).arrAt 5 (cfgs 0).N
    = Cert.Reference6Ideal.Inproj.main_v22_of (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  have y1 : (y 1).val < 2 := (y 1).isLt
  have y2 : (y 2).val < 1024 := (y 2).isLt
  have y3 : (y 3).val < 256 := (y 3).isLt
  obtain_idx i : S512x4352 := [256 * (y 1 : ℕ) + (y 3 : ℕ), 2048 + (y 2 : ℕ)] with hi
  refine Eq.trans (b := k0_pay2 (F := Ideal) (iblk m c 0 t) (iblk m c 1 t) (iblk m c 2 t) i) ?_ (core m c t y i _ hi0 hi1 ?_ ?_ ?_ ?_)
  · clear y1 y2 y3
    frame_out
    canon_tiles x h
    all_goals (open_payloads; pointwise; blk_ext)
  all_goals (blk_simp [idx t] <;> try omega)

/-- Over the reals the kernel and the reference end with the same results. -/
theorem algebraic : Cert.algebraic_Kernel6Ideal_Reference6Ideal := by
  pair_intro
  · run_from Cert.Kernel6Ideal.Value.run_blocks m g
  · run_from Cert.Reference6Ideal.Value.run m' g'
    · exact (final3 m c).symm
    · exact (final4 m c).symm
    · exact (final5 m c).symm

end Cert.Kernel6Ideal.Inproj
end
-- ==== Proof.lean ====
/-
  The proof of `Cert.Claim`: for each of the six calls the frames, the idealization, and the
  equality over the reals, from the modules under Proof/.
-/
module

public import proofs.«01_k».proof.Defs
public import proofs.«01_k».proof.Proof.Frames
public import proofs.«01_k».proof.Proof.Algebraic
public import proofs.«01_k».proof.Proof.Down
public import proofs.«01_k».proof.Proof.Mix
public import proofs.«01_k».proof.Proof.Oproj
public import proofs.«01_k».proof.Proof.FfnUpFrames
public import proofs.«01_k».proof.Proof.FfnUp
public import proofs.«01_k».proof.Proof.Inproj

@[expose] public section

/-- The certificate's claim. -/
theorem Cert.Proof.claim : Cert.Claim := by
  refine ⟨inferInstance, inferInstance, inferInstance, inferInstance, inferInstance, inferInstance, inferInstance, inferInstance, inferInstance, inferInstance, inferInstance, inferInstance, inferInstance, inferInstance, inferInstance, inferInstance, inferInstance, inferInstance,
    Cert.Frames.quiescent_Kernel, Cert.Frames.quiescent_KernelIdeal, Cert.Frames.quiescent_ReferenceIdeal,
    Cert.Kernel2Ideal.Down.frame_kernel, Cert.Kernel2Ideal.Down.frame_ideal, Cert.Kernel2Ideal.Down.frame_reference,
    Cert.Kernel3Ideal.Mix.frame_kernel, Cert.Kernel3Ideal.Mix.frame_ideal, Cert.Kernel3Ideal.Mix.frame_reference,
    Cert.Kernel4Ideal.Oproj.frame_kernel, Cert.Kernel4Ideal.Oproj.frame_ideal, Cert.Kernel4Ideal.Oproj.frame_reference,
    Cert.Kernel5Ideal.FfnUpFrames.frame_kernel, Cert.Kernel5Ideal.FfnUpFrames.frame_ideal, Cert.Kernel5Ideal.FfnUpFrames.frame_reference,
    Cert.Kernel6Ideal.Inproj.frame_kernel, Cert.Kernel6Ideal.Inproj.frame_ideal, Cert.Kernel6Ideal.Inproj.frame_reference,
    Cert.Frames.preserves, Cert.Equal.algebraic,
    trivial, Cert.Kernel2Ideal.Down.algebraic,
    trivial, Cert.Kernel3Ideal.Mix.algebraic,
    trivial, Cert.Kernel4Ideal.Oproj.algebraic,
    trivial, Cert.Kernel5Ideal.FfnUp.algebraic,
    trivial, Cert.Kernel6Ideal.Inproj.algebraic⟩

end
